-- ==== Defs.lean ====
def Pre_InMain (m : (ℓ : Loc Cert.InMain.nD Cert.InMain.τ Cert.InMain.sig) → Buf (Elt Bits) ℓ) : Prop :=
  True

def Pre_InMainIdeal (m : (ℓ : Loc Cert.InMainIdeal.nD Cert.InMainIdeal.τ Cert.InMainIdeal.sig) → Buf (Elt Ideal) ℓ) : Prop :=
  True

def Pre_InMainRefIdeal (m : (ℓ : Loc Cert.InMainRefIdeal.nD Cert.InMainRefIdeal.τ Cert.InMainRefIdeal.sig) → Buf (Elt Ideal) ℓ) : Prop :=
  True

def Pre_InGates (m : (ℓ : Loc Cert.InGates.nD Cert.InGates.τ Cert.InGates.sig) → Buf (Elt Bits) ℓ) : Prop :=
  True

def Pre_InGatesIdeal (m : (ℓ : Loc Cert.InGatesIdeal.nD Cert.InGatesIdeal.τ Cert.InGatesIdeal.sig) → Buf (Elt Ideal) ℓ) : Prop :=
  True

def Pre_InGatesRefIdeal (m : (ℓ : Loc Cert.InGatesRefIdeal.nD Cert.InGatesRefIdeal.τ Cert.InGatesRefIdeal.sig) → Buf (Elt Ideal) ℓ) : Prop :=
  True

def Pre_InDt (m : (ℓ : Loc Cert.InDt.nD Cert.InDt.τ Cert.InDt.sig) → Buf (Elt Bits) ℓ) : Prop :=
  True

def Pre_InDtIdeal (m : (ℓ : Loc Cert.InDtIdeal.nD Cert.InDtIdeal.τ Cert.InDtIdeal.sig) → Buf (Elt Ideal) ℓ) : Prop :=
  True

def Pre_InDtRefIdeal (m : (ℓ : Loc Cert.InDtRefIdeal.nD Cert.InDtRefIdeal.τ Cert.InDtRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_PoolSample (m : (ℓ : Loc Cert.PoolSample.nD Cert.PoolSample.τ Cert.PoolSample.sig) → Buf (Elt Bits) ℓ) : Prop :=
  True

def Pre_PoolSampleIdeal (m : (ℓ : Loc Cert.PoolSampleIdeal.nD Cert.PoolSampleIdeal.τ Cert.PoolSampleIdeal.sig) → Buf (Elt Ideal) ℓ) : Prop :=
  True

def Pre_PoolSampleRefIdeal (m : (ℓ : Loc Cert.PoolSampleRefIdeal.nD Cert.PoolSampleRefIdeal.τ Cert.PoolSampleRefIdeal.sig) → Buf (Elt Ideal) ℓ) : Prop :=
  True

def Pre_ConvSample (m : (ℓ : Loc Cert.ConvSample.nD Cert.ConvSample.τ Cert.ConvSample.sig) → Buf (Elt Bits) ℓ) : Prop :=
  True

def Pre_ConvSampleIdeal (m : (ℓ : Loc Cert.ConvSampleIdeal.nD Cert.ConvSampleIdeal.τ Cert.ConvSampleIdeal.sig) → Buf (Elt Ideal) ℓ) : Prop :=
  True

def Pre_ConvSampleRefIdeal (m : (ℓ : Loc Cert.ConvSampleRefIdeal.nD Cert.ConvSampleRefIdeal.τ Cert.ConvSampleRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnRefIdeal (m : (ℓ : Loc Cert.AttnRefIdeal.nD Cert.AttnRefIdeal.τ Cert.AttnRefIdeal.sig) → Buf (Elt Ideal) ℓ) : Prop :=
  True

def quiescent_InMain [hInMain : Cert.InMain.Facts] : Prop :=
  ∀ (m : (ℓ : Loc Cert.InMain.nD Cert.InMain.τ Cert.InMain.sig) → Buf (Elt Bits) ℓ) (g : Dev Cert.InMain.nD → PrngReg), Pre_InMain m →
    θ_run (Cert.InMain.defs (F := Bits)) (onTc (τ := Cert.InMain.τ) (Cert.InMain.main (F := Bits))) ⟨m, fun _ => 0, g⟩ (fun r => (∀ c : Dev Cert.InMain.nD,
      r.2.mem ((c.tc : Thread Cert.InMain.nD Cert.InMain.τ).loc Cert.InMain.main_arg0) = m ((c.tc : Thread Cert.InMain.nD Cert.InMain.τ).loc Cert.InMain.main_arg0)
      ∧ r.2.mem ((c.tc : Thread Cert.InMain.nD Cert.InMain.τ).loc Cert.InMain.main_arg1) = m ((c.tc : Thread Cert.InMain.nD Cert.InMain.τ).loc Cert.InMain.main_arg1))
      ∧ r.2.sem = fun _ => 0)

def quiescent_InMainIdeal [hInMainIdeal : Cert.InMainIdeal.Facts] : Prop :=
  ∀ (m : (ℓ : Loc Cert.InMainIdeal.nD Cert.InMainIdeal.τ Cert.InMainIdeal.sig) → Buf (Elt Ideal) ℓ) (g : Dev Cert.InMainIdeal.nD → PrngReg), Pre_InMainIdeal m →
    θ_run (Cert.InMainIdeal.defs (F := Ideal)) (onTc (τ := Cert.InMainIdeal.τ) (Cert.InMainIdeal.main (F := Ideal))) ⟨m, fun _ => 0, g⟩ (fun r => (∀ c : Dev Cert.InMainIdeal.nD,
      r.2.mem ((c.tc : Thread Cert.InMainIdeal.nD Cert.InMainIdeal.τ).loc Cert.InMainIdeal.main_arg0) = m ((c.tc : Thread Cert.InMainIdeal.nD Cert.InMainIdeal.τ).loc Cert.InMainIdeal.main_arg0)
      ∧ r.2.mem ((c.tc : Thread Cert.InMainIdeal.nD Cert.InMainIdeal.τ).loc Cert.InMainIdeal.main_arg1) = m ((c.tc : Thread Cert.InMainIdeal.nD Cert.InMainIdeal.τ).loc Cert.InMainIdeal.main_arg1))
      ∧ r.2.sem = fun _ => 0)

def quiescent_InMainRefIdeal [hInMainRefIdeal : Cert.InMainRefIdeal.Facts] : Prop :=
  ∀ (m : (ℓ : Loc Cert.InMainRefIdeal.nD Cert.InMainRefIdeal.τ Cert.InMainRefIdeal.sig) → Buf (Elt Ideal) ℓ) (g : Dev Cert.InMainRefIdeal.nD → PrngReg), Pre_InMainRefIdeal m →
    θ_run (Cert.InMainRefIdeal.defs (F := Ideal)) (onTc (τ := Cert.InMainRefIdeal.τ) (Cert.InMainRefIdeal.main (F := Ideal))) ⟨m, fun _ => 0, g⟩ (fun r => (∀ c : Dev Cert.InMainRefIdeal.nD,
      r.2.mem ((c.tc : Thread Cert.InMainRefIdeal.nD Cert.InMainRefIdeal.τ).loc Cert.InMainRefIdeal.main_arg0) = m ((c.tc : Thread Cert.InMainRefIdeal.nD Cert.InMainRefIdeal.τ).loc Cert.InMainRefIdeal.main_arg0)
      ∧ r.2.mem ((c.tc : Thread Cert.InMainRefIdeal.nD Cert.InMainRefIdeal.τ).loc Cert.InMainRefIdeal.main_arg1) = m ((c.tc : Thread Cert.InMainRefIdeal.nD Cert.InMainRefIdeal.τ).loc Cert.InMainRefIdeal.main_arg1))
      ∧ r.2.sem = fun _ => 0)

def quiescent_InGates [hInGates : Cert.InGates.Facts] : Prop :=
  ∀ (m : (ℓ : Loc Cert.InGates.nD Cert.InGates.τ Cert.InGates.sig) → Buf (Elt Bits) ℓ) (g : Dev Cert.InGates.nD → PrngReg), Pre_InGates m →
    θ_run (Cert.InGates.defs (F := Bits)) (onTc (τ := Cert.InGates.τ) (Cert.InGates.main (F := Bits))) ⟨m, fun _ => 0, g⟩ (fun r => (∀ c : Dev Cert.InGates.nD,
      r.2.mem ((c.tc : Thread Cert.InGates.nD Cert.InGates.τ).loc Cert.InGates.main_arg0) = m ((c.tc : Thread Cert.InGates.nD Cert.InGates.τ).loc Cert.InGates.main_arg0)
      ∧ r.2.mem ((c.tc : Thread Cert.InGates.nD Cert.InGates.τ).loc Cert.InGates.main_arg1) = m ((c.tc : Thread Cert.InGates.nD Cert.InGates.τ).loc Cert.InGates.main_arg1))
      ∧ r.2.sem = fun _ => 0)

def quiescent_InGatesIdeal [hInGatesIdeal : Cert.InGatesIdeal.Facts] : Prop :=
  ∀ (m : (ℓ : Loc Cert.InGatesIdeal.nD Cert.InGatesIdeal.τ Cert.InGatesIdeal.sig) → Buf (Elt Ideal) ℓ) (g : Dev Cert.InGatesIdeal.nD → PrngReg), Pre_InGatesIdeal m →
    θ_run (Cert.InGatesIdeal.defs (F := Ideal)) (onTc (τ := Cert.InGatesIdeal.τ) (Cert.InGatesIdeal.main (F := Ideal))) ⟨m, fun _ => 0, g⟩ (fun r => (∀ c : Dev Cert.InGatesIdeal.nD,
      r.2.mem ((c.tc : Thread Cert.InGatesIdeal.nD Cert.InGatesIdeal.τ).loc Cert.InGatesIdeal.main_arg0) = m ((c.tc : Thread Cert.InGatesIdeal.nD Cert.InGatesIdeal.τ).loc Cert.InGatesIdeal.main_arg0)
      ∧ r.2.mem ((c.tc : Thread Cert.InGatesIdeal.nD Cert.InGatesIdeal.τ).loc Cert.InGatesIdeal.main_arg1) = m ((c.tc : Thread Cert.InGatesIdeal.nD Cert.InGatesIdeal.τ).loc Cert.InGatesIdeal.main_arg1))
      ∧ r.2.sem = fun _ => 0)

def quiescent_InGatesRefIdeal [hInGatesRefIdeal : Cert.InGatesRefIdeal.Facts] : Prop :=
  ∀ (m : (ℓ : Loc Cert.InGatesRefIdeal.nD Cert.InGatesRefIdeal.τ Cert.InGatesRefIdeal.sig) → Buf (Elt Ideal) ℓ) (g : Dev Cert.InGatesRefIdeal.nD → PrngReg), Pre_InGatesRefIdeal m →
    θ_run (Cert.InGatesRefIdeal.defs (F := Ideal)) (onTc (τ := Cert.InGatesRefIdeal.τ) (Cert.InGatesRefIdeal.main (F := Ideal))) ⟨m, fun _ => 0, g⟩ (fun r => (∀ c : Dev Cert.InGatesRefIdeal.nD,
      r.2.mem ((c.tc : Thread Cert.InGatesRefIdeal.nD Cert.InGatesRefIdeal.τ).loc Cert.InGatesRefIdeal.main_arg0) = m ((c.tc : Thread Cert.InGatesRefIdeal.nD Cert.InGatesRefIdeal.τ).loc Cert.InGatesRefIdeal.main_arg0)
      ∧ r.2.mem ((c.tc : Thread Cert.InGatesRefIdeal.nD Cert.InGatesRefIdeal.τ).loc Cert.InGatesRefIdeal.main_arg1) = m ((c.tc : Thread Cert.InGatesRefIdeal.nD Cert.InGatesRefIdeal.τ).loc Cert.InGatesRefIdeal.main_arg1))
      ∧ r.2.sem = fun _ => 0)

def quiescent_InDt [hInDt : Cert.InDt.Facts] : Prop :=
  ∀ (m : (ℓ : Loc Cert.InDt.nD Cert.InDt.τ Cert.InDt.sig) → Buf (Elt Bits) ℓ) (g : Dev Cert.InDt.nD → PrngReg), Pre_InDt m →
    θ_run (Cert.InDt.defs (F := Bits)) (onTc (τ := Cert.InDt.τ) (Cert.InDt.main (F := Bits))) ⟨m, fun _ => 0, g⟩ (fun r => (∀ c : Dev Cert.InDt.nD,
      r.2.mem ((c.tc : Thread Cert.InDt.nD Cert.InDt.τ).loc Cert.InDt.main_arg0) = m ((c.tc : Thread Cert.InDt.nD Cert.InDt.τ).loc Cert.InDt.main_arg0)
      ∧ r.2.mem ((c.tc : Thread Cert.InDt.nD Cert.InDt.τ).loc Cert.InDt.main_arg1) = m ((c.tc : Thread Cert.InDt.nD Cert.InDt.τ).loc Cert.InDt.main_arg1))
      ∧ r.2.sem = fun _ => 0)

def quiescent_InDtIdeal [hInDtIdeal : Cert.InDtIdeal.Facts] : Prop :=
  ∀ (m : (ℓ : Loc Cert.InDtIdeal.nD Cert.InDtIdeal.τ Cert.InDtIdeal.sig) → Buf (Elt Ideal) ℓ) (g : Dev Cert.InDtIdeal.nD → PrngReg), Pre_InDtIdeal m →
    θ_run (Cert.InDtIdeal.defs (F := Ideal)) (onTc (τ := Cert.InDtIdeal.τ) (Cert.InDtIdeal.main (F := Ideal))) ⟨m, fun _ => 0, g⟩ (fun r => (∀ c : Dev Cert.InDtIdeal.nD,
      r.2.mem ((c.tc : Thread Cert.InDtIdeal.nD Cert.InDtIdeal.τ).loc Cert.InDtIdeal.main_arg0) = m ((c.tc : Thread Cert.InDtIdeal.nD Cert.InDtIdeal.τ).loc Cert.InDtIdeal.main_arg0)
      ∧ r.2.mem ((c.tc : Thread Cert.InDtIdeal.nD Cert.InDtIdeal.τ).loc Cert.InDtIdeal.main_arg1) = m ((c.tc : Thread Cert.InDtIdeal.nD Cert.InDtIdeal.τ).loc Cert.InDtIdeal.main_arg1))
      ∧ r.2.sem = fun _ => 0)

def quiescent_InDtRefIdeal [hInDtRefIdeal : Cert.InDtRefIdeal.Facts] : Prop :=
  ∀ (m : (ℓ : Loc Cert.InDtRefIdeal.nD Cert.InDtRefIdeal.τ Cert.InDtRefIdeal.sig) → Buf (Elt Ideal) ℓ) (g : Dev Cert.InDtRefIdeal.nD → PrngReg), Pre_InDtRefIdeal m →
    θ_run (Cert.InDtRefIdeal.defs (F := Ideal)) (onTc (τ := Cert.InDtRefIdeal.τ) (Cert.InDtRefIdeal.main (F := Ideal))) ⟨m, fun _ => 0, g⟩ (fun r => (∀ c : Dev Cert.InDtRefIdeal.nD,
      r.2.mem ((c.tc : Thread Cert.InDtRefIdeal.nD Cert.InDtRefIdeal.τ).loc Cert.InDtRefIdeal.main_arg0) = m ((c.tc : Thread Cert.InDtRefIdeal.nD Cert.InDtRefIdeal.τ).loc Cert.InDtRefIdeal.main_arg0)
      ∧ r.2.mem ((c.tc : Thread Cert.InDtRefIdeal.nD Cert.InDtRefIdeal.τ).loc Cert.InDtRefIdeal.main_arg1) = m ((c.tc : Thread Cert.InDtRefIdeal.nD Cert.InDtRefIdeal.τ).loc Cert.InDtRefIdeal.main_arg1))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_PoolSample [hPoolSample : Cert.PoolSample.Facts] : Prop :=
  ∀ (m : (ℓ : Loc Cert.PoolSample.nD Cert.PoolSample.τ Cert.PoolSample.sig) → Buf (Elt Bits) ℓ) (g : Dev Cert.PoolSample.nD → PrngReg), Pre_PoolSample m →
    θ_run (Cert.PoolSample.defs (F := Bits)) (onTc (τ := Cert.PoolSample.τ) (Cert.PoolSample.main (F := Bits))) ⟨m, fun _ => 0, g⟩ (fun r => (∀ c : Dev Cert.PoolSample.nD,
      r.2.mem ((c.tc : Thread Cert.PoolSample.nD Cert.PoolSample.τ).loc Cert.PoolSample.main_arg0) = m ((c.tc : Thread Cert.PoolSample.nD Cert.PoolSample.τ).loc Cert.PoolSample.main_arg0)
      ∧ r.2.mem ((c.tc : Thread Cert.PoolSample.nD Cert.PoolSample.τ).loc Cert.PoolSample.main_arg1) = m ((c.tc : Thread Cert.PoolSample.nD Cert.PoolSample.τ).loc Cert.PoolSample.main_arg1)
      ∧ r.2.mem ((c.tc : Thread Cert.PoolSample.nD Cert.PoolSample.τ).loc Cert.PoolSample.main_arg2) = m ((c.tc : Thread Cert.PoolSample.nD Cert.PoolSample.τ).loc Cert.PoolSample.main_arg2)
      ∧ r.2.mem ((c.tc : Thread Cert.PoolSample.nD Cert.PoolSample.τ).loc Cert.PoolSample.main_arg3) = m ((c.tc : Thread Cert.PoolSample.nD Cert.PoolSample.τ).loc Cert.PoolSample.main_arg3)
      ∧ r.2.mem ((c.tc : Thread Cert.PoolSample.nD Cert.PoolSample.τ).loc Cert.PoolSample.main_arg4) = m ((c.tc : Thread Cert.PoolSample.nD Cert.PoolSample.τ).loc Cert.PoolSample.main_arg4)
      ∧ r.2.mem ((c.tc : Thread Cert.PoolSample.nD Cert.PoolSample.τ).loc Cert.PoolSample.main_arg5) = m ((c.tc : Thread Cert.PoolSample.nD Cert.PoolSample.τ).loc Cert.PoolSample.main_arg5))
      ∧ r.2.sem = fun _ => 0)

def quiescent_PoolSampleIdeal [hPoolSampleIdeal : Cert.PoolSampleIdeal.Facts] : Prop :=
  ∀ (m : (ℓ : Loc Cert.PoolSampleIdeal.nD Cert.PoolSampleIdeal.τ Cert.PoolSampleIdeal.sig) → Buf (Elt Ideal) ℓ) (g : Dev Cert.PoolSampleIdeal.nD → PrngReg), Pre_PoolSampleIdeal m →
    θ_run (Cert.PoolSampleIdeal.defs (F := Ideal)) (onTc (τ := Cert.PoolSampleIdeal.τ) (Cert.PoolSampleIdeal.main (F := Ideal))) ⟨m, fun _ => 0, g⟩ (fun r => (∀ c : Dev Cert.PoolSampleIdeal.nD,
      r.2.mem ((c.tc : Thread Cert.PoolSampleIdeal.nD Cert.PoolSampleIdeal.τ).loc Cert.PoolSampleIdeal.main_arg0) = m ((c.tc : Thread Cert.PoolSampleIdeal.nD Cert.PoolSampleIdeal.τ).loc Cert.PoolSampleIdeal.main_arg0)
      ∧ r.2.mem ((c.tc : Thread Cert.PoolSampleIdeal.nD Cert.PoolSampleIdeal.τ).loc Cert.PoolSampleIdeal.main_arg1) = m ((c.tc : Thread Cert.PoolSampleIdeal.nD Cert.PoolSampleIdeal.τ).loc Cert.PoolSampleIdeal.main_arg1)
      ∧ r.2.mem ((c.tc : Thread Cert.PoolSampleIdeal.nD Cert.PoolSampleIdeal.τ).loc Cert.PoolSampleIdeal.main_arg2) = m ((c.tc : Thread Cert.PoolSampleIdeal.nD Cert.PoolSampleIdeal.τ).loc Cert.PoolSampleIdeal.main_arg2)
      ∧ r.2.mem ((c.tc : Thread Cert.PoolSampleIdeal.nD Cert.PoolSampleIdeal.τ).loc Cert.PoolSampleIdeal.main_arg3) = m ((c.tc : Thread Cert.PoolSampleIdeal.nD Cert.PoolSampleIdeal.τ).loc Cert.PoolSampleIdeal.main_arg3)
      ∧ r.2.mem ((c.tc : Thread Cert.PoolSampleIdeal.nD Cert.PoolSampleIdeal.τ).loc Cert.PoolSampleIdeal.main_arg4) = m ((c.tc : Thread Cert.PoolSampleIdeal.nD Cert.PoolSampleIdeal.τ).loc Cert.PoolSampleIdeal.main_arg4)
      ∧ r.2.mem ((c.tc : Thread Cert.PoolSampleIdeal.nD Cert.PoolSampleIdeal.τ).loc Cert.PoolSampleIdeal.main_arg5) = m ((c.tc : Thread Cert.PoolSampleIdeal.nD Cert.PoolSampleIdeal.τ).loc Cert.PoolSampleIdeal.main_arg5))
      ∧ r.2.sem = fun _ => 0)

def quiescent_PoolSampleRefIdeal [hPoolSampleRefIdeal : Cert.PoolSampleRefIdeal.Facts] : Prop :=
  ∀ (m : (ℓ : Loc Cert.PoolSampleRefIdeal.nD Cert.PoolSampleRefIdeal.τ Cert.PoolSampleRefIdeal.sig) → Buf (Elt Ideal) ℓ) (g : Dev Cert.PoolSampleRefIdeal.nD → PrngReg), Pre_PoolSampleRefIdeal m →
    θ_run (Cert.PoolSampleRefIdeal.defs (F := Ideal)) (onTc (τ := Cert.PoolSampleRefIdeal.τ) (Cert.PoolSampleRefIdeal.main (F := Ideal))) ⟨m, fun _ => 0, g⟩ (fun r => (∀ c : Dev Cert.PoolSampleRefIdeal.nD,
      r.2.mem ((c.tc : Thread Cert.PoolSampleRefIdeal.nD Cert.PoolSampleRefIdeal.τ).loc Cert.PoolSampleRefIdeal.main_arg0) = m ((c.tc : Thread Cert.PoolSampleRefIdeal.nD Cert.PoolSampleRefIdeal.τ).loc Cert.PoolSampleRefIdeal.main_arg0)
      ∧ r.2.mem ((c.tc : Thread Cert.PoolSampleRefIdeal.nD Cert.PoolSampleRefIdeal.τ).loc Cert.PoolSampleRefIdeal.main_arg1) = m ((c.tc : Thread Cert.PoolSampleRefIdeal.nD Cert.PoolSampleRefIdeal.τ).loc Cert.PoolSampleRefIdeal.main_arg1)
      ∧ r.2.mem ((c.tc : Thread Cert.PoolSampleRefIdeal.nD Cert.PoolSampleRefIdeal.τ).loc Cert.PoolSampleRefIdeal.main_arg2) = m ((c.tc : Thread Cert.PoolSampleRefIdeal.nD Cert.PoolSampleRefIdeal.τ).loc Cert.PoolSampleRefIdeal.main_arg2)
      ∧ r.2.mem ((c.tc : Thread Cert.PoolSampleRefIdeal.nD Cert.PoolSampleRefIdeal.τ).loc Cert.PoolSampleRefIdeal.main_arg3) = m ((c.tc : Thread Cert.PoolSampleRefIdeal.nD Cert.PoolSampleRefIdeal.τ).loc Cert.PoolSampleRefIdeal.main_arg3)
      ∧ r.2.mem ((c.tc : Thread Cert.PoolSampleRefIdeal.nD Cert.PoolSampleRefIdeal.τ).loc Cert.PoolSampleRefIdeal.main_arg4) = m ((c.tc : Thread Cert.PoolSampleRefIdeal.nD Cert.PoolSampleRefIdeal.τ).loc Cert.PoolSampleRefIdeal.main_arg4)
      ∧ r.2.mem ((c.tc : Thread Cert.PoolSampleRefIdeal.nD Cert.PoolSampleRefIdeal.τ).loc Cert.PoolSampleRefIdeal.main_arg5) = m ((c.tc : Thread Cert.PoolSampleRefIdeal.nD Cert.PoolSampleRefIdeal.τ).loc Cert.PoolSampleRefIdeal.main_arg5))
      ∧ r.2.sem = fun _ => 0)

def quiescent_ConvSample [hConvSample : Cert.ConvSample.Facts] : Prop :=
  ∀ (m : (ℓ : Loc Cert.ConvSample.nD Cert.ConvSample.τ Cert.ConvSample.sig) → Buf (Elt Bits) ℓ) (g : Dev Cert.ConvSample.nD → PrngReg), Pre_ConvSample m →
    θ_run (Cert.ConvSample.defs (F := Bits)) (onTc (τ := Cert.ConvSample.τ) (Cert.ConvSample.main (F := Bits))) ⟨m, fun _ => 0, g⟩ (fun r => (∀ c : Dev Cert.ConvSample.nD,
      r.2.mem ((c.tc : Thread Cert.ConvSample.nD Cert.ConvSample.τ).loc Cert.ConvSample.main_arg0) = m ((c.tc : Thread Cert.ConvSample.nD Cert.ConvSample.τ).loc Cert.ConvSample.main_arg0)
      ∧ r.2.mem ((c.tc : Thread Cert.ConvSample.nD Cert.ConvSample.τ).loc Cert.ConvSample.main_arg1) = m ((c.tc : Thread Cert.ConvSample.nD Cert.ConvSample.τ).loc Cert.ConvSample.main_arg1)
      ∧ r.2.mem ((c.tc : Thread Cert.ConvSample.nD Cert.ConvSample.τ).loc Cert.ConvSample.main_arg2) = m ((c.tc : Thread Cert.ConvSample.nD Cert.ConvSample.τ).loc Cert.ConvSample.main_arg2)
      ∧ r.2.mem ((c.tc : Thread Cert.ConvSample.nD Cert.ConvSample.τ).loc Cert.ConvSample.main_arg3) = m ((c.tc : Thread Cert.ConvSample.nD Cert.ConvSample.τ).loc Cert.ConvSample.main_arg3)
      ∧ r.2.mem ((c.tc : Thread Cert.ConvSample.nD Cert.ConvSample.τ).loc Cert.ConvSample.main_arg4) = m ((c.tc : Thread Cert.ConvSample.nD Cert.ConvSample.τ).loc Cert.ConvSample.main_arg4)
      ∧ r.2.mem ((c.tc : Thread Cert.ConvSample.nD Cert.ConvSample.τ).loc Cert.ConvSample.main_arg5) = m ((c.tc : Thread Cert.ConvSample.nD Cert.ConvSample.τ).loc Cert.ConvSample.main_arg5)
      ∧ r.2.mem ((c.tc : Thread Cert.ConvSample.nD Cert.ConvSample.τ).loc Cert.ConvSample.main_arg6) = m ((c.tc : Thread Cert.ConvSample.nD Cert.ConvSample.τ).loc Cert.ConvSample.main_arg6))
      ∧ r.2.sem = fun _ => 0)

def quiescent_ConvSampleIdeal [hConvSampleIdeal : Cert.ConvSampleIdeal.Facts] : Prop :=
  ∀ (m : (ℓ : Loc Cert.ConvSampleIdeal.nD Cert.ConvSampleIdeal.τ Cert.ConvSampleIdeal.sig) → Buf (Elt Ideal) ℓ) (g : Dev Cert.ConvSampleIdeal.nD → PrngReg), Pre_ConvSampleIdeal m →
    θ_run (Cert.ConvSampleIdeal.defs (F := Ideal)) (onTc (τ := Cert.ConvSampleIdeal.τ) (Cert.ConvSampleIdeal.main (F := Ideal))) ⟨m, fun _ => 0, g⟩ (fun r => (∀ c : Dev Cert.ConvSampleIdeal.nD,
      r.2.mem ((c.tc : Thread Cert.ConvSampleIdeal.nD Cert.ConvSampleIdeal.τ).loc Cert.ConvSampleIdeal.main_arg0) = m ((c.tc : Thread Cert.ConvSampleIdeal.nD Cert.ConvSampleIdeal.τ).loc Cert.ConvSampleIdeal.main_arg0)
      ∧ r.2.mem ((c.tc : Thread Cert.ConvSampleIdeal.nD Cert.ConvSampleIdeal.τ).loc Cert.ConvSampleIdeal.main_arg1) = m ((c.tc : Thread Cert.ConvSampleIdeal.nD Cert.ConvSampleIdeal.τ).loc Cert.ConvSampleIdeal.main_arg1)
      ∧ r.2.mem ((c.tc : Thread Cert.ConvSampleIdeal.nD Cert.ConvSampleIdeal.τ).loc Cert.ConvSampleIdeal.main_arg2) = m ((c.tc : Thread Cert.ConvSampleIdeal.nD Cert.ConvSampleIdeal.τ).loc Cert.ConvSampleIdeal.main_arg2)
      ∧ r.2.mem ((c.tc : Thread Cert.ConvSampleIdeal.nD Cert.ConvSampleIdeal.τ).loc Cert.ConvSampleIdeal.main_arg3) = m ((c.tc : Thread Cert.ConvSampleIdeal.nD Cert.ConvSampleIdeal.τ).loc Cert.ConvSampleIdeal.main_arg3)
      ∧ r.2.mem ((c.tc : Thread Cert.ConvSampleIdeal.nD Cert.ConvSampleIdeal.τ).loc Cert.ConvSampleIdeal.main_arg4) = m ((c.tc : Thread Cert.ConvSampleIdeal.nD Cert.ConvSampleIdeal.τ).loc Cert.ConvSampleIdeal.main_arg4)
      ∧ r.2.mem ((c.tc : Thread Cert.ConvSampleIdeal.nD Cert.ConvSampleIdeal.τ).loc Cert.ConvSampleIdeal.main_arg5) = m ((c.tc : Thread Cert.ConvSampleIdeal.nD Cert.ConvSampleIdeal.τ).loc Cert.ConvSampleIdeal.main_arg5)
      ∧ r.2.mem ((c.tc : Thread Cert.ConvSampleIdeal.nD Cert.ConvSampleIdeal.τ).loc Cert.ConvSampleIdeal.main_arg6) = m ((c.tc : Thread Cert.ConvSampleIdeal.nD Cert.ConvSampleIdeal.τ).loc Cert.ConvSampleIdeal.main_arg6))
      ∧ r.2.sem = fun _ => 0)

def quiescent_ConvSampleRefIdeal [hConvSampleRefIdeal : Cert.ConvSampleRefIdeal.Facts] : Prop :=
  ∀ (m : (ℓ : Loc Cert.ConvSampleRefIdeal.nD Cert.ConvSampleRefIdeal.τ Cert.ConvSampleRefIdeal.sig) → Buf (Elt Ideal) ℓ) (g : Dev Cert.ConvSampleRefIdeal.nD → PrngReg), Pre_ConvSampleRefIdeal m →
    θ_run (Cert.ConvSampleRefIdeal.defs (F := Ideal)) (onTc (τ := Cert.ConvSampleRefIdeal.τ) (Cert.ConvSampleRefIdeal.main (F := Ideal))) ⟨m, fun _ => 0, g⟩ (fun r => (∀ c : Dev Cert.ConvSampleRefIdeal.nD,
      r.2.mem ((c.tc : Thread Cert.ConvSampleRefIdeal.nD Cert.ConvSampleRefIdeal.τ).loc Cert.ConvSampleRefIdeal.main_arg0) = m ((c.tc : Thread Cert.ConvSampleRefIdeal.nD Cert.ConvSampleRefIdeal.τ).loc Cert.ConvSampleRefIdeal.main_arg0)
      ∧ r.2.mem ((c.tc : Thread Cert.ConvSampleRefIdeal.nD Cert.ConvSampleRefIdeal.τ).loc Cert.ConvSampleRefIdeal.main_arg1) = m ((c.tc : Thread Cert.ConvSampleRefIdeal.nD Cert.ConvSampleRefIdeal.τ).loc Cert.ConvSampleRefIdeal.main_arg1)
      ∧ r.2.mem ((c.tc : Thread Cert.ConvSampleRefIdeal.nD Cert.ConvSampleRefIdeal.τ).loc Cert.ConvSampleRefIdeal.main_arg2) = m ((c.tc : Thread Cert.ConvSampleRefIdeal.nD Cert.ConvSampleRefIdeal.τ).loc Cert.ConvSampleRefIdeal.main_arg2)
      ∧ r.2.mem ((c.tc : Thread Cert.ConvSampleRefIdeal.nD Cert.ConvSampleRefIdeal.τ).loc Cert.ConvSampleRefIdeal.main_arg3) = m ((c.tc : Thread Cert.ConvSampleRefIdeal.nD Cert.ConvSampleRefIdeal.τ).loc Cert.ConvSampleRefIdeal.main_arg3)
      ∧ r.2.mem ((c.tc : Thread Cert.ConvSampleRefIdeal.nD Cert.ConvSampleRefIdeal.τ).loc Cert.ConvSampleRefIdeal.main_arg4) = m ((c.tc : Thread Cert.ConvSampleRefIdeal.nD Cert.ConvSampleRefIdeal.τ).loc Cert.ConvSampleRefIdeal.main_arg4)
      ∧ r.2.mem ((c.tc : Thread Cert.ConvSampleRefIdeal.nD Cert.ConvSampleRefIdeal.τ).loc Cert.ConvSampleRefIdeal.main_arg5) = m ((c.tc : Thread Cert.ConvSampleRefIdeal.nD Cert.ConvSampleRefIdeal.τ).loc Cert.ConvSampleRefIdeal.main_arg5)
      ∧ r.2.mem ((c.tc : Thread Cert.ConvSampleRefIdeal.nD Cert.ConvSampleRefIdeal.τ).loc Cert.ConvSampleRefIdeal.main_arg6) = m ((c.tc : Thread Cert.ConvSampleRefIdeal.nD Cert.ConvSampleRefIdeal.τ).loc Cert.ConvSampleRefIdeal.main_arg6))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6))
      ∧ r.2.sem = fun _ => 0)

def preserves_InMain_InMainIdeal : Prop :=
  True

def algebraic_InMainIdeal_InMainRefIdeal [hInMainIdeal : Cert.InMainIdeal.Facts] [hInMainRefIdeal : Cert.InMainRefIdeal.Facts] : Prop :=
  ∀ (m : (ℓ : Loc Cert.InMainIdeal.nD Cert.InMainIdeal.τ Cert.InMainIdeal.sig) → Buf (Elt Ideal) ℓ) (g : Dev Cert.InMainIdeal.nD → PrngReg)
    (m' : (ℓ : Loc Cert.InMainRefIdeal.nD Cert.InMainRefIdeal.τ Cert.InMainRefIdeal.sig) → Buf (Elt Ideal) ℓ) (g' : Dev Cert.InMainRefIdeal.nD → PrngReg), Pre_InMainIdeal m →
    (∀ c : Dev Cert.InMainIdeal.nD,
      m' ((c.tc : Thread Cert.InMainRefIdeal.nD Cert.InMainRefIdeal.τ).loc Cert.InMainRefIdeal.main_arg0) = m ((c.tc : Thread Cert.InMainIdeal.nD Cert.InMainIdeal.τ).loc Cert.InMainIdeal.main_arg0)
      ∧ m' ((c.tc : Thread Cert.InMainRefIdeal.nD Cert.InMainRefIdeal.τ).loc Cert.InMainRefIdeal.main_arg1) = m ((c.tc : Thread Cert.InMainIdeal.nD Cert.InMainIdeal.τ).loc Cert.InMainIdeal.main_arg1)) →
    ∃ (v0 : (c : Dev Cert.InMainIdeal.nD) → Buf (Elt Ideal) ((c.tc : Thread Cert.InMainIdeal.nD Cert.InMainIdeal.τ).loc Cert.InMainIdeal.main_v3_0)) (v1 : (c : Dev Cert.InMainIdeal.nD) → Buf (Elt Ideal) ((c.tc : Thread Cert.InMainIdeal.nD Cert.InMainIdeal.τ).loc Cert.InMainIdeal.main_v3_1)) (v2 : (c : Dev Cert.InMainIdeal.nD) → Buf (Elt Ideal) ((c.tc : Thread Cert.InMainIdeal.nD Cert.InMainIdeal.τ).loc Cert.InMainIdeal.main_v3_2)),
      θ_run (Cert.InMainIdeal.defs (F := Ideal)) (onTc (τ := Cert.InMainIdeal.τ) (Cert.InMainIdeal.main (F := Ideal))) ⟨m, fun _ => 0, g⟩ (fun r => ∀ c : Dev Cert.InMainIdeal.nD,
          r.2.mem ((c.tc : Thread Cert.InMainIdeal.nD Cert.InMainIdeal.τ).loc Cert.InMainIdeal.main_v3_0) = v0 c
          ∧ r.2.mem ((c.tc : Thread Cert.InMainIdeal.nD Cert.InMainIdeal.τ).loc Cert.InMainIdeal.main_v3_1) = v1 c
          ∧ r.2.mem ((c.tc : Thread Cert.InMainIdeal.nD Cert.InMainIdeal.τ).loc Cert.InMainIdeal.main_v3_2) = v2 c
          ∧ r.2.mem ((c.tc : Thread Cert.InMainIdeal.nD Cert.InMainIdeal.τ).loc Cert.InMainIdeal.main_arg0) = m ((c.tc : Thread Cert.InMainIdeal.nD Cert.InMainIdeal.τ).loc Cert.InMainIdeal.main_arg0)
          ∧ r.2.mem ((c.tc : Thread Cert.InMainIdeal.nD Cert.InMainIdeal.τ).loc Cert.InMainIdeal.main_arg1) = m ((c.tc : Thread Cert.InMainIdeal.nD Cert.InMainIdeal.τ).loc Cert.InMainIdeal.main_arg1))
      ∧ θ_run (Cert.InMainRefIdeal.defs (F := Ideal)) (onTc (τ := Cert.InMainRefIdeal.τ) (Cert.InMainRefIdeal.main (F := Ideal))) ⟨m', fun _ => 0, g'⟩ (fun r => ∀ c : Dev Cert.InMainRefIdeal.nD,
          r.2.mem ((c.tc : Thread Cert.InMainRefIdeal.nD Cert.InMainRefIdeal.τ).loc Cert.InMainRefIdeal.main_v4) = v0 c
          ∧ r.2.mem ((c.tc : Thread Cert.InMainRefIdeal.nD Cert.InMainRefIdeal.τ).loc Cert.InMainRefIdeal.main_v7) = v1 c
          ∧ r.2.mem ((c.tc : Thread Cert.InMainRefIdeal.nD Cert.InMainRefIdeal.τ).loc Cert.InMainRefIdeal.main_v8) = v2 c
          ∧ r.2.mem ((c.tc : Thread Cert.InMainRefIdeal.nD Cert.InMainRefIdeal.τ).loc Cert.InMainRefIdeal.main_arg0) = m' ((c.tc : Thread Cert.InMainRefIdeal.nD Cert.InMainRefIdeal.τ).loc Cert.InMainRefIdeal.main_arg0)
          ∧ r.2.mem ((c.tc : Thread Cert.InMainRefIdeal.nD Cert.InMainRefIdeal.τ).loc Cert.InMainRefIdeal.main_arg1) = m' ((c.tc : Thread Cert.InMainRefIdeal.nD Cert.InMainRefIdeal.τ).loc Cert.InMainRefIdeal.main_arg1))

def preserves_InGates_InGatesIdeal : Prop :=
  True

def algebraic_InGatesIdeal_InGatesRefIdeal [hInGatesIdeal : Cert.InGatesIdeal.Facts] [hInGatesRefIdeal : Cert.InGatesRefIdeal.Facts] : Prop :=
  ∀ (m : (ℓ : Loc Cert.InGatesIdeal.nD Cert.InGatesIdeal.τ Cert.InGatesIdeal.sig) → Buf (Elt Ideal) ℓ) (g : Dev Cert.InGatesIdeal.nD → PrngReg)
    (m' : (ℓ : Loc Cert.InGatesRefIdeal.nD Cert.InGatesRefIdeal.τ Cert.InGatesRefIdeal.sig) → Buf (Elt Ideal) ℓ) (g' : Dev Cert.InGatesRefIdeal.nD → PrngReg), Pre_InGatesIdeal m →
    (∀ c : Dev Cert.InGatesIdeal.nD,
      m' ((c.tc : Thread Cert.InGatesRefIdeal.nD Cert.InGatesRefIdeal.τ).loc Cert.InGatesRefIdeal.main_arg0) = m ((c.tc : Thread Cert.InGatesIdeal.nD Cert.InGatesIdeal.τ).loc Cert.InGatesIdeal.main_arg0)
      ∧ m' ((c.tc : Thread Cert.InGatesRefIdeal.nD Cert.InGatesRefIdeal.τ).loc Cert.InGatesRefIdeal.main_arg1) = m ((c.tc : Thread Cert.InGatesIdeal.nD Cert.InGatesIdeal.τ).loc Cert.InGatesIdeal.main_arg1)) →
    ∃ (v0 : (c : Dev Cert.InGatesIdeal.nD) → Buf (Elt Ideal) ((c.tc : Thread Cert.InGatesIdeal.nD Cert.InGatesIdeal.τ).loc Cert.InGatesIdeal.main_v3)),
      θ_run (Cert.InGatesIdeal.defs (F := Ideal)) (onTc (τ := Cert.InGatesIdeal.τ) (Cert.InGatesIdeal.main (F := Ideal))) ⟨m, fun _ => 0, g⟩ (fun r => ∀ c : Dev Cert.InGatesIdeal.nD,
          r.2.mem ((c.tc : Thread Cert.InGatesIdeal.nD Cert.InGatesIdeal.τ).loc Cert.InGatesIdeal.main_v3) = v0 c
          ∧ r.2.mem ((c.tc : Thread Cert.InGatesIdeal.nD Cert.InGatesIdeal.τ).loc Cert.InGatesIdeal.main_arg0) = m ((c.tc : Thread Cert.InGatesIdeal.nD Cert.InGatesIdeal.τ).loc Cert.InGatesIdeal.main_arg0)
          ∧ r.2.mem ((c.tc : Thread Cert.InGatesIdeal.nD Cert.InGatesIdeal.τ).loc Cert.InGatesIdeal.main_arg1) = m ((c.tc : Thread Cert.InGatesIdeal.nD Cert.InGatesIdeal.τ).loc Cert.InGatesIdeal.main_arg1))
      ∧ θ_run (Cert.InGatesRefIdeal.defs (F := Ideal)) (onTc (τ := Cert.InGatesRefIdeal.τ) (Cert.InGatesRefIdeal.main (F := Ideal))) ⟨m', fun _ => 0, g'⟩ (fun r => ∀ c : Dev Cert.InGatesRefIdeal.nD,
          r.2.mem ((c.tc : Thread Cert.InGatesRefIdeal.nD Cert.InGatesRefIdeal.τ).loc Cert.InGatesRefIdeal.main_v11) = v0 c
          ∧ r.2.mem ((c.tc : Thread Cert.InGatesRefIdeal.nD Cert.InGatesRefIdeal.τ).loc Cert.InGatesRefIdeal.main_arg0) = m' ((c.tc : Thread Cert.InGatesRefIdeal.nD Cert.InGatesRefIdeal.τ).loc Cert.InGatesRefIdeal.main_arg0)
          ∧ r.2.mem ((c.tc : Thread Cert.InGatesRefIdeal.nD Cert.InGatesRefIdeal.τ).loc Cert.InGatesRefIdeal.main_arg1) = m' ((c.tc : Thread Cert.InGatesRefIdeal.nD Cert.InGatesRefIdeal.τ).loc Cert.InGatesRefIdeal.main_arg1))

def preserves_InDt_InDtIdeal : Prop :=
  True

def algebraic_InDtIdeal_InDtRefIdeal [hInDtIdeal : Cert.InDtIdeal.Facts] [hInDtRefIdeal : Cert.InDtRefIdeal.Facts] : Prop :=
  ∀ (m : (ℓ : Loc Cert.InDtIdeal.nD Cert.InDtIdeal.τ Cert.InDtIdeal.sig) → Buf (Elt Ideal) ℓ) (g : Dev Cert.InDtIdeal.nD → PrngReg)
    (m' : (ℓ : Loc Cert.InDtRefIdeal.nD Cert.InDtRefIdeal.τ Cert.InDtRefIdeal.sig) → Buf (Elt Ideal) ℓ) (g' : Dev Cert.InDtRefIdeal.nD → PrngReg), Pre_InDtIdeal m →
    (∀ c : Dev Cert.InDtIdeal.nD,
      m' ((c.tc : Thread Cert.InDtRefIdeal.nD Cert.InDtRefIdeal.τ).loc Cert.InDtRefIdeal.main_arg0) = m ((c.tc : Thread Cert.InDtIdeal.nD Cert.InDtIdeal.τ).loc Cert.InDtIdeal.main_arg0)
      ∧ m' ((c.tc : Thread Cert.InDtRefIdeal.nD Cert.InDtRefIdeal.τ).loc Cert.InDtRefIdeal.main_arg1) = m ((c.tc : Thread Cert.InDtIdeal.nD Cert.InDtIdeal.τ).loc Cert.InDtIdeal.main_arg1)) →
    ∃ (v0 : (c : Dev Cert.InDtIdeal.nD) → Buf (Elt Ideal) ((c.tc : Thread Cert.InDtIdeal.nD Cert.InDtIdeal.τ).loc Cert.InDtIdeal.main_v5)),
      θ_run (Cert.InDtIdeal.defs (F := Ideal)) (onTc (τ := Cert.InDtIdeal.τ) (Cert.InDtIdeal.main (F := Ideal))) ⟨m, fun _ => 0, g⟩ (fun r => ∀ c : Dev Cert.InDtIdeal.nD,
          r.2.mem ((c.tc : Thread Cert.InDtIdeal.nD Cert.InDtIdeal.τ).loc Cert.InDtIdeal.main_v5) = v0 c
          ∧ r.2.mem ((c.tc : Thread Cert.InDtIdeal.nD Cert.InDtIdeal.τ).loc Cert.InDtIdeal.main_arg0) = m ((c.tc : Thread Cert.InDtIdeal.nD Cert.InDtIdeal.τ).loc Cert.InDtIdeal.main_arg0)
          ∧ r.2.mem ((c.tc : Thread Cert.InDtIdeal.nD Cert.InDtIdeal.τ).loc Cert.InDtIdeal.main_arg1) = m ((c.tc : Thread Cert.InDtIdeal.nD Cert.InDtIdeal.τ).loc Cert.InDtIdeal.main_arg1))
      ∧ θ_run (Cert.InDtRefIdeal.defs (F := Ideal)) (onTc (τ := Cert.InDtRefIdeal.τ) (Cert.InDtRefIdeal.main (F := Ideal))) ⟨m', fun _ => 0, g'⟩ (fun r => ∀ c : Dev Cert.InDtRefIdeal.nD,
          r.2.mem ((c.tc : Thread Cert.InDtRefIdeal.nD Cert.InDtRefIdeal.τ).loc Cert.InDtRefIdeal.main_v5) = v0 c
          ∧ r.2.mem ((c.tc : Thread Cert.InDtRefIdeal.nD Cert.InDtRefIdeal.τ).loc Cert.InDtRefIdeal.main_arg0) = m' ((c.tc : Thread Cert.InDtRefIdeal.nD Cert.InDtRefIdeal.τ).loc Cert.InDtRefIdeal.main_arg0)
          ∧ r.2.mem ((c.tc : Thread Cert.InDtRefIdeal.nD Cert.InDtRefIdeal.τ).loc Cert.InDtRefIdeal.main_arg1) = m' ((c.tc : Thread Cert.InDtRefIdeal.nD Cert.InDtRefIdeal.τ).loc Cert.InDtRefIdeal.main_arg1))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)) →
    ∃ (v0 : (c : Dev Cert.MemKvIdeal.nD) → Buf (Elt Ideal) ((c.tc : Thread Cert.MemKvIdeal.nD Cert.MemKvIdeal.τ).loc Cert.MemKvIdeal.main_v3)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v3) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v3) = v0 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v4_0)) (v1 : (c : Dev Cert.MergeIdeal.nD) → Buf (Elt Ideal) ((c.tc : Thread Cert.MergeIdeal.nD Cert.MergeIdeal.τ).loc Cert.MergeIdeal.main_v4_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v4_0) = v0 c
          ∧ r.2.mem ((c.tc : Thread Cert.MergeIdeal.nD Cert.MergeIdeal.τ).loc Cert.MergeIdeal.main_v4_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v41) = v0 c
          ∧ r.2.mem ((c.tc : Thread Cert.MergeRefIdeal.nD Cert.MergeRefIdeal.τ).loc Cert.MergeRefIdeal.main_v42) = v1 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v6_0)) (v1 : (c : Dev Cert.FfnIdeal.nD) → Buf (Elt Ideal) ((c.tc : Thread Cert.FfnIdeal.nD Cert.FfnIdeal.τ).loc Cert.FfnIdeal.main_v6_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v6_0) = v0 c
          ∧ r.2.mem ((c.tc : Thread Cert.FfnIdeal.nD Cert.FfnIdeal.τ).loc Cert.FfnIdeal.main_v6_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v41) = v0 c
          ∧ r.2.mem ((c.tc : Thread Cert.FfnRefIdeal.nD Cert.FfnRefIdeal.τ).loc Cert.FfnRefIdeal.main_v42) = v1 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_PoolSample_PoolSampleIdeal : Prop :=
  True

def algebraic_PoolSampleIdeal_PoolSampleRefIdeal [hPoolSampleIdeal : Cert.PoolSampleIdeal.Facts] [hPoolSampleRefIdeal : Cert.PoolSampleRefIdeal.Facts] : Prop :=
  ∀ (m : (ℓ : Loc Cert.PoolSampleIdeal.nD Cert.PoolSampleIdeal.τ Cert.PoolSampleIdeal.sig) → Buf (Elt Ideal) ℓ) (g : Dev Cert.PoolSampleIdeal.nD → PrngReg)
    (m' : (ℓ : Loc Cert.PoolSampleRefIdeal.nD Cert.PoolSampleRefIdeal.τ Cert.PoolSampleRefIdeal.sig) → Buf (Elt Ideal) ℓ) (g' : Dev Cert.PoolSampleRefIdeal.nD → PrngReg), Pre_PoolSampleIdeal m →
    (∀ c : Dev Cert.PoolSampleIdeal.nD,
      m' ((c.tc : Thread Cert.PoolSampleRefIdeal.nD Cert.PoolSampleRefIdeal.τ).loc Cert.PoolSampleRefIdeal.main_arg0) = m ((c.tc : Thread Cert.PoolSampleIdeal.nD Cert.PoolSampleIdeal.τ).loc Cert.PoolSampleIdeal.main_arg0)
      ∧ m' ((c.tc : Thread Cert.PoolSampleRefIdeal.nD Cert.PoolSampleRefIdeal.τ).loc Cert.PoolSampleRefIdeal.main_arg1) = m ((c.tc : Thread Cert.PoolSampleIdeal.nD Cert.PoolSampleIdeal.τ).loc Cert.PoolSampleIdeal.main_arg1)
      ∧ m' ((c.tc : Thread Cert.PoolSampleRefIdeal.nD Cert.PoolSampleRefIdeal.τ).loc Cert.PoolSampleRefIdeal.main_arg2) = m ((c.tc : Thread Cert.PoolSampleIdeal.nD Cert.PoolSampleIdeal.τ).loc Cert.PoolSampleIdeal.main_arg2)
      ∧ m' ((c.tc : Thread Cert.PoolSampleRefIdeal.nD Cert.PoolSampleRefIdeal.τ).loc Cert.PoolSampleRefIdeal.main_arg3) = m ((c.tc : Thread Cert.PoolSampleIdeal.nD Cert.PoolSampleIdeal.τ).loc Cert.PoolSampleIdeal.main_arg3)
      ∧ m' ((c.tc : Thread Cert.PoolSampleRefIdeal.nD Cert.PoolSampleRefIdeal.τ).loc Cert.PoolSampleRefIdeal.main_arg4) = m ((c.tc : Thread Cert.PoolSampleIdeal.nD Cert.PoolSampleIdeal.τ).loc Cert.PoolSampleIdeal.main_arg4)
      ∧ m' ((c.tc : Thread Cert.PoolSampleRefIdeal.nD Cert.PoolSampleRefIdeal.τ).loc Cert.PoolSampleRefIdeal.main_arg5) = m ((c.tc : Thread Cert.PoolSampleIdeal.nD Cert.PoolSampleIdeal.τ).loc Cert.PoolSampleIdeal.main_arg5)) →
    ∃ (v0 : (c : Dev Cert.PoolSampleIdeal.nD) → Buf (Elt Ideal) ((c.tc : Thread Cert.PoolSampleIdeal.nD Cert.PoolSampleIdeal.τ).loc Cert.PoolSampleIdeal.main_v5_0)) (v1 : (c : Dev Cert.PoolSampleIdeal.nD) → Buf (Elt Ideal) ((c.tc : Thread Cert.PoolSampleIdeal.nD Cert.PoolSampleIdeal.τ).loc Cert.PoolSampleIdeal.main_v5_1)),
      θ_run (Cert.PoolSampleIdeal.defs (F := Ideal)) (onTc (τ := Cert.PoolSampleIdeal.τ) (Cert.PoolSampleIdeal.main (F := Ideal))) ⟨m, fun _ => 0, g⟩ (fun r => ∀ c : Dev Cert.PoolSampleIdeal.nD,
          r.2.mem ((c.tc : Thread Cert.PoolSampleIdeal.nD Cert.PoolSampleIdeal.τ).loc Cert.PoolSampleIdeal.main_v5_0) = v0 c
          ∧ r.2.mem ((c.tc : Thread Cert.PoolSampleIdeal.nD Cert.PoolSampleIdeal.τ).loc Cert.PoolSampleIdeal.main_v5_1) = v1 c
          ∧ r.2.mem ((c.tc : Thread Cert.PoolSampleIdeal.nD Cert.PoolSampleIdeal.τ).loc Cert.PoolSampleIdeal.main_arg0) = m ((c.tc : Thread Cert.PoolSampleIdeal.nD Cert.PoolSampleIdeal.τ).loc Cert.PoolSampleIdeal.main_arg0)
          ∧ r.2.mem ((c.tc : Thread Cert.PoolSampleIdeal.nD Cert.PoolSampleIdeal.τ).loc Cert.PoolSampleIdeal.main_arg1) = m ((c.tc : Thread Cert.PoolSampleIdeal.nD Cert.PoolSampleIdeal.τ).loc Cert.PoolSampleIdeal.main_arg1)
          ∧ r.2.mem ((c.tc : Thread Cert.PoolSampleIdeal.nD Cert.PoolSampleIdeal.τ).loc Cert.PoolSampleIdeal.main_arg2) = m ((c.tc : Thread Cert.PoolSampleIdeal.nD Cert.PoolSampleIdeal.τ).loc Cert.PoolSampleIdeal.main_arg2)
          ∧ r.2.mem ((c.tc : Thread Cert.PoolSampleIdeal.nD Cert.PoolSampleIdeal.τ).loc Cert.PoolSampleIdeal.main_arg3) = m ((c.tc : Thread Cert.PoolSampleIdeal.nD Cert.PoolSampleIdeal.τ).loc Cert.PoolSampleIdeal.main_arg3)
          ∧ r.2.mem ((c.tc : Thread Cert.PoolSampleIdeal.nD Cert.PoolSampleIdeal.τ).loc Cert.PoolSampleIdeal.main_arg4) = m ((c.tc : Thread Cert.PoolSampleIdeal.nD Cert.PoolSampleIdeal.τ).loc Cert.PoolSampleIdeal.main_arg4)
          ∧ r.2.mem ((c.tc : Thread Cert.PoolSampleIdeal.nD Cert.PoolSampleIdeal.τ).loc Cert.PoolSampleIdeal.main_arg5) = m ((c.tc : Thread Cert.PoolSampleIdeal.nD Cert.PoolSampleIdeal.τ).loc Cert.PoolSampleIdeal.main_arg5))
      ∧ θ_run (Cert.PoolSampleRefIdeal.defs (F := Ideal)) (onTc (τ := Cert.PoolSampleRefIdeal.τ) (Cert.PoolSampleRefIdeal.main (F := Ideal))) ⟨m', fun _ => 0, g'⟩ (fun r => ∀ c : Dev Cert.PoolSampleRefIdeal.nD,
          r.2.mem ((c.tc : Thread Cert.PoolSampleRefIdeal.nD Cert.PoolSampleRefIdeal.τ).loc Cert.PoolSampleRefIdeal.main_v43) = v0 c
          ∧ r.2.mem ((c.tc : Thread Cert.PoolSampleRefIdeal.nD Cert.PoolSampleRefIdeal.τ).loc Cert.PoolSampleRefIdeal.main_v40) = v1 c
          ∧ r.2.mem ((c.tc : Thread Cert.PoolSampleRefIdeal.nD Cert.PoolSampleRefIdeal.τ).loc Cert.PoolSampleRefIdeal.main_arg0) = m' ((c.tc : Thread Cert.PoolSampleRefIdeal.nD Cert.PoolSampleRefIdeal.τ).loc Cert.PoolSampleRefIdeal.main_arg0)
          ∧ r.2.mem ((c.tc : Thread Cert.PoolSampleRefIdeal.nD Cert.PoolSampleRefIdeal.τ).loc Cert.PoolSampleRefIdeal.main_arg1) = m' ((c.tc : Thread Cert.PoolSampleRefIdeal.nD Cert.PoolSampleRefIdeal.τ).loc Cert.PoolSampleRefIdeal.main_arg1)
          ∧ r.2.mem ((c.tc : Thread Cert.PoolSampleRefIdeal.nD Cert.PoolSampleRefIdeal.τ).loc Cert.PoolSampleRefIdeal.main_arg2) = m' ((c.tc : Thread Cert.PoolSampleRefIdeal.nD Cert.PoolSampleRefIdeal.τ).loc Cert.PoolSampleRefIdeal.main_arg2)
          ∧ r.2.mem ((c.tc : Thread Cert.PoolSampleRefIdeal.nD Cert.PoolSampleRefIdeal.τ).loc Cert.PoolSampleRefIdeal.main_arg3) = m' ((c.tc : Thread Cert.PoolSampleRefIdeal.nD Cert.PoolSampleRefIdeal.τ).loc Cert.PoolSampleRefIdeal.main_arg3)
          ∧ r.2.mem ((c.tc : Thread Cert.PoolSampleRefIdeal.nD Cert.PoolSampleRefIdeal.τ).loc Cert.PoolSampleRefIdeal.main_arg4) = m' ((c.tc : Thread Cert.PoolSampleRefIdeal.nD Cert.PoolSampleRefIdeal.τ).loc Cert.PoolSampleRefIdeal.main_arg4)
          ∧ r.2.mem ((c.tc : Thread Cert.PoolSampleRefIdeal.nD Cert.PoolSampleRefIdeal.τ).loc Cert.PoolSampleRefIdeal.main_arg5) = m' ((c.tc : Thread Cert.PoolSampleRefIdeal.nD Cert.PoolSampleRefIdeal.τ).loc Cert.PoolSampleRefIdeal.main_arg5))

def preserves_ConvSample_ConvSampleIdeal : Prop :=
  True

def algebraic_ConvSampleIdeal_ConvSampleRefIdeal [hConvSampleIdeal : Cert.ConvSampleIdeal.Facts] [hConvSampleRefIdeal : Cert.ConvSampleRefIdeal.Facts] : Prop :=
  ∀ (m : (ℓ : Loc Cert.ConvSampleIdeal.nD Cert.ConvSampleIdeal.τ Cert.ConvSampleIdeal.sig) → Buf (Elt Ideal) ℓ) (g : Dev Cert.ConvSampleIdeal.nD → PrngReg)
    (m' : (ℓ : Loc Cert.ConvSampleRefIdeal.nD Cert.ConvSampleRefIdeal.τ Cert.ConvSampleRefIdeal.sig) → Buf (Elt Ideal) ℓ) (g' : Dev Cert.ConvSampleRefIdeal.nD → PrngReg), Pre_ConvSampleIdeal m →
    (∀ c : Dev Cert.ConvSampleIdeal.nD,
      m' ((c.tc : Thread Cert.ConvSampleRefIdeal.nD Cert.ConvSampleRefIdeal.τ).loc Cert.ConvSampleRefIdeal.main_arg0) = m ((c.tc : Thread Cert.ConvSampleIdeal.nD Cert.ConvSampleIdeal.τ).loc Cert.ConvSampleIdeal.main_arg0)
      ∧ m' ((c.tc : Thread Cert.ConvSampleRefIdeal.nD Cert.ConvSampleRefIdeal.τ).loc Cert.ConvSampleRefIdeal.main_arg1) = m ((c.tc : Thread Cert.ConvSampleIdeal.nD Cert.ConvSampleIdeal.τ).loc Cert.ConvSampleIdeal.main_arg1)
      ∧ m' ((c.tc : Thread Cert.ConvSampleRefIdeal.nD Cert.ConvSampleRefIdeal.τ).loc Cert.ConvSampleRefIdeal.main_arg2) = m ((c.tc : Thread Cert.ConvSampleIdeal.nD Cert.ConvSampleIdeal.τ).loc Cert.ConvSampleIdeal.main_arg2)
      ∧ m' ((c.tc : Thread Cert.ConvSampleRefIdeal.nD Cert.ConvSampleRefIdeal.τ).loc Cert.ConvSampleRefIdeal.main_arg3) = m ((c.tc : Thread Cert.ConvSampleIdeal.nD Cert.ConvSampleIdeal.τ).loc Cert.ConvSampleIdeal.main_arg3)
      ∧ m' ((c.tc : Thread Cert.ConvSampleRefIdeal.nD Cert.ConvSampleRefIdeal.τ).loc Cert.ConvSampleRefIdeal.main_arg4) = m ((c.tc : Thread Cert.ConvSampleIdeal.nD Cert.ConvSampleIdeal.τ).loc Cert.ConvSampleIdeal.main_arg4)
      ∧ m' ((c.tc : Thread Cert.ConvSampleRefIdeal.nD Cert.ConvSampleRefIdeal.τ).loc Cert.ConvSampleRefIdeal.main_arg5) = m ((c.tc : Thread Cert.ConvSampleIdeal.nD Cert.ConvSampleIdeal.τ).loc Cert.ConvSampleIdeal.main_arg5)
      ∧ m' ((c.tc : Thread Cert.ConvSampleRefIdeal.nD Cert.ConvSampleRefIdeal.τ).loc Cert.ConvSampleRefIdeal.main_arg6) = m ((c.tc : Thread Cert.ConvSampleIdeal.nD Cert.ConvSampleIdeal.τ).loc Cert.ConvSampleIdeal.main_arg6)) →
    ∃ (v0 : (c : Dev Cert.ConvSampleIdeal.nD) → Buf (Elt Ideal) ((c.tc : Thread Cert.ConvSampleIdeal.nD Cert.ConvSampleIdeal.τ).loc Cert.ConvSampleIdeal.main_v21_0)) (v1 : (c : Dev Cert.ConvSampleIdeal.nD) → Buf (Elt Ideal) ((c.tc : Thread Cert.ConvSampleIdeal.nD Cert.ConvSampleIdeal.τ).loc Cert.ConvSampleIdeal.main_v21_2)) (v2 : (c : Dev Cert.ConvSampleIdeal.nD) → Buf (Elt Ideal) ((c.tc : Thread Cert.ConvSampleIdeal.nD Cert.ConvSampleIdeal.τ).loc Cert.ConvSampleIdeal.main_v21_3)) (v3 : (c : Dev Cert.ConvSampleIdeal.nD) → Buf (Elt Ideal) ((c.tc : Thread Cert.ConvSampleIdeal.nD Cert.ConvSampleIdeal.τ).loc Cert.ConvSampleIdeal.main_v21_4)) (v4 : (c : Dev Cert.ConvSampleIdeal.nD) → Buf (Elt Ideal) ((c.tc : Thread Cert.ConvSampleIdeal.nD Cert.ConvSampleIdeal.τ).loc Cert.ConvSampleIdeal.main_v21_5)),
      θ_run (Cert.ConvSampleIdeal.defs (F := Ideal)) (onTc (τ := Cert.ConvSampleIdeal.τ) (Cert.ConvSampleIdeal.main (F := Ideal))) ⟨m, fun _ => 0, g⟩ (fun r => ∀ c : Dev Cert.ConvSampleIdeal.nD,
          r.2.mem ((c.tc : Thread Cert.ConvSampleIdeal.nD Cert.ConvSampleIdeal.τ).loc Cert.ConvSampleIdeal.main_v21_0) = v0 c
          ∧ r.2.mem ((c.tc : Thread Cert.ConvSampleIdeal.nD Cert.ConvSampleIdeal.τ).loc Cert.ConvSampleIdeal.main_v21_2) = v1 c
          ∧ r.2.mem ((c.tc : Thread Cert.ConvSampleIdeal.nD Cert.ConvSampleIdeal.τ).loc Cert.ConvSampleIdeal.main_v21_3) = v2 c
          ∧ r.2.mem ((c.tc : Thread Cert.ConvSampleIdeal.nD Cert.ConvSampleIdeal.τ).loc Cert.ConvSampleIdeal.main_v21_4) = v3 c
          ∧ r.2.mem ((c.tc : Thread Cert.ConvSampleIdeal.nD Cert.ConvSampleIdeal.τ).loc Cert.ConvSampleIdeal.main_v21_5) = v4 c
          ∧ r.2.mem ((c.tc : Thread Cert.ConvSampleIdeal.nD Cert.ConvSampleIdeal.τ).loc Cert.ConvSampleIdeal.main_arg0) = m ((c.tc : Thread Cert.ConvSampleIdeal.nD Cert.ConvSampleIdeal.τ).loc Cert.ConvSampleIdeal.main_arg0)
          ∧ r.2.mem ((c.tc : Thread Cert.ConvSampleIdeal.nD Cert.ConvSampleIdeal.τ).loc Cert.ConvSampleIdeal.main_arg1) = m ((c.tc : Thread Cert.ConvSampleIdeal.nD Cert.ConvSampleIdeal.τ).loc Cert.ConvSampleIdeal.main_arg1)
          ∧ r.2.mem ((c.tc : Thread Cert.ConvSampleIdeal.nD Cert.ConvSampleIdeal.τ).loc Cert.ConvSampleIdeal.main_arg2) = m ((c.tc : Thread Cert.ConvSampleIdeal.nD Cert.ConvSampleIdeal.τ).loc Cert.ConvSampleIdeal.main_arg2)
          ∧ r.2.mem ((c.tc : Thread Cert.ConvSampleIdeal.nD Cert.ConvSampleIdeal.τ).loc Cert.ConvSampleIdeal.main_arg3) = m ((c.tc : Thread Cert.ConvSampleIdeal.nD Cert.ConvSampleIdeal.τ).loc Cert.ConvSampleIdeal.main_arg3)
          ∧ r.2.mem ((c.tc : Thread Cert.ConvSampleIdeal.nD Cert.ConvSampleIdeal.τ).loc Cert.ConvSampleIdeal.main_arg4) = m ((c.tc : Thread Cert.ConvSampleIdeal.nD Cert.ConvSampleIdeal.τ).loc Cert.ConvSampleIdeal.main_arg4)
          ∧ r.2.mem ((c.tc : Thread Cert.ConvSampleIdeal.nD Cert.ConvSampleIdeal.τ).loc Cert.ConvSampleIdeal.main_arg5) = m ((c.tc : Thread Cert.ConvSampleIdeal.nD Cert.ConvSampleIdeal.τ).loc Cert.ConvSampleIdeal.main_arg5)
          ∧ r.2.mem ((c.tc : Thread Cert.ConvSampleIdeal.nD Cert.ConvSampleIdeal.τ).loc Cert.ConvSampleIdeal.main_arg6) = m ((c.tc : Thread Cert.ConvSampleIdeal.nD Cert.ConvSampleIdeal.τ).loc Cert.ConvSampleIdeal.main_arg6))
      ∧ θ_run (Cert.ConvSampleRefIdeal.defs (F := Ideal)) (onTc (τ := Cert.ConvSampleRefIdeal.τ) (Cert.ConvSampleRefIdeal.main (F := Ideal))) ⟨m', fun _ => 0, g'⟩ (fun r => ∀ c : Dev Cert.ConvSampleRefIdeal.nD,
          r.2.mem ((c.tc : Thread Cert.ConvSampleRefIdeal.nD Cert.ConvSampleRefIdeal.τ).loc Cert.ConvSampleRefIdeal.main_v62) = v0 c
          ∧ r.2.mem ((c.tc : Thread Cert.ConvSampleRefIdeal.nD Cert.ConvSampleRefIdeal.τ).loc Cert.ConvSampleRefIdeal.main_v56) = v1 c
          ∧ r.2.mem ((c.tc : Thread Cert.ConvSampleRefIdeal.nD Cert.ConvSampleRefIdeal.τ).loc Cert.ConvSampleRefIdeal.main_v63) = v2 c
          ∧ r.2.mem ((c.tc : Thread Cert.ConvSampleRefIdeal.nD Cert.ConvSampleRefIdeal.τ).loc Cert.ConvSampleRefIdeal.main_v64) = v3 c
          ∧ r.2.mem ((c.tc : Thread Cert.ConvSampleRefIdeal.nD Cert.ConvSampleRefIdeal.τ).loc Cert.ConvSampleRefIdeal.main_v61) = v4 c
          ∧ r.2.mem ((c.tc : Thread Cert.ConvSampleRefIdeal.nD Cert.ConvSampleRefIdeal.τ).loc Cert.ConvSampleRefIdeal.main_arg0) = m' ((c.tc : Thread Cert.ConvSampleRefIdeal.nD Cert.ConvSampleRefIdeal.τ).loc Cert.ConvSampleRefIdeal.main_arg0)
          ∧ r.2.mem ((c.tc : Thread Cert.ConvSampleRefIdeal.nD Cert.ConvSampleRefIdeal.τ).loc Cert.ConvSampleRefIdeal.main_arg1) = m' ((c.tc : Thread Cert.ConvSampleRefIdeal.nD Cert.ConvSampleRefIdeal.τ).loc Cert.ConvSampleRefIdeal.main_arg1)
          ∧ r.2.mem ((c.tc : Thread Cert.ConvSampleRefIdeal.nD Cert.ConvSampleRefIdeal.τ).loc Cert.ConvSampleRefIdeal.main_arg2) = m' ((c.tc : Thread Cert.ConvSampleRefIdeal.nD Cert.ConvSampleRefIdeal.τ).loc Cert.ConvSampleRefIdeal.main_arg2)
          ∧ r.2.mem ((c.tc : Thread Cert.ConvSampleRefIdeal.nD Cert.ConvSampleRefIdeal.τ).loc Cert.ConvSampleRefIdeal.main_arg3) = m' ((c.tc : Thread Cert.ConvSampleRefIdeal.nD Cert.ConvSampleRefIdeal.τ).loc Cert.ConvSampleRefIdeal.main_arg3)
          ∧ r.2.mem ((c.tc : Thread Cert.ConvSampleRefIdeal.nD Cert.ConvSampleRefIdeal.τ).loc Cert.ConvSampleRefIdeal.main_arg4) = m' ((c.tc : Thread Cert.ConvSampleRefIdeal.nD Cert.ConvSampleRefIdeal.τ).loc Cert.ConvSampleRefIdeal.main_arg4)
          ∧ r.2.mem ((c.tc : Thread Cert.ConvSampleRefIdeal.nD Cert.ConvSampleRefIdeal.τ).loc Cert.ConvSampleRefIdeal.main_arg5) = m' ((c.tc : Thread Cert.ConvSampleRefIdeal.nD Cert.ConvSampleRefIdeal.τ).loc Cert.ConvSampleRefIdeal.main_arg5)
          ∧ r.2.mem ((c.tc : Thread Cert.ConvSampleRefIdeal.nD Cert.ConvSampleRefIdeal.τ).loc Cert.ConvSampleRefIdeal.main_arg6) = m' ((c.tc : Thread Cert.ConvSampleRefIdeal.nD Cert.ConvSampleRefIdeal.τ).loc Cert.ConvSampleRefIdeal.main_arg6))

def preserves_Attn_AttnIdeal : Prop :=
  IdealRules.named_const.Statement Cert.AttnIdeal.κ "inv_sqrt_d" .f32 0x3DB504F3#32 (((Real.sqrt 128)⁻¹ : ℝ) : EReal)

def algebraic_AttnIdeal_AttnRefIdeal [hAttnIdeal : Cert.AttnIdeal.Facts] [hAttnRefIdeal : Cert.AttnRefIdeal.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)
      ∧ m' ((c.tc : Thread Cert.AttnRefIdeal.nD Cert.AttnRefIdeal.τ).loc Cert.AttnRefIdeal.main_arg6) = m ((c.tc : Thread Cert.AttnIdeal.nD Cert.AttnIdeal.τ).loc Cert.AttnIdeal.main_arg6)) →
    ∃ (v0 : (c : Dev Cert.AttnIdeal.nD) → Buf (Elt Ideal) ((c.tc : Thread Cert.AttnIdeal.nD Cert.AttnIdeal.τ).loc Cert.AttnIdeal.main_v5_0)) (v1 : (c : Dev Cert.AttnIdeal.nD) → Buf (Elt Ideal) ((c.tc : Thread Cert.AttnIdeal.nD Cert.AttnIdeal.τ).loc Cert.AttnIdeal.main_v5_1)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v5_0) = v0 c
          ∧ r.2.mem ((c.tc : Thread Cert.AttnIdeal.nD Cert.AttnIdeal.τ).loc Cert.AttnIdeal.main_v5_1) = v1 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v57) = v0 c
          ∧ r.2.mem ((c.tc : Thread Cert.AttnRefIdeal.nD Cert.AttnRefIdeal.τ).loc Cert.AttnRefIdeal.main_v58) = v1 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5)
          ∧ r.2.mem ((c.tc : Thread Cert.AttnRefIdeal.nD Cert.AttnRefIdeal.τ).loc Cert.AttnRefIdeal.main_arg6) = m' ((c.tc : Thread Cert.AttnRefIdeal.nD Cert.AttnRefIdeal.τ).loc Cert.AttnRefIdeal.main_arg6))

def Claim : Prop :=
  ∃ (hInMain : Cert.InMain.Facts) (hInMainIdeal : Cert.InMainIdeal.Facts) (hInMainRefIdeal : Cert.InMainRefIdeal.Facts) (hInGates : Cert.InGates.Facts) (hInGatesIdeal : Cert.InGatesIdeal.Facts) (hInGatesRefIdeal : Cert.InGatesRefIdeal.Facts) (hInDt : Cert.InDt.Facts) (hInDtIdeal : Cert.InDtIdeal.Facts) (hInDtRefIdeal : Cert.InDtRefIdeal.Facts) (hMemKv : Cert.MemKv.Facts) (hMemKvIdeal : Cert.MemKvIdeal.Facts) (hMemKvRefIdeal : Cert.MemKvRefIdeal.Facts) (hMerge : Cert.Merge.Facts) (hMergeIdeal : Cert.MergeIdeal.Facts) (hMergeRefIdeal : Cert.MergeRefIdeal.Facts) (hFfn : Cert.Ffn.Facts) (hFfnIdeal : Cert.FfnIdeal.Facts) (hFfnRefIdeal : Cert.FfnRefIdeal.Facts) (hPoolSample : Cert.PoolSample.Facts) (hPoolSampleIdeal : Cert.PoolSampleIdeal.Facts) (hPoolSampleRefIdeal : Cert.PoolSampleRefIdeal.Facts) (hConvSample : Cert.ConvSample.Facts) (hConvSampleIdeal : Cert.ConvSampleIdeal.Facts) (hConvSampleRefIdeal : Cert.ConvSampleRefIdeal.Facts) (hAttn : Cert.Attn.Facts) (hAttnIdeal : Cert.AttnIdeal.Facts) (hAttnRefIdeal : Cert.AttnRefIdeal.Facts),
    quiescent_InMain (hInMain := hInMain)
    ∧ quiescent_InMainIdeal (hInMainIdeal := hInMainIdeal)
    ∧ quiescent_InMainRefIdeal (hInMainRefIdeal := hInMainRefIdeal)
    ∧ quiescent_InGates (hInGates := hInGates)
    ∧ quiescent_InGatesIdeal (hInGatesIdeal := hInGatesIdeal)
    ∧ quiescent_InGatesRefIdeal (hInGatesRefIdeal := hInGatesRefIdeal)
    ∧ quiescent_InDt (hInDt := hInDt)
    ∧ quiescent_InDtIdeal (hInDtIdeal := hInDtIdeal)
    ∧ quiescent_InDtRefIdeal (hInDtRefIdeal := hInDtRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_Merge (hMerge := hMerge)
    ∧ quiescent_MergeIdeal (hMergeIdeal := hMergeIdeal)
    ∧ quiescent_MergeRefIdeal (hMergeRefIdeal := hMergeRefIdeal)
    ∧ quiescent_Ffn (hFfn := hFfn)
    ∧ quiescent_FfnIdeal (hFfnIdeal := hFfnIdeal)
    ∧ quiescent_FfnRefIdeal (hFfnRefIdeal := hFfnRefIdeal)
    ∧ quiescent_PoolSample (hPoolSample := hPoolSample)
    ∧ quiescent_PoolSampleIdeal (hPoolSampleIdeal := hPoolSampleIdeal)
    ∧ quiescent_PoolSampleRefIdeal (hPoolSampleRefIdeal := hPoolSampleRefIdeal)
    ∧ quiescent_ConvSample (hConvSample := hConvSample)
    ∧ quiescent_ConvSampleIdeal (hConvSampleIdeal := hConvSampleIdeal)
    ∧ quiescent_ConvSampleRefIdeal (hConvSampleRefIdeal := hConvSampleRefIdeal)
    ∧ quiescent_Attn (hAttn := hAttn)
    ∧ quiescent_AttnIdeal (hAttnIdeal := hAttnIdeal)
    ∧ quiescent_AttnRefIdeal (hAttnRefIdeal := hAttnRefIdeal)
    ∧ preserves_InMain_InMainIdeal
    ∧ algebraic_InMainIdeal_InMainRefIdeal (hInMainIdeal := hInMainIdeal) (hInMainRefIdeal := hInMainRefIdeal)
    ∧ preserves_InGates_InGatesIdeal
    ∧ algebraic_InGatesIdeal_InGatesRefIdeal (hInGatesIdeal := hInGatesIdeal) (hInGatesRefIdeal := hInGatesRefIdeal)
    ∧ preserves_InDt_InDtIdeal
    ∧ algebraic_InDtIdeal_InDtRefIdeal (hInDtIdeal := hInDtIdeal) (hInDtRefIdeal := hInDtRefIdeal)
    ∧ preserves_MemKv_MemKvIdeal
    ∧ algebraic_MemKvIdeal_MemKvRefIdeal (hMemKvIdeal := hMemKvIdeal) (hMemKvRefIdeal := hMemKvRefIdeal)
    ∧ preserves_Merge_MergeIdeal
    ∧ algebraic_MergeIdeal_MergeRefIdeal (hMergeIdeal := hMergeIdeal) (hMergeRefIdeal := hMergeRefIdeal)
    ∧ preserves_Ffn_FfnIdeal
    ∧ algebraic_FfnIdeal_FfnRefIdeal (hFfnIdeal := hFfnIdeal) (hFfnRefIdeal := hFfnRefIdeal)
    ∧ preserves_PoolSample_PoolSampleIdeal
    ∧ algebraic_PoolSampleIdeal_PoolSampleRefIdeal (hPoolSampleIdeal := hPoolSampleIdeal) (hPoolSampleRefIdeal := hPoolSampleRefIdeal)
    ∧ preserves_ConvSample_ConvSampleIdeal
    ∧ algebraic_ConvSampleIdeal_ConvSampleRefIdeal (hConvSampleIdeal := hConvSampleIdeal) (hConvSampleRefIdeal := hConvSampleRefIdeal)
    ∧ preserves_Attn_AttnIdeal
    ∧ algebraic_AttnIdeal_AttnRefIdeal (hAttnIdeal := hAttnIdeal) (hAttnRefIdeal := hAttnRefIdeal)
-- ==== InMain.lean ====
abbrev S4x2048x2048 : Shape := ⟨3, ![4, 2048, 2048]⟩
abbrev S4x2048x16448 : Shape := ⟨3, ![4, 2048, 16448]⟩
abbrev S4x16448x2048 : Shape := ⟨3, ![4, 16448, 2048]⟩
abbrev S8192x2048 : Shape := ⟨2, ![8192, 2048]⟩
abbrev S8192x4096 : Shape := ⟨2, ![8192, 4096]⟩
abbrev S8192x6144 : Shape := ⟨2, ![8192, 6144]⟩
abbrev S2048x2048 : Shape := ⟨2, ![2048, 2048]⟩
abbrev S1x512x2048 : Shape := ⟨3, ![1, 512, 2048]⟩
abbrev S2048x512 : Shape := ⟨2, ![2048, 512]⟩
abbrev S512x2048 : Shape := ⟨2, ![512, 2048]⟩

abbrev nBuf : Space → Nat
  | .hbm => 8
  | .vmem => 10
  | .smem => 0
  | _ => 0

abbrev bufTy : (tb : Table) → Fin (tcTables nBuf tb) → BufTy
  | .hbm, ⟨0, _⟩ => ⟨S4x2048x2048, .f32⟩
  | .hbm, ⟨1, _⟩ => ⟨S4x2048x16448, .f32⟩
  | .hbm, ⟨2, _⟩ => ⟨S4x16448x2048, .f32⟩
  | .hbm, ⟨3, _⟩ => ⟨S8192x2048, .f32⟩
  | .hbm, ⟨4, _⟩ => ⟨S8192x2048, .bf16⟩
  | .hbm, ⟨5, _⟩ => ⟨S8192x2048, .f32⟩
  | .hbm, ⟨6, _⟩ => ⟨S8192x4096, .bf16⟩
  | .hbm, ⟨7, _⟩ => ⟨S8192x6144, .f32⟩
  | .local _ .vmem, ⟨0, _⟩ => ⟨S2048x2048, .bf16⟩
  | .local _ .vmem, ⟨1, _⟩ => ⟨S2048x2048, .bf16⟩
  | .local _ .vmem, ⟨2, _⟩ => ⟨S1x512x2048, .f32⟩
  | .local _ .vmem, ⟨3, _⟩ => ⟨S1x512x2048, .f32⟩
  | .local _ .vmem, ⟨4, _⟩ => ⟨S2048x512, .f32⟩
  | .local _ .vmem, ⟨5, _⟩ => ⟨S2048x512, .f32⟩
  | .local _ .vmem, ⟨6, _⟩ => ⟨S2048x512, .bf16⟩
  | .local _ .vmem, ⟨7, _⟩ => ⟨S2048x512, .bf16⟩
  | .local _ .vmem, ⟨8, _⟩ => ⟨S2048x512, .f32⟩
  | .local _ .vmem, ⟨9, _⟩ => ⟨S2048x512, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v3_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 24], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_cond1 (i : grid0.Coords) : BitVec 1 :=
  let arg1 : BitVec 32 := BitVec.ofNat 32 (i 1).val
  let c4_i32 : BitVec 32 := 4#32
  let v6 : BitVec 1 := Scalar.cmpi .slt arg1 c4_i32
  let v7 : BitVec 32 := Scalar.extui v6
  let c0_i32 : BitVec 32 := 0#32
  let v8 : BitVec 1 := Scalar.cmpi .ne v7 c0_i32
  v8

def k0_cond2 (i : grid0.Coords) : BitVec 1 :=
  let arg1 : BitVec 32 := BitVec.ofNat 32 (i 1).val
  let c4_i32_4 : BitVec 32 := 4#32
  let v9 : BitVec 1 := Scalar.cmpi .sge arg1 c4_i32_4
  let c12_i32 : BitVec 32 := 12#32
  let v10 : BitVec 1 := Scalar.cmpi .slt arg1 c12_i32
  let v11 : BitVec 1 := Scalar.andi v9 v10
  let v12 : BitVec 32 := Scalar.extui v11
  let c0_i32_5 : BitVec 32 := 0#32
  let v13 : BitVec 1 := Scalar.cmpi .ne v12 c0_i32_5
  v13

def k0_cond3 (i : grid0.Coords) : BitVec 1 :=
  let arg1 : BitVec 32 := BitVec.ofNat 32 (i 1).val
  let c12_i32_6 : BitVec 32 := 12#32
  let v14 : BitVec 1 := Scalar.cmpi .sge arg1 c12_i32_6
  let v15 : BitVec 32 := Scalar.extui v14
  let c0_i32_7 : BitVec 32 := 0#32
  let v16 : BitVec 1 := Scalar.cmpi .ne v15 c0_i32_7
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let v1 : BitVec 32 := v0
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![arg0.toNat, v2.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  ![arg0.toNat, v2.toNat]

def cc0_transform_4 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.subi arg1 c12_i32
  let c0_i32 : BitVec 32 := 0#32
  let c11_i32 : BitVec 32 := 11#32
  let v1 : BitVec 32 := Scalar.maxsi c0_i32 v0
  let v2 : BitVec 32 := Scalar.minsi c11_i32 v1
  let c0_i32_0 : BitVec 32 := 0#32
  ![arg0.toNat, v2.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== InMainRefIdeal.lean ====
abbrev S4x2048x2048 : Shape := ⟨3, ![4, 2048, 2048]⟩
abbrev S4x2048x16448 : Shape := ⟨3, ![4, 2048, 16448]⟩
abbrev S1x2048x16448 : Shape := ⟨3, ![1, 2048, 16448]⟩
abbrev S2048x16448 : Shape := ⟨2, ![2048, 16448]⟩
abbrev S8192x16448 : Shape := ⟨2, ![8192, 16448]⟩
abbrev S8192x2048 : Shape := ⟨2, ![8192, 2048]⟩
abbrev S8192x4096 : Shape := ⟨2, ![8192, 4096]⟩
abbrev S_ : Shape := ⟨0, ![]⟩
abbrev S8192x6144 : Shape := ⟨2, ![8192, 6144]⟩

abbrev nBuf : Space → Nat
  | .hbm => 19
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x2048x16448, .f32⟩
  | .hbm, ⟨2, _⟩ => ⟨S1x2048x16448, .f32⟩
  | .hbm, ⟨3, _⟩ => ⟨S2048x16448, .f32⟩
  | .hbm, ⟨4, _⟩ => ⟨S4x2048x16448, .f32⟩
  | .hbm, ⟨5, _⟩ => ⟨S8192x16448, .f32⟩
  | .hbm, ⟨6, _⟩ => ⟨S8192x2048, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S_, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S8192x4096, .f32⟩
  | .hbm, ⟨17, _⟩ => ⟨S8192x4096, .bf16⟩
  | .hbm, ⟨18, _⟩ => ⟨S8192x6144, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩

abbrev nD : Nat := 1
abbrev τ : Topo := Topo.v7x

variable {F : FTy → Type} [FloatOps F]
-- ==== InGates.lean ====
abbrev S4x2048x2048 : Shape := ⟨3, ![4, 2048, 2048]⟩
abbrev S4x2048x16448 : Shape := ⟨3, ![4, 2048, 16448]⟩
abbrev S4x16448x2048 : Shape := ⟨3, ![4, 16448, 2048]⟩
abbrev S8192x2048 : Shape := ⟨2, ![8192, 2048]⟩
abbrev S8192x4096 : Shape := ⟨2, ![8192, 4096]⟩
abbrev S2048x2048 : Shape := ⟨2, ![2048, 2048]⟩
abbrev S1x512x2048 : Shape := ⟨3, ![1, 512, 2048]⟩
abbrev S2048x512 : Shape := ⟨2, ![2048, 512]⟩
abbrev S512x2048 : Shape := ⟨2, ![512, 2048]⟩

abbrev nBuf : Space → Nat
  | .hbm => 6
  | .vmem => 6
  | .smem => 0
  | _ => 0

abbrev bufTy : (tb : Table) → Fin (tcTables nBuf tb) → BufTy
  | .hbm, ⟨0, _⟩ => ⟨S4x2048x2048, .f32⟩
  | .hbm, ⟨1, _⟩ => ⟨S4x2048x16448, .f32⟩
  | .hbm, ⟨2, _⟩ => ⟨S4x16448x2048, .f32⟩
  | .hbm, ⟨3, _⟩ => ⟨S8192x2048, .f32⟩
  | .hbm, ⟨4, _⟩ => ⟨S8192x2048, .bf16⟩
  | .hbm, ⟨5, _⟩ => ⟨S8192x4096, .bf16⟩
  | .local _ .vmem, ⟨0, _⟩ => ⟨S2048x2048, .bf16⟩
  | .local _ .vmem, ⟨1, _⟩ => ⟨S2048x2048, .bf16⟩
  | .local _ .vmem, ⟨2, _⟩ => ⟨S1x512x2048, .f32⟩
  | .local _ .vmem, ⟨3, _⟩ => ⟨S1x512x2048, .f32⟩
  | .local _ .vmem, ⟨4, _⟩ => ⟨S2048x512, .bf16⟩
  | .local _ .vmem, ⟨5, _⟩ => ⟨S2048x512, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let c12352_i32 : BitVec 32 := 12352#32
  let arg1 : BitVec 32 := BitVec.ofNat 32 (i 1).val
  let c512_i32 : BitVec 32 := 512#32
  let v0 : BitVec 32 := Scalar.muli arg1 c512_i32
  let v1 : BitVec 32 := Scalar.addi c12352_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c12352_i32 : BitVec 32 := 12352#32
  let v1 : BitVec 32 := Scalar.addi c12352_i32 v0
  let v2 : BitVec 32 := v1
  let c0_i32 : BitVec 32 := 0#32
  let c0_i32_0 : BitVec 32 := 0#32
  let c0_i32_1 : BitVec 32 := 0#32
  ![c0_i32.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InGatesRefIdeal.lean ====
abbrev S4x2048x2048 : Shape := ⟨3, ![4, 2048, 2048]⟩
abbrev S4x2048x16448 : Shape := ⟨3, ![4, 2048, 16448]⟩
abbrev S1x2048x16448 : Shape := ⟨3, ![1, 2048, 16448]⟩
abbrev S2048x16448 : Shape := ⟨2, ![2048, 16448]⟩
abbrev S8192x16448 : Shape := ⟨2, ![8192, 16448]⟩
abbrev S8192x4096 : Shape := ⟨2, ![8192, 4096]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x2048x16448, .f32⟩
  | .hbm, ⟨2, _⟩ => ⟨S1x2048x16448, .f32⟩
  | .hbm, ⟨3, _⟩ => ⟨S2048x16448, .f32⟩
  | .hbm, ⟨4, _⟩ => ⟨S4x2048x16448, .f32⟩
  | .hbm, ⟨5, _⟩ => ⟨S8192x16448, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S8192x4096, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== InDt.lean ====
abbrev S4x2048x2048 : Shape := ⟨3, ![4, 2048, 2048]⟩
abbrev S4x2048x16448 : Shape := ⟨3, ![4, 2048, 16448]⟩
abbrev S4x16448x2048 : Shape := ⟨3, ![4, 16448, 2048]⟩
abbrev S4x64x2048 : Shape := ⟨3, ![4, 64, 2048]⟩
abbrev S_ : Shape := ⟨0, ![]⟩
abbrev S4x128x2048 : Shape := ⟨3, ![4, 128, 2048]⟩
abbrev S8192x2048 : Shape := ⟨2, ![8192, 2048]⟩
abbrev S8192x128 : Shape := ⟨2, ![8192, 128]⟩
abbrev S2048x2048 : Shape := ⟨2, ![2048, 2048]⟩
abbrev S1x128x2048 : Shape := ⟨3, ![1, 128, 2048]⟩
abbrev S2048x128 : Shape := ⟨2, ![2048, 128]⟩
abbrev S128x2048 : Shape := ⟨2, ![128, 2048]⟩

abbrev nBuf : Space → Nat
  | .hbm => 10
  | .vmem => 5
  | .smem => 0
  | _ => 0

abbrev bufTy : (tb : Table) → Fin (tcTables nBuf tb) → BufTy
  | .hbm, ⟨0, _⟩ => ⟨S4x2048x2048, .f32⟩
  | .hbm, ⟨1, _⟩ => ⟨S4x2048x16448, .f32⟩
  | .hbm, ⟨2, _⟩ => ⟨S4x16448x2048, .f32⟩
  | .hbm, ⟨3, _⟩ => ⟨S4x64x2048, .f32⟩
  | .hbm, ⟨4, _⟩ => ⟨S_, .i32⟩
  | .hbm, ⟨5, _⟩ => ⟨S_, .f32⟩
  | .hbm, ⟨6, _⟩ => ⟨S4x128x2048, .f32⟩
  | .hbm, ⟨7, _⟩ => ⟨S8192x2048, .f32⟩
  | .hbm, ⟨8, _⟩ => ⟨S8192x2048, .bf16⟩
  | .hbm, ⟨9, _⟩ => ⟨S8192x128, .f32⟩
  | .local _ .vmem, ⟨0, _⟩ => ⟨S2048x2048, .bf16⟩
  | .local _ .vmem, ⟨1, _⟩ => ⟨S2048x2048, .bf16⟩
  | .local _ .vmem, ⟨2, _⟩ => ⟨S1x128x2048, .f32⟩
  | .local _ .vmem, ⟨3, _⟩ => ⟨S2048x128, .f32⟩
  | .local _ .vmem, ⟨4, _⟩ => ⟨S2048x128, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def k0_mult1 (i : grid0.Coords) : BitVec 32 :=
  let c0_i32 : BitVec 32 := 0#32
  let arg1 : BitVec 32 := BitVec.ofNat 32 (i 1).val
  let c128_i32 : BitVec 32 := 128#32
  let v0 : BitVec 32 := Scalar.muli arg1 c128_i32
  let v1 : BitVec 32 := Scalar.addi c0_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c0_i32 : BitVec 32 := 0#32
  let v1 : BitVec 32 := Scalar.addi c0_i32 v0
  let v2 : BitVec 32 := v1
  let c0_i32_0 : BitVec 32 := 0#32
  let c0_i32_1 : BitVec 32 := 0#32
  let c0_i32_2 : BitVec 32 := 0#32
  ![c0_i32_0.toNat, v2.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InDtRefIdeal.lean ====
abbrev S4x2048x2048 : Shape := ⟨3, ![4, 2048, 2048]⟩
abbrev S4x2048x16448 : Shape := ⟨3, ![4, 2048, 16448]⟩
abbrev S1x2048x16448 : Shape := ⟨3, ![1, 2048, 16448]⟩
abbrev S2048x16448 : Shape := ⟨2, ![2048, 16448]⟩
abbrev S8192x16448 : Shape := ⟨2, ![8192, 16448]⟩
abbrev S8192x64 : Shape := ⟨2, ![8192, 64]⟩
abbrev S_ : Shape := ⟨0, ![]⟩
abbrev S8192x128 : Shape := ⟨2, ![8192, 128]⟩

abbrev nBuf : Space → Nat
  | .hbm => 10
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x2048x16448, .f32⟩
  | .hbm, ⟨2, _⟩ => ⟨S1x2048x16448, .f32⟩
  | .hbm, ⟨3, _⟩ => ⟨S2048x16448, .f32⟩
  | .hbm, ⟨4, _⟩ => ⟨S4x2048x16448, .f32⟩
  | .hbm, ⟨5, _⟩ => ⟨S8192x16448, .f32⟩
  | .hbm, ⟨6, _⟩ => ⟨S8192x64, .f32⟩
  | .hbm, ⟨7, _⟩ => ⟨S_, .i32⟩
  | .hbm, ⟨8, _⟩ => ⟨S_, .f32⟩
  | .hbm, ⟨9, _⟩ => ⟨S8192x128, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== MemKv.lean ====
abbrev S4x256x2048 : Shape := ⟨3, ![4, 256, 2048]⟩
abbrev S4x2048x512 : Shape := ⟨3, ![4, 2048, 512]⟩
abbrev S1024x2048 : Shape := ⟨2, ![1024, 2048]⟩
abbrev S1024x512 : Shape := ⟨2, ![1024, 512]⟩
abbrev S1x2048x512 : Shape := ⟨3, ![1, 2048, 512]⟩
abbrev S2048x512 : Shape := ⟨2, ![2048, 512]⟩

abbrev nBuf : Space → Nat
  | .hbm => 6
  | .vmem => 3
  | .smem => 0
  | _ => 0

abbrev bufTy : (tb : Table) → Fin (tcTables nBuf tb) → BufTy
  | .hbm, ⟨0, _⟩ => ⟨S4x256x2048, .f32⟩
  | .hbm, ⟨1, _⟩ => ⟨S4x2048x512, .f32⟩
  | .hbm, ⟨2, _⟩ => ⟨S1024x2048, .f32⟩
  | .hbm, ⟨3, _⟩ => ⟨S1024x2048, .bf16⟩
  | .hbm, ⟨4, _⟩ => ⟨S4x2048x512, .bf16⟩
  | .hbm, ⟨5, _⟩ => ⟨S1024x512, .f32⟩
  | .local _ .vmem, ⟨0, _⟩ => ⟨S1024x2048, .bf16⟩
  | .local _ .vmem, ⟨1, _⟩ => ⟨S1x2048x512, .bf16⟩
  | .local _ .vmem, ⟨2, _⟩ => ⟨S1024x512, .f32⟩
  | _, _ => ⟨S4x256x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== MemKvRefIdeal.lean ====
abbrev S4x256x2048 : Shape := ⟨3, ![4, 256, 2048]⟩
abbrev S4x2048x512 : Shape := ⟨3, ![4, 2048, 512]⟩
abbrev S1x2048x512 : Shape := ⟨3, ![1, 2048, 512]⟩
abbrev S2048x512 : Shape := ⟨2, ![2048, 512]⟩
abbrev S4x256x512 : Shape := ⟨3, ![4, 256, 512]⟩
abbrev S1024x512 : Shape := ⟨2, ![1024, 512]⟩

abbrev nBuf : Space → Nat
  | .hbm => 6
  | .vmem => 0
  | .smem => 0
  | _ => 0

abbrev bufTy : (tb : Table) → Fin (tcTables nBuf tb) → BufTy
  | .hbm, ⟨0, _⟩ => ⟨S4x256x2048, .f32⟩
  | .hbm, ⟨1, _⟩ => ⟨S4x2048x512, .f32⟩
  | .hbm, ⟨2, _⟩ => ⟨S1x2048x512, .f32⟩
  | .hbm, ⟨3, _⟩ => ⟨S2048x512, .f32⟩
  | .hbm, ⟨4, _⟩ => ⟨S4x256x512, .f32⟩
  | .hbm, ⟨5, _⟩ => ⟨S1024x512, .f32⟩
  | _, _ => ⟨S4x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Merge.lean ====
abbrev S8192x4096 : Shape := ⟨2, ![8192, 4096]⟩
abbrev S8192x2048 : Shape := ⟨2, ![8192, 2048]⟩
abbrev S4x4096x2048 : Shape := ⟨3, ![4, 4096, 2048]⟩
abbrev S4x2048x2048 : Shape := ⟨3, ![4, 2048, 2048]⟩
abbrev S4x2048 : Shape := ⟨2, ![4, 2048]⟩
abbrev S4x1x2048 : Shape := ⟨3, ![4, 1, 2048]⟩
abbrev S256x4096 : Shape := ⟨2, ![256, 4096]⟩
abbrev S256x2048 : Shape := ⟨2, ![256, 2048]⟩
abbrev S1x4096x2048 : Shape := ⟨3, ![1, 4096, 2048]⟩
abbrev S1x2048x2048 : Shape := ⟨3, ![1, 2048, 2048]⟩
abbrev S1x1x2048 : Shape := ⟨3, ![1, 1, 2048]⟩
abbrev S128x4096 : Shape := ⟨2, ![128, 4096]⟩
abbrev S4096x2048 : Shape := ⟨2, ![4096, 2048]⟩
abbrev S128x2048 : Shape := ⟨2, ![128, 2048]⟩
abbrev S2048x2048 : Shape := ⟨2, ![2048, 2048]⟩
abbrev S1x2048 : Shape := ⟨2, ![1, 2048]⟩
abbrev S128 : Shape := ⟨1, ![128]⟩
abbrev S128x1 : Shape := ⟨2, ![128, 1]⟩

abbrev nBuf : Space → Nat
  | .hbm => 14
  | .vmem => 16
  | .smem => 0
  | _ => 0

abbrev bufTy : (tb : Table) → Fin (tcTables nBuf tb) → BufTy
  | .hbm, ⟨0, _⟩ => ⟨S8192x4096, .bf16⟩
  | .hbm, ⟨1, _⟩ => ⟨S8192x4096, .bf16⟩
  | .hbm, ⟨2, _⟩ => ⟨S8192x2048, .f32⟩
  | .hbm, ⟨3, _⟩ => ⟨S8192x2048, .f32⟩
  | .hbm, ⟨4, _⟩ => ⟨S4x4096x2048, .f32⟩
  | .hbm, ⟨5, _⟩ => ⟨S4x2048x2048, .f32⟩
  | .hbm, ⟨6, _⟩ => ⟨S4x2048, .f32⟩
  | .hbm, ⟨7, _⟩ => ⟨S4x2048, .f32⟩
  | .hbm, ⟨8, _⟩ => ⟨S4x4096x2048, .bf16⟩
  | .hbm, ⟨9, _⟩ => ⟨S4x2048x2048, .bf16⟩
  | .hbm, ⟨10, _⟩ => ⟨S4x1x2048, .f32⟩
  | .hbm, ⟨11, _⟩ => ⟨S4x1x2048, .f32⟩
  | .hbm, ⟨12, _⟩ => ⟨S8192x2048, .f32⟩
  | .hbm, ⟨13, _⟩ => ⟨S8192x2048, .bf16⟩
  | .local _ .vmem, ⟨0, _⟩ => ⟨S256x4096, .bf16⟩
  | .local _ .vmem, ⟨1, _⟩ => ⟨S256x4096, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S1x4096x2048, .bf16⟩
  | .local _ .vmem, ⟨9, _⟩ => ⟨S1x2048x2048, .bf16⟩
  | .local _ .vmem, ⟨10, _⟩ => ⟨S1x1x2048, .f32⟩
  | .local _ .vmem, ⟨11, _⟩ => ⟨S1x1x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .bf16⟩
  | .local _ .vmem, ⟨15, _⟩ => ⟨S256x2048, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x4096x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MergeRefIdeal.lean ====
abbrev S8192x4096 : Shape := ⟨2, ![8192, 4096]⟩
abbrev S8192x2048 : Shape := ⟨2, ![8192, 2048]⟩
abbrev S4x4096x2048 : Shape := ⟨3, ![4, 4096, 2048]⟩
abbrev S4x2048x2048 : Shape := ⟨3, ![4, 2048, 2048]⟩
abbrev S4x2048 : Shape := ⟨2, ![4, 2048]⟩
abbrev S1x4096x2048 : Shape := ⟨3, ![1, 4096, 2048]⟩
abbrev S4096x2048 : Shape := ⟨2, ![4096, 2048]⟩
abbrev S1x2048x2048 : Shape := ⟨3, ![1, 2048, 2048]⟩
abbrev S2048x2048 : Shape := ⟨2, ![2048, 2048]⟩
abbrev S_ : Shape := ⟨0, ![]⟩
abbrev S1x2048 : Shape := ⟨2, ![1, 2048]⟩
abbrev S2048 : Shape := ⟨1, ![2048]⟩
abbrev S8192 : Shape := ⟨1, ![8192]⟩
abbrev S8192x1 : Shape := ⟨2, ![8192, 1]⟩

abbrev nBuf : Space → Nat
  | .hbm => 57
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x4096, .bf16⟩
  | .hbm, ⟨2, _⟩ => ⟨S8192x2048, .f32⟩
  | .hbm, ⟨3, _⟩ => ⟨S8192x2048, .f32⟩
  | .hbm, ⟨4, _⟩ => ⟨S4x4096x2048, .f32⟩
  | .hbm, ⟨5, _⟩ => ⟨S4x2048x2048, .f32⟩
  | .hbm, ⟨6, _⟩ => ⟨S4x2048, .f32⟩
  | .hbm, ⟨7, _⟩ => ⟨S4x2048, .f32⟩
  | .hbm, ⟨8, _⟩ => ⟨S8192x4096, .f32⟩
  | .hbm, ⟨9, _⟩ => ⟨S1x4096x2048, .f32⟩
  | .hbm, ⟨10, _⟩ => ⟨S4096x2048, .f32⟩
  | .hbm, ⟨11, _⟩ => ⟨S8192x2048, .f32⟩
  | .hbm, ⟨12, _⟩ => ⟨S8192x2048, .bf16⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S1x2048x2048, .f32⟩
  | .hbm, ⟨17, _⟩ => ⟨S2048x2048, .f32⟩
  | .hbm, ⟨18, _⟩ => ⟨S8192x2048, .f32⟩
  | .hbm, ⟨19, _⟩ => ⟨S_, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S1x2048, .f32⟩
  | .hbm, ⟨24, _⟩ => ⟨S2048, .f32⟩
  | .hbm, ⟨25, _⟩ => ⟨S1x2048, .f32⟩
  | .hbm, ⟨26, _⟩ => ⟨S2048, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S8192x2048, .f32⟩
  | .hbm, ⟨43, _⟩ => ⟨S8192x2048, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S8192x1, .f32⟩
  | .hbm, ⟨48, _⟩ => ⟨S8192x2048, .f32⟩
  | .hbm, ⟨49, _⟩ => ⟨S8192x2048, .f32⟩
  | .hbm, ⟨50, _⟩ => ⟨S1x2048, .f32⟩
  | .hbm, ⟨51, _⟩ => ⟨S8192x2048, .f32⟩
  | .hbm, ⟨52, _⟩ => ⟨S8192x2048, .f32⟩
  | .hbm, ⟨53, _⟩ => ⟨S1x2048, .f32⟩
  | .hbm, ⟨54, _⟩ => ⟨S8192x2048, .f32⟩
  | .hbm, ⟨55, _⟩ => ⟨S8192x2048, .f32⟩
  | .hbm, ⟨56, _⟩ => ⟨S8192x2048, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_0 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== Ffn.lean ====
abbrev S8192x2048 : Shape := ⟨2, ![8192, 2048]⟩
abbrev S4x2048x5632 : Shape := ⟨3, ![4, 2048, 5632]⟩
abbrev S4x5632x2048 : Shape := ⟨3, ![4, 5632, 2048]⟩
abbrev S4x2048 : Shape := ⟨2, ![4, 2048]⟩
abbrev S4x1x2048 : Shape := ⟨3, ![4, 1, 2048]⟩
abbrev S1024x2048 : Shape := ⟨2, ![1024, 2048]⟩
abbrev S1x2048x512 : Shape := ⟨3, ![1, 2048, 512]⟩
abbrev S1x512x2048 : Shape := ⟨3, ![1, 512, 2048]⟩
abbrev S1x1x2048 : Shape := ⟨3, ![1, 1, 2048]⟩
abbrev S2048x512 : Shape := ⟨2, ![2048, 512]⟩
abbrev S1024x512 : Shape := ⟨2, ![1024, 512]⟩
abbrev S1024x1024 : Shape := ⟨2, ![1024, 1024]⟩
abbrev S1x512x1024 : Shape := ⟨3, ![1, 512, 1024]⟩
abbrev S512x1024 : Shape := ⟨2, ![512, 1024]⟩
abbrev S256x2048 : Shape := ⟨2, ![256, 2048]⟩
abbrev S1x2048 : Shape := ⟨2, ![1, 2048]⟩
abbrev S256 : Shape := ⟨1, ![256]⟩
abbrev S256x1 : Shape := ⟨2, ![256, 1]⟩

abbrev nBuf : Space → Nat
  | .hbm => 14
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S4x2048x5632, .f32⟩
  | .hbm, ⟨2, _⟩ => ⟨S4x2048x5632, .f32⟩
  | .hbm, ⟨3, _⟩ => ⟨S4x5632x2048, .f32⟩
  | .hbm, ⟨4, _⟩ => ⟨S4x2048, .f32⟩
  | .hbm, ⟨5, _⟩ => ⟨S4x2048, .f32⟩
  | .hbm, ⟨6, _⟩ => ⟨S8192x2048, .bf16⟩
  | .hbm, ⟨7, _⟩ => ⟨S4x2048x5632, .bf16⟩
  | .hbm, ⟨8, _⟩ => ⟨S4x2048x5632, .bf16⟩
  | .hbm, ⟨9, _⟩ => ⟨S4x5632x2048, .bf16⟩
  | .hbm, ⟨10, _⟩ => ⟨S4x1x2048, .f32⟩
  | .hbm, ⟨11, _⟩ => ⟨S4x1x2048, .f32⟩
  | .hbm, ⟨12, _⟩ => ⟨S8192x2048, .f32⟩
  | .hbm, ⟨13, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .f32⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x512x2048, .bf16⟩
  | .local _ .vmem, ⟨8, _⟩ => ⟨S1x512x2048, .bf16⟩
  | .local _ .vmem, ⟨9, _⟩ => ⟨S1x1x2048, .f32⟩
  | .local _ .vmem, ⟨10, _⟩ => ⟨S1x1x2048, .f32⟩
  | .local _ .vmem, ⟨11, _⟩ => ⟨S1024x2048, .f32⟩
  | .local _ .vmem, ⟨12, _⟩ => ⟨S1024x2048, .bf16⟩
  | .local _ .vmem, ⟨13, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![8, 11], ![false, false]⟩

def k0_cond2 (i : grid0.Coords) : BitVec 1 :=
  let arg1 : BitVec 32 := BitVec.ofNat 32 (i 1).val
  let c10_i32 : BitVec 32 := 10#32
  let v29 : BitVec 1 := Scalar.cmpi .eq arg1 c10_i32
  let v30 : BitVec 32 := Scalar.extui v29
  let c0_i32_24 : BitVec 32 := 0#32
  let v31 : BitVec 1 := Scalar.cmpi .ne v30 c0_i32_24
  v31

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 2 → Memref sig .tc .vmem S1024x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== FfnRefIdeal.lean ====
abbrev S8192x2048 : Shape := ⟨2, ![8192, 2048]⟩
abbrev S4x2048x5632 : Shape := ⟨3, ![4, 2048, 5632]⟩
abbrev S4x5632x2048 : Shape := ⟨3, ![4, 5632, 2048]⟩
abbrev S4x2048 : Shape := ⟨2, ![4, 2048]⟩
abbrev S1x2048x5632 : Shape := ⟨3, ![1, 2048, 5632]⟩
abbrev S2048x5632 : Shape := ⟨2, ![2048, 5632]⟩
abbrev S8192x5632 : Shape := ⟨2, ![8192, 5632]⟩
abbrev S_ : Shape := ⟨0, ![]⟩
abbrev S1x5632x2048 : Shape := ⟨3, ![1, 5632, 2048]⟩
abbrev S5632x2048 : Shape := ⟨2, ![5632, 2048]⟩
abbrev S1x2048 : Shape := ⟨2, ![1, 2048]⟩
abbrev S2048 : Shape := ⟨1, ![2048]⟩
abbrev S8192 : Shape := ⟨1, ![8192]⟩
abbrev S8192x1 : Shape := ⟨2, ![8192, 1]⟩

abbrev nBuf : Space → Nat
  | .hbm => 63
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x2048x5632, .f32⟩
  | .hbm, ⟨2, _⟩ => ⟨S4x2048x5632, .f32⟩
  | .hbm, ⟨3, _⟩ => ⟨S4x5632x2048, .f32⟩
  | .hbm, ⟨4, _⟩ => ⟨S4x2048, .f32⟩
  | .hbm, ⟨5, _⟩ => ⟨S4x2048, .f32⟩
  | .hbm, ⟨6, _⟩ => ⟨S1x2048x5632, .f32⟩
  | .hbm, ⟨7, _⟩ => ⟨S2048x5632, .f32⟩
  | .hbm, ⟨8, _⟩ => ⟨S8192x5632, .f32⟩
  | .hbm, ⟨9, _⟩ => ⟨S1x2048x5632, .f32⟩
  | .hbm, ⟨10, _⟩ => ⟨S2048x5632, .f32⟩
  | .hbm, ⟨11, _⟩ => ⟨S8192x5632, .f32⟩
  | .hbm, ⟨12, _⟩ => ⟨S8192x5632, .f32⟩
  | .hbm, ⟨13, _⟩ => ⟨S8192x5632, .f32⟩
  | .hbm, ⟨14, _⟩ => ⟨S_, .f32⟩
  | .hbm, ⟨15, _⟩ => ⟨S8192x5632, .f32⟩
  | .hbm, ⟨16, _⟩ => ⟨S8192x5632, .f32⟩
  | .hbm, ⟨17, _⟩ => ⟨S_, .f32⟩
  | .hbm, ⟨18, _⟩ => ⟨S8192x5632, .f32⟩
  | .hbm, ⟨19, _⟩ => ⟨S8192x5632, .f32⟩
  | .hbm, ⟨20, _⟩ => ⟨S8192x5632, .f32⟩
  | .hbm, ⟨21, _⟩ => ⟨S8192x5632, .f32⟩
  | .hbm, ⟨22, _⟩ => ⟨S1x5632x2048, .f32⟩
  | .hbm, ⟨23, _⟩ => ⟨S5632x2048, .f32⟩
  | .hbm, ⟨24, _⟩ => ⟨S8192x2048, .f32⟩
  | .hbm, ⟨25, _⟩ => ⟨S_, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S1x2048, .f32⟩
  | .hbm, ⟨30, _⟩ => ⟨S2048, .f32⟩
  | .hbm, ⟨31, _⟩ => ⟨S1x2048, .f32⟩
  | .hbm, ⟨32, _⟩ => ⟨S2048, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S_, .f32⟩
  | .hbm, ⟨43, _⟩ => ⟨S8192, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S8192x2048, .f32⟩
  | .hbm, ⟨49, _⟩ => ⟨S8192x2048, .f32⟩
  | .hbm, ⟨50, _⟩ => ⟨S_, .f32⟩
  | .hbm, ⟨51, _⟩ => ⟨S8192x1, .f32⟩
  | .hbm, ⟨52, _⟩ => ⟨S8192x1, .f32⟩
  | .hbm, ⟨53, _⟩ => ⟨S8192x1, .f32⟩
  | .hbm, ⟨54, _⟩ => ⟨S8192x2048, .f32⟩
  | .hbm, ⟨55, _⟩ => ⟨S8192x2048, .f32⟩
  | .hbm, ⟨56, _⟩ => ⟨S1x2048, .f32⟩
  | .hbm, ⟨57, _⟩ => ⟨S8192x2048, .f32⟩
  | .hbm, ⟨58, _⟩ => ⟨S8192x2048, .f32⟩
  | .hbm, ⟨59, _⟩ => ⟨S1x2048, .f32⟩
  | .hbm, ⟨60, _⟩ => ⟨S8192x2048, .f32⟩
  | .hbm, ⟨61, _⟩ => ⟨S8192x2048, .f32⟩
  | .hbm, ⟨62, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_0 : Ref sig .tc := ⟨.hbm, 33, rfl⟩
abbrev main_v18 : Ref sig .tc := ⟨.hbm, 34, rfl⟩
abbrev main_v19 : Ref sig .tc := ⟨.hbm, 35, rfl⟩
abbrev main_cst_1 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_2 : Ref sig .tc := ⟨.hbm, 42, rfl⟩
abbrev main_v25 : Ref sig .tc := ⟨.hbm, 43, rfl⟩
abbrev main_v26 : Ref sig .tc := ⟨.hbm, 44, rfl⟩
abbrev main_cst_3 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_4 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩

abbrev nD : Nat := 1
abbrev τ : Topo := Topo.v7x

variable {F : FTy → Type} [FloatOps F]
-- ==== PoolSample.lean ====
abbrev S128x2048 : Shape := ⟨2, ![128, 2048]⟩
abbrev S128x4096 : Shape := ⟨2, ![128, 4096]⟩
abbrev S4x128x15x2048 : Shape := ⟨4, ![4, 128, 15, 2048]⟩
abbrev S4x4x512x512 : Shape := ⟨4, ![4, 4, 512, 512]⟩
abbrev S4x2048 : Shape := ⟨2, ![4, 2048]⟩
abbrev S4x2048x2048 : Shape := ⟨3, ![4, 2048, 2048]⟩
abbrev S4x15x128x2048 : Shape := ⟨4, ![4, 15, 128, 2048]⟩
abbrev S4x1x2048 : Shape := ⟨3, ![4, 1, 2048]⟩
abbrev S_ : Shape := ⟨0, ![]⟩
abbrev S32x2048 : Shape := ⟨2, ![32, 2048]⟩
abbrev S1x4x512x512 : Shape := ⟨4, ![1, 4, 512, 512]⟩
abbrev S1x1x2048 : Shape := ⟨3, ![1, 1, 2048]⟩
abbrev S1x2048x2048 : Shape := ⟨3, ![1, 2048, 2048]⟩
abbrev S1x15x32x2048 : Shape := ⟨4, ![1, 15, 32, 2048]⟩
abbrev S1x1x32x2048 : Shape := ⟨4, ![1, 1, 32, 2048]⟩
abbrev S32x512 : Shape := ⟨2, ![32, 512]⟩
abbrev S1x1x32x512 : Shape := ⟨4, ![1, 1, 32, 512]⟩
abbrev S1x1x512x512 : Shape := ⟨4, ![1, 1, 512, 512]⟩
abbrev S512x512 : Shape := ⟨2, ![512, 512]⟩
abbrev S1x1x512 : Shape := ⟨3, ![1, 1, 512]⟩
abbrev S1x512 : Shape := ⟨2, ![1, 512]⟩
abbrev S2048x2048 : Shape := ⟨2, ![2048, 2048]⟩

abbrev nBuf : Space → Nat
  | .hbm => 14
  | .vmem => 14
  | .smem => 0
  | _ => 0

abbrev bufTy : (tb : Table) → Fin (tcTables nBuf tb) → BufTy
  | .hbm, ⟨0, _⟩ => ⟨S128x2048, .f32⟩
  | .hbm, ⟨1, _⟩ => ⟨S128x4096, .bf16⟩
  | .hbm, ⟨2, _⟩ => ⟨S4x128x15x2048, .f32⟩
  | .hbm, ⟨3, _⟩ => ⟨S4x4x512x512, .f32⟩
  | .hbm, ⟨4, _⟩ => ⟨S4x2048, .f32⟩
  | .hbm, ⟨5, _⟩ => ⟨S4x2048x2048, .f32⟩
  | .hbm, ⟨6, _⟩ => ⟨S4x15x128x2048, .f32⟩
  | .hbm, ⟨7, _⟩ => ⟨S4x4x512x512, .bf16⟩
  | .hbm, ⟨8, _⟩ => ⟨S4x1x2048, .f32⟩
  | .hbm, ⟨9, _⟩ => ⟨S4x2048x2048, .bf16⟩
  | .hbm, ⟨10, _⟩ => ⟨S_, .f32⟩
  | .hbm, ⟨11, _⟩ => ⟨S4x15x128x2048, .f32⟩
  | .hbm, ⟨12, _⟩ => ⟨S128x2048, .f32⟩
  | .hbm, ⟨13, _⟩ => ⟨S4x15x128x2048, .f32⟩
  | .local _ .vmem, ⟨0, _⟩ => ⟨S32x2048, .f32⟩
  | .local _ .vmem, ⟨1, _⟩ => ⟨S32x2048, .f32⟩
  | .local _ .vmem, ⟨2, _⟩ => ⟨S1x4x512x512, .bf16⟩
  | .local _ .vmem, ⟨3, _⟩ => ⟨S1x1x2048, .f32⟩
  | .local _ .vmem, ⟨4, _⟩ => ⟨S1x2048x2048, .bf16⟩
  | .local _ .vmem, ⟨5, _⟩ => ⟨S32x2048, .bf16⟩
  | .local _ .vmem, ⟨6, _⟩ => ⟨S32x2048, .bf16⟩
  | .local _ .vmem, ⟨7, _⟩ => ⟨S1x15x32x2048, .f32⟩
  | .local _ .vmem, ⟨8, _⟩ => ⟨S1x15x32x2048, .f32⟩
  | .local _ .vmem, ⟨9, _⟩ => ⟨S32x2048, .f32⟩
  | .local _ .vmem, ⟨10, _⟩ => ⟨S32x2048, .f32⟩
  | .local _ .vmem, ⟨11, _⟩ => ⟨S1x15x32x2048, .f32⟩
  | .local _ .vmem, ⟨12, _⟩ => ⟨S1x15x32x2048, .f32⟩
  | .local _ .vmem, ⟨13, _⟩ => ⟨S32x2048, .bf16⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

abbrev stage0_0 : Fin 2 → Memref sig .tc .vmem S32x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4x512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S32x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x15x32x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x15x32x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== PoolSampleRefIdeal.lean ====
abbrev S128x2048 : Shape := ⟨2, ![128, 2048]⟩
abbrev S128x4096 : Shape := ⟨2, ![128, 4096]⟩
abbrev S4x128x15x2048 : Shape := ⟨4, ![4, 128, 15, 2048]⟩
abbrev S4x4x512x512 : Shape := ⟨4, ![4, 4, 512, 512]⟩
abbrev S4x2048 : Shape := ⟨2, ![4, 2048]⟩
abbrev S4x2048x2048 : Shape := ⟨3, ![4, 2048, 2048]⟩
abbrev S1x128x15x2048 : Shape := ⟨4, ![1, 128, 15, 2048]⟩
abbrev S128x15x2048 : Shape := ⟨3, ![128, 15, 2048]⟩
abbrev S128x1x2048 : Shape := ⟨3, ![128, 1, 2048]⟩
abbrev S128x16x2048 : Shape := ⟨3, ![128, 16, 2048]⟩
abbrev S128x2x512 : Shape := ⟨3, ![128, 2, 512]⟩
abbrev S_ : Shape := ⟨0, ![]⟩
abbrev S128x512 : Shape := ⟨2, ![128, 512]⟩
abbrev S128x4x512 : Shape := ⟨3, ![128, 4, 512]⟩
abbrev S128x8x512 : Shape := ⟨3, ![128, 8, 512]⟩
abbrev S128x16x512 : Shape := ⟨3, ![128, 16, 512]⟩
abbrev S1x4x512x512 : Shape := ⟨4, ![1, 4, 512, 512]⟩
abbrev S4x512x512 : Shape := ⟨3, ![4, 512, 512]⟩
abbrev S4x512x128 : Shape := ⟨3, ![4, 512, 128]⟩
abbrev S1x2048 : Shape := ⟨2, ![1, 2048]⟩
abbrev S2048 : Shape := ⟨1, ![2048]⟩
abbrev S1x2048x2048 : Shape := ⟨3, ![1, 2048, 2048]⟩
abbrev S2048x2048 : Shape := ⟨2, ![2048, 2048]⟩
abbrev S15x128x2048 : Shape := ⟨3, ![15, 128, 2048]⟩
abbrev S1x15x128x2048 : Shape := ⟨4, ![1, 15, 128, 2048]⟩
abbrev S3x15x128x2048 : Shape := ⟨4, ![3, 15, 128, 2048]⟩
abbrev S4x15x128x2048 : Shape := ⟨4, ![4, 15, 128, 2048]⟩

abbrev nBuf : Space → Nat
  | .hbm => 59
  | .vmem => 0
  | .smem => 0
  | _ => 0

abbrev bufTy : (tb : Table) → Fin (tcTables nBuf tb) → BufTy
  | .hbm, ⟨0, _⟩ => ⟨S128x2048, .f32⟩
  | .hbm, ⟨1, _⟩ => ⟨S128x4096, .bf16⟩
  | .hbm, ⟨2, _⟩ => ⟨S4x128x15x2048, .f32⟩
  | .hbm, ⟨3, _⟩ => ⟨S4x4x512x512, .f32⟩
  | .hbm, ⟨4, _⟩ => ⟨S4x2048, .f32⟩
  | .hbm, ⟨5, _⟩ => ⟨S4x2048x2048, .f32⟩
  | .hbm, ⟨6, _⟩ => ⟨S1x128x15x2048, .f32⟩
  | .hbm, ⟨7, _⟩ => ⟨S128x15x2048, .f32⟩
  | .hbm, ⟨8, _⟩ => ⟨S128x1x2048, .f32⟩
  | .hbm, ⟨9, _⟩ => ⟨S128x16x2048, .f32⟩
  | .hbm, ⟨10, _⟩ => ⟨S128x2x512, .f32⟩
  | .hbm, ⟨11, _⟩ => ⟨S_, .f32⟩
  | .hbm, ⟨12, _⟩ => ⟨S128x512, .f32⟩
  | .hbm, ⟨13, _⟩ => ⟨S_, .f32⟩
  | .hbm, ⟨14, _⟩ => ⟨S128x512, .f32⟩
  | .hbm, ⟨15, _⟩ => ⟨S128x512, .f32⟩
  | .hbm, ⟨16, _⟩ => ⟨S128x4x512, .f32⟩
  | .hbm, ⟨17, _⟩ => ⟨S_, .f32⟩
  | .hbm, ⟨18, _⟩ => ⟨S128x512, .f32⟩
  | .hbm, ⟨19, _⟩ => ⟨S_, .f32⟩
  | .hbm, ⟨20, _⟩ => ⟨S128x512, .f32⟩
  | .hbm, ⟨21, _⟩ => ⟨S128x512, .f32⟩
  | .hbm, ⟨22, _⟩ => ⟨S128x8x512, .f32⟩
  | .hbm, ⟨23, _⟩ => ⟨S_, .f32⟩
  | .hbm, ⟨24, _⟩ => ⟨S128x512, .f32⟩
  | .hbm, ⟨25, _⟩ => ⟨S_, .f32⟩
  | .hbm, ⟨26, _⟩ => ⟨S128x512, .f32⟩
  | .hbm, ⟨27, _⟩ => ⟨S128x512, .f32⟩
  | .hbm, ⟨28, _⟩ => ⟨S128x16x512, .f32⟩
  | .hbm, ⟨29, _⟩ => ⟨S_, .f32⟩
  | .hbm, ⟨30, _⟩ => ⟨S128x512, .f32⟩
  | .hbm, ⟨31, _⟩ => ⟨S_, .f32⟩
  | .hbm, ⟨32, _⟩ => ⟨S128x512, .f32⟩
  | .hbm, ⟨33, _⟩ => ⟨S128x512, .f32⟩
  | .hbm, ⟨34, _⟩ => ⟨S128x2048, .f32⟩
  | .hbm, ⟨35, _⟩ => ⟨S128x2048, .f32⟩
  | .hbm, ⟨36, _⟩ => ⟨S128x4x512, .f32⟩
  | .hbm, ⟨37, _⟩ => ⟨S1x4x512x512, .f32⟩
  | .hbm, ⟨38, _⟩ => ⟨S4x512x512, .f32⟩
  | .hbm, ⟨39, _⟩ => ⟨S4x512x128, .f32⟩
  | .hbm, ⟨40, _⟩ => ⟨S128x4x512, .f32⟩
  | .hbm, ⟨41, _⟩ => ⟨S128x2048, .f32⟩
  | .hbm, ⟨42, _⟩ => ⟨S1x2048, .f32⟩
  | .hbm, ⟨43, _⟩ => ⟨S2048, .f32⟩
  | .hbm, ⟨44, _⟩ => ⟨S1x2048, .f32⟩
  | .hbm, ⟨45, _⟩ => ⟨S128x2048, .f32⟩
  | .hbm, ⟨46, _⟩ => ⟨S128x2048, .f32⟩
  | .hbm, ⟨47, _⟩ => ⟨S1x2048x2048, .f32⟩
  | .hbm, ⟨48, _⟩ => ⟨S2048x2048, .f32⟩
  | .hbm, ⟨49, _⟩ => ⟨S128x2048, .f32⟩
  | .hbm, ⟨50, _⟩ => ⟨S128x15x2048, .f32⟩
  | .hbm, ⟨51, _⟩ => ⟨S15x128x2048, .f32⟩
  | .hbm, ⟨52, _⟩ => ⟨S1x15x128x2048, .f32⟩
  | .hbm, ⟨53, _⟩ => ⟨S_, .f32⟩
  | .hbm, ⟨54, _⟩ => ⟨S3x15x128x2048, .f32⟩
  | .hbm, ⟨55, _⟩ => ⟨S4x15x128x2048, .f32⟩
  | .hbm, ⟨56, _⟩ => ⟨S128x2048, .bf16⟩
  | .hbm, ⟨57, _⟩ => ⟨S128x2048, .f32⟩
  | .hbm, ⟨58, _⟩ => ⟨S128x2048, .f32⟩
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_cst_4 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_cst_6 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_7 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]
-- ==== ConvSample.lean ====
abbrev S128x6144 : Shape := ⟨2, ![128, 6144]⟩
abbrev S128x128 : Shape := ⟨2, ![128, 128]⟩
abbrev S4x128x3x6144 : Shape := ⟨4, ![4, 128, 3, 6144]⟩
abbrev S4x4x6144 : Shape := ⟨3, ![4, 4, 6144]⟩
abbrev S4x6144 : Shape := ⟨2, ![4, 6144]⟩
abbrev S4x64 : Shape := ⟨2, ![4, 64]⟩
abbrev S4x3x128x6144 : Shape := ⟨4, ![4, 3, 128, 6144]⟩
abbrev S128 : Shape := ⟨1, ![128]⟩
abbrev S128x1 : Shape := ⟨2, ![128, 1]⟩
abbrev S4096 : Shape := ⟨1, ![4096]⟩
abbrev S1x4096 : Shape := ⟨2, ![1, 4096]⟩
abbrev S_ : Shape := ⟨0, ![]⟩
abbrev S128x4096 : Shape := ⟨2, ![128, 4096]⟩
abbrev S256x4096 : Shape := ⟨2, ![256, 4096]⟩
abbrev S4x1x6144 : Shape := ⟨3, ![4, 1, 6144]⟩
abbrev S4x128 : Shape := ⟨2, ![4, 128]⟩
abbrev S4x1x128 : Shape := ⟨3, ![4, 1, 128]⟩
abbrev S128x1024 : Shape := ⟨2, ![128, 1024]⟩
abbrev S32x6144 : Shape := ⟨2, ![32, 6144]⟩
abbrev S1x4x6144 : Shape := ⟨3, ![1, 4, 6144]⟩
abbrev S1x1x6144 : Shape := ⟨3, ![1, 1, 6144]⟩
abbrev S32x128 : Shape := ⟨2, ![32, 128]⟩
abbrev S1x1x128 : Shape := ⟨3, ![1, 1, 128]⟩
abbrev S1x3x32x6144 : Shape := ⟨4, ![1, 3, 32, 6144]⟩
abbrev S32x4096 : Shape := ⟨2, ![32, 4096]⟩
abbrev S32x1024 : Shape := ⟨2, ![32, 1024]⟩
abbrev S1x6144 : Shape := ⟨2, ![1, 6144]⟩
abbrev S1x1x32x6144 : Shape := ⟨4, ![1, 1, 32, 6144]⟩
abbrev S1x128 : Shape := ⟨2, ![1, 128]⟩
abbrev S32x256 : Shape := ⟨2, ![32, 256]⟩

abbrev nBuf : Space → Nat
  | .hbm => 57
  | .vmem => 23
  | .smem => 0
  | _ => 0

abbrev bufTy : (tb : Table) → Fin (tcTables nBuf tb) → BufTy
  | .hbm, ⟨0, _⟩ => ⟨S128x6144, .f32⟩
  | .hbm, ⟨1, _⟩ => ⟨S128x128, .f32⟩
  | .hbm, ⟨2, _⟩ => ⟨S4x128x3x6144, .f32⟩
  | .hbm, ⟨3, _⟩ => ⟨S4x4x6144, .f32⟩
  | .hbm, ⟨4, _⟩ => ⟨S4x6144, .f32⟩
  | .hbm, ⟨5, _⟩ => ⟨S4x64, .f32⟩
  | .hbm, ⟨6, _⟩ => ⟨S4x64, .f32⟩
  | .hbm, ⟨7, _⟩ => ⟨S4x3x128x6144, .f32⟩
  | .hbm, ⟨8, _⟩ => ⟨S128, .i32⟩
  | .hbm, ⟨9, _⟩ => ⟨S128x1, .i32⟩
  | .hbm, ⟨10, _⟩ => ⟨S4096, .i32⟩
  | .hbm, ⟨11, _⟩ => ⟨S1x4096, .i32⟩
  | .hbm, ⟨12, _⟩ => ⟨S_, .i32⟩
  | .hbm, ⟨13, _⟩ => ⟨S_, .i32⟩
  | .hbm, ⟨14, _⟩ => ⟨S1x4096, .i32⟩
  | .hbm, ⟨15, _⟩ => ⟨S1x4096, .i32⟩
  | .hbm, ⟨16, _⟩ => ⟨S1x4096, .i32⟩
  | .hbm, ⟨17, _⟩ => ⟨S_, .i32⟩
  | .hbm, ⟨18, _⟩ => ⟨S1x4096, .i32⟩
  | .hbm, ⟨19, _⟩ => ⟨S1x4096, .i1⟩
  | .hbm, ⟨20, _⟩ => ⟨S1x4096, .i32⟩
  | .hbm, ⟨21, _⟩ => ⟨S1x4096, .i32⟩
  | .hbm, ⟨22, _⟩ => ⟨S_, .i32⟩
  | .hbm, ⟨23, _⟩ => ⟨S1x4096, .i32⟩
  | .hbm, ⟨24, _⟩ => ⟨S1x4096, .i1⟩
  | .hbm, ⟨25, _⟩ => ⟨S1x4096, .i1⟩
  | .hbm, ⟨26, _⟩ => ⟨S_, .i32⟩
  | .hbm, ⟨27, _⟩ => ⟨S1x4096, .i32⟩
  | .hbm, ⟨28, _⟩ => ⟨S1x4096, .i32⟩
  | .hbm, ⟨29, _⟩ => ⟨S1x4096, .i32⟩
  | .hbm, ⟨30, _⟩ => ⟨S128x4096, .i32⟩
  | .hbm, ⟨31, _⟩ => ⟨S128x4096, .i32⟩
  | .hbm, ⟨32, _⟩ => ⟨S128x4096, .i1⟩
  | .hbm, ⟨33, _⟩ => ⟨S_, .i32⟩
  | .hbm, ⟨34, _⟩ => ⟨S128x1, .i32⟩
  | .hbm, ⟨35, _⟩ => ⟨S128x1, .i1⟩
  | .hbm, ⟨36, _⟩ => ⟨S128x4096, .i1⟩
  | .hbm, ⟨37, _⟩ => ⟨S128x4096, .i1⟩
  | .hbm, ⟨38, _⟩ => ⟨S128x4096, .bf16⟩
  | .hbm, ⟨39, _⟩ => ⟨S256x4096, .bf16⟩
  | .hbm, ⟨40, _⟩ => ⟨S4x1x6144, .f32⟩
  | .hbm, ⟨41, _⟩ => ⟨S_, .i32⟩
  | .hbm, ⟨42, _⟩ => ⟨S_, .f32⟩
  | .hbm, ⟨43, _⟩ => ⟨S4x128, .f32⟩
  | .hbm, ⟨44, _⟩ => ⟨S4x1x128, .f32⟩
  | .hbm, ⟨45, _⟩ => ⟨S_, .i32⟩
  | .hbm, ⟨46, _⟩ => ⟨S_, .f32⟩
  | .hbm, ⟨47, _⟩ => ⟨S4x128, .f32⟩
  | .hbm, ⟨48, _⟩ => ⟨S4x1x128, .f32⟩
  | .hbm, ⟨49, _⟩ => ⟨S_, .f32⟩
  | .hbm, ⟨50, _⟩ => ⟨S4x3x128x6144, .f32⟩
  | .hbm, ⟨51, _⟩ => ⟨S128x4096, .f32⟩
  | .hbm, ⟨52, _⟩ => ⟨S128x4096, .f32⟩
  | .hbm, ⟨53, _⟩ => ⟨S128x128, .f32⟩
  | .hbm, ⟨54, _⟩ => ⟨S128x1024, .f32⟩
  | .hbm, ⟨55, _⟩ => ⟨S128x1024, .f32⟩
  | .hbm, ⟨56, _⟩ => ⟨S4x3x128x6144, .f32⟩
  | .local _ .vmem, ⟨0, _⟩ => ⟨S32x6144, .f32⟩
  | .local _ .vmem, ⟨1, _⟩ => ⟨S32x6144, .f32⟩
  | .local _ .vmem, ⟨2, _⟩ => ⟨S1x4x6144, .f32⟩
  | .local _ .vmem, ⟨3, _⟩ => ⟨S1x1x6144, .f32⟩
  | .local _ .vmem, ⟨4, _⟩ => ⟨S32x128, .f32⟩
  | .local _ .vmem, ⟨5, _⟩ => ⟨S32x128, .f32⟩
  | .local _ .vmem, ⟨6, _⟩ => ⟨S1x1x128, .f32⟩
  | .local _ .vmem, ⟨7, _⟩ => ⟨S1x1x128, .f32⟩
  | .local _ .vmem, ⟨8, _⟩ => ⟨S256x4096, .bf16⟩
  | .local _ .vmem, ⟨9, _⟩ => ⟨S1x3x32x6144, .f32⟩
  | .local _ .vmem, ⟨10, _⟩ => ⟨S1x3x32x6144, .f32⟩
  | .local _ .vmem, ⟨11, _⟩ => ⟨S32x4096, .f32⟩
  | .local _ .vmem, ⟨12, _⟩ => ⟨S32x4096, .f32⟩
  | .local _ .vmem, ⟨13, _⟩ => ⟨S32x4096, .f32⟩
  | .local _ .vmem, ⟨14, _⟩ => ⟨S32x4096, .f32⟩
  | .local _ .vmem, ⟨15, _⟩ => ⟨S32x128, .f32⟩
  | .local _ .vmem, ⟨16, _⟩ => ⟨S32x128, .f32⟩
  | .local _ .vmem, ⟨17, _⟩ => ⟨S32x1024, .f32⟩
  | .local _ .vmem, ⟨18, _⟩ => ⟨S32x1024, .f32⟩
  | .local _ .vmem, ⟨19, _⟩ => ⟨S32x1024, .f32⟩
  | .local _ .vmem, ⟨20, _⟩ => ⟨S32x1024, .f32⟩
  | .local _ .vmem, ⟨21, _⟩ => ⟨S1x3x32x6144, .f32⟩
  | .local _ .vmem, ⟨22, _⟩ => ⟨S1x3x32x6144, .f32⟩
  | _, _ => ⟨S128x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_c_0 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_c_1 : Ref sig .tc := ⟨.hbm, 41, rfl⟩
abbrev main_call1_v0 : Ref sig .tc := ⟨.hbm, 42, rfl⟩
abbrev main_v16 : Ref sig .tc := ⟨.hbm, 43, rfl⟩
abbrev main_v17 : Ref sig .tc := ⟨.hbm, 44, rfl⟩
abbrev main_c_2 : Ref sig .tc := ⟨.hbm, 45, rfl⟩
abbrev main_call2_v0 : Ref sig .tc := ⟨.hbm, 46, rfl⟩
abbrev main_v18 : Ref sig .tc := ⟨.hbm, 47, rfl⟩
abbrev main_v19 : Ref sig .tc := ⟨.hbm, 48, rfl⟩
abbrev main_cst : Ref sig .tc := ⟨.hbm, 49, rfl⟩
abbrev main_v20 : Ref sig .tc := ⟨.hbm, 50, rfl⟩
abbrev main_v21_0 : Ref sig .tc := ⟨.hbm, 51, rfl⟩
abbrev main_v21_1 : Ref sig .tc := ⟨.hbm, 52, rfl⟩
abbrev main_v21_2 : Ref sig .tc := ⟨.hbm, 53, rfl⟩
abbrev main_v21_3 : Ref sig .tc := ⟨.hbm, 54, rfl⟩
abbrev main_v21_4 : Ref sig .tc := ⟨.hbm, 55, rfl⟩
abbrev main_v21_5 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

abbrev stage0_0 : Fin 2 → Memref sig .tc .vmem S32x6144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x3x32x6144 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S32x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S32x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S32x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S32x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x3x32x6144 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ConvSampleRefIdeal.lean ====
abbrev S128x6144 : Shape := ⟨2, ![128, 6144]⟩
abbrev S128x128 : Shape := ⟨2, ![128, 128]⟩
abbrev S4x128x3x6144 : Shape := ⟨4, ![4, 128, 3, 6144]⟩
abbrev S4x4x6144 : Shape := ⟨3, ![4, 4, 6144]⟩
abbrev S4x6144 : Shape := ⟨2, ![4, 6144]⟩
abbrev S4x64 : Shape := ⟨2, ![4, 64]⟩
abbrev S1x128x3x6144 : Shape := ⟨4, ![1, 128, 3, 6144]⟩
abbrev S128x3x6144 : Shape := ⟨3, ![128, 3, 6144]⟩
abbrev S128x1x6144 : Shape := ⟨3, ![128, 1, 6144]⟩
abbrev S128x4x6144 : Shape := ⟨3, ![128, 4, 6144]⟩
abbrev S1x6144 : Shape := ⟨2, ![1, 6144]⟩
abbrev S6144 : Shape := ⟨1, ![6144]⟩
abbrev S1x1x6144 : Shape := ⟨3, ![1, 1, 6144]⟩
abbrev S_ : Shape := ⟨0, ![]⟩
abbrev S1x64 : Shape := ⟨2, ![1, 64]⟩
abbrev S64 : Shape := ⟨1, ![64]⟩
abbrev S128 : Shape := ⟨1, ![128]⟩
abbrev S1x128 : Shape := ⟨2, ![1, 128]⟩
abbrev S3x128x6144 : Shape := ⟨3, ![3, 128, 6144]⟩
abbrev S1x3x128x6144 : Shape := ⟨4, ![1, 3, 128, 6144]⟩
abbrev S3x3x128x6144 : Shape := ⟨4, ![3, 3, 128, 6144]⟩
abbrev S4x3x128x6144 : Shape := ⟨4, ![4, 3, 128, 6144]⟩
abbrev S128x4096 : Shape := ⟨2, ![128, 4096]⟩
abbrev S128x1024 : Shape := ⟨2, ![128, 1024]⟩

abbrev nBuf : Space → Nat
  | .hbm => 98
  | .vmem => 0
  | .smem => 0
  | _ => 0

abbrev bufTy : (tb : Table) → Fin (tcTables nBuf tb) → BufTy
  | .hbm, ⟨0, _⟩ => ⟨S128x6144, .f32⟩
  | .hbm, ⟨1, _⟩ => ⟨S128x128, .f32⟩
  | .hbm, ⟨2, _⟩ => ⟨S4x128x3x6144, .f32⟩
  | .hbm, ⟨3, _⟩ => ⟨S4x4x6144, .f32⟩
  | .hbm, ⟨4, _⟩ => ⟨S4x6144, .f32⟩
  | .hbm, ⟨5, _⟩ => ⟨S4x64, .f32⟩
  | .hbm, ⟨6, _⟩ => ⟨S4x64, .f32⟩
  | .hbm, ⟨7, _⟩ => ⟨S1x128x3x6144, .f32⟩
  | .hbm, ⟨8, _⟩ => ⟨S128x3x6144, .f32⟩
  | .hbm, ⟨9, _⟩ => ⟨S128x1x6144, .f32⟩
  | .hbm, ⟨10, _⟩ => ⟨S128x4x6144, .f32⟩
  | .hbm, ⟨11, _⟩ => ⟨S1x6144, .f32⟩
  | .hbm, ⟨12, _⟩ => ⟨S6144, .f32⟩
  | .hbm, ⟨13, _⟩ => ⟨S128x1x6144, .f32⟩
  | .hbm, ⟨14, _⟩ => ⟨S128x6144, .f32⟩
  | .hbm, ⟨15, _⟩ => ⟨S1x1x6144, .f32⟩
  | .hbm, ⟨16, _⟩ => ⟨S6144, .f32⟩
  | .hbm, ⟨17, _⟩ => ⟨S1x6144, .f32⟩
  | .hbm, ⟨18, _⟩ => ⟨S128x6144, .f32⟩
  | .hbm, ⟨19, _⟩ => ⟨S128x6144, .f32⟩
  | .hbm, ⟨20, _⟩ => ⟨S1x6144, .f32⟩
  | .hbm, ⟨21, _⟩ => ⟨S128x6144, .f32⟩
  | .hbm, ⟨22, _⟩ => ⟨S128x6144, .f32⟩
  | .hbm, ⟨23, _⟩ => ⟨S128x1x6144, .f32⟩
  | .hbm, ⟨24, _⟩ => ⟨S128x6144, .f32⟩
  | .hbm, ⟨25, _⟩ => ⟨S1x1x6144, .f32⟩
  | .hbm, ⟨26, _⟩ => ⟨S6144, .f32⟩
  | .hbm, ⟨27, _⟩ => ⟨S1x6144, .f32⟩
  | .hbm, ⟨28, _⟩ => ⟨S128x6144, .f32⟩
  | .hbm, ⟨29, _⟩ => ⟨S128x6144, .f32⟩
  | .hbm, ⟨30, _⟩ => ⟨S128x6144, .f32⟩
  | .hbm, ⟨31, _⟩ => ⟨S128x1x6144, .f32⟩
  | .hbm, ⟨32, _⟩ => ⟨S128x6144, .f32⟩
  | .hbm, ⟨33, _⟩ => ⟨S1x1x6144, .f32⟩
  | .hbm, ⟨34, _⟩ => ⟨S6144, .f32⟩
  | .hbm, ⟨35, _⟩ => ⟨S1x6144, .f32⟩
  | .hbm, ⟨36, _⟩ => ⟨S128x6144, .f32⟩
  | .hbm, ⟨37, _⟩ => ⟨S128x6144, .f32⟩
  | .hbm, ⟨38, _⟩ => ⟨S128x6144, .f32⟩
  | .hbm, ⟨39, _⟩ => ⟨S128x1x6144, .f32⟩
  | .hbm, ⟨40, _⟩ => ⟨S128x6144, .f32⟩
  | .hbm, ⟨41, _⟩ => ⟨S1x1x6144, .f32⟩
  | .hbm, ⟨42, _⟩ => ⟨S6144, .f32⟩
  | .hbm, ⟨43, _⟩ => ⟨S1x6144, .f32⟩
  | .hbm, ⟨44, _⟩ => ⟨S128x6144, .f32⟩
  | .hbm, ⟨45, _⟩ => ⟨S128x6144, .f32⟩
  | .hbm, ⟨46, _⟩ => ⟨S128x6144, .f32⟩
  | .hbm, ⟨47, _⟩ => ⟨S128x6144, .f32⟩
  | .hbm, ⟨48, _⟩ => ⟨S128x6144, .f32⟩
  | .hbm, ⟨49, _⟩ => ⟨S_, .f32⟩
  | .hbm, ⟨50, _⟩ => ⟨S128x6144, .f32⟩
  | .hbm, ⟨51, _⟩ => ⟨S128x6144, .f32⟩
  | .hbm, ⟨52, _⟩ => ⟨S_, .f32⟩
  | .hbm, ⟨53, _⟩ => ⟨S128x6144, .f32⟩
  | .hbm, ⟨54, _⟩ => ⟨S128x6144, .f32⟩
  | .hbm, ⟨55, _⟩ => ⟨S128x6144, .f32⟩
  | .hbm, ⟨56, _⟩ => ⟨S1x64, .f32⟩
  | .hbm, ⟨57, _⟩ => ⟨S64, .f32⟩
  | .hbm, ⟨58, _⟩ => ⟨S_, .i32⟩
  | .hbm, ⟨59, _⟩ => ⟨S_, .f32⟩
  | .hbm, ⟨60, _⟩ => ⟨S128, .f32⟩
  | .hbm, ⟨61, _⟩ => ⟨S1x128, .f32⟩
  | .hbm, ⟨62, _⟩ => ⟨S128x128, .f32⟩
  | .hbm, ⟨63, _⟩ => ⟨S128x128, .f32⟩
  | .hbm, ⟨64, _⟩ => ⟨S_, .f32⟩
  | .hbm, ⟨65, _⟩ => ⟨S128x128, .f32⟩
  | .hbm, ⟨66, _⟩ => ⟨S128x128, .f32⟩
  | .hbm, ⟨67, _⟩ => ⟨S128x128, .f32⟩
  | .hbm, ⟨68, _⟩ => ⟨S128x128, .f32⟩
  | .hbm, ⟨69, _⟩ => ⟨S128x128, .i1⟩
  | .hbm, ⟨70, _⟩ => ⟨S128x128, .f32⟩
  | .hbm, ⟨71, _⟩ => ⟨S128x128, .f32⟩
  | .hbm, ⟨72, _⟩ => ⟨S128x128, .f32⟩
  | .hbm, ⟨73, _⟩ => ⟨S128x128, .f32⟩
  | .hbm, ⟨74, _⟩ => ⟨S128x128, .f32⟩
  | .hbm, ⟨75, _⟩ => ⟨S128x128, .f32⟩
  | .hbm, ⟨76, _⟩ => ⟨S128x128, .f32⟩
  | .hbm, ⟨77, _⟩ => ⟨S128x128, .f32⟩
  | .hbm, ⟨78, _⟩ => ⟨S1x64, .f32⟩
  | .hbm, ⟨79, _⟩ => ⟨S64, .f32⟩
  | .hbm, ⟨80, _⟩ => ⟨S_, .i32⟩
  | .hbm, ⟨81, _⟩ => ⟨S_, .f32⟩
  | .hbm, ⟨82, _⟩ => ⟨S128, .f32⟩
  | .hbm, ⟨83, _⟩ => ⟨S128, .f32⟩
  | .hbm, ⟨84, _⟩ => ⟨S128, .f32⟩
  | .hbm, ⟨85, _⟩ => ⟨S1x128, .f32⟩
  | .hbm, ⟨86, _⟩ => ⟨S128x128, .f32⟩
  | .hbm, ⟨87, _⟩ => ⟨S128x128, .f32⟩
  | .hbm, ⟨88, _⟩ => ⟨S128x128, .f32⟩
  | .hbm, ⟨89, _⟩ => ⟨S128x3x6144, .f32⟩
  | .hbm, ⟨90, _⟩ => ⟨S3x128x6144, .f32⟩
  | .hbm, ⟨91, _⟩ => ⟨S1x3x128x6144, .f32⟩
  | .hbm, ⟨92, _⟩ => ⟨S_, .f32⟩
  | .hbm, ⟨93, _⟩ => ⟨S3x3x128x6144, .f32⟩
  | .hbm, ⟨94, _⟩ => ⟨S4x3x128x6144, .f32⟩
  | .hbm, ⟨95, _⟩ => ⟨S128x4096, .f32⟩
  | .hbm, ⟨96, _⟩ => ⟨S128x1024, .f32⟩
  | .hbm, ⟨97, _⟩ => ⟨S128x1024, .f32⟩
  | _, _ => ⟨S128x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_call0_v5 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_c : Ref sig .tc := ⟨.hbm, 58, rfl⟩
abbrev main_call1_v0 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_call2_cst : Ref sig .tc := ⟨.hbm, 64, rfl⟩
abbrev main_call2_v0 : Ref sig .tc := ⟨.hbm, 65, rfl⟩
abbrev main_call2_v1 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_call2_v5 : Ref sig .tc := ⟨.hbm, 70, rfl⟩
abbrev main_call2_v6 : Ref sig .tc := ⟨.hbm, 71, rfl⟩
abbrev main_call2_v7 : Ref sig .tc := ⟨.hbm, 72, rfl⟩
abbrev main_call2_v8 : Ref sig .tc := ⟨.hbm, 73, rfl⟩
abbrev main_call2_v9 : Ref sig .tc := ⟨.hbm, 74, rfl⟩
abbrev main_call2_v10 : Ref sig .tc := ⟨.hbm, 75, rfl⟩
abbrev main_call2_v11 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_c_0 : Ref sig .tc := ⟨.hbm, 80, rfl⟩
abbrev main_call3_v0 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_cst : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩

abbrev nD : Nat := 1
abbrev τ : Topo := Topo.v7x

variable {F : FTy → Type} [FloatOps F]
-- ==== Attn.lean ====
abbrev S4x2048x2048 : Shape := ⟨3, ![4, 2048, 2048]⟩
abbrev S4x256x512 : Shape := ⟨3, ![4, 256, 512]⟩
abbrev S4x2048x512 : Shape := ⟨3, ![4, 2048, 512]⟩
abbrev S4x512x2048 : Shape := ⟨3, ![4, 512, 2048]⟩
abbrev S4x2048 : Shape := ⟨2, ![4, 2048]⟩
abbrev S4x1x2048 : Shape := ⟨3, ![4, 1, 2048]⟩
abbrev S1x512x2048 : Shape := ⟨3, ![1, 512, 2048]⟩
abbrev S1x256x512 : Shape := ⟨3, ![1, 256, 512]⟩
abbrev S1x2048x512 : Shape := ⟨3, ![1, 2048, 512]⟩
abbrev S1x1x2048 : Shape := ⟨3, ![1, 1, 2048]⟩
abbrev S512x2048 : Shape := ⟨2, ![512, 2048]⟩
abbrev S2048x512 : Shape := ⟨2, ![2048, 512]⟩
abbrev S512x512 : Shape := ⟨2, ![512, 512]⟩
abbrev S256x512 : Shape := ⟨2, ![256, 512]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩
abbrev S1x2048 : Shape := ⟨2, ![1, 2048]⟩

abbrev nBuf : Space → Nat
  | .hbm => 14
  | .vmem => 16
  | .smem => 0
  | _ => 0

abbrev bufTy : (tb : Table) → Fin (tcTables nBuf tb) → BufTy
  | .hbm, ⟨0, _⟩ => ⟨S4x2048x2048, .f32⟩
  | .hbm, ⟨1, _⟩ => ⟨S4x256x512, .f32⟩
  | .hbm, ⟨2, _⟩ => ⟨S4x256x512, .f32⟩
  | .hbm, ⟨3, _⟩ => ⟨S4x2048x512, .f32⟩
  | .hbm, ⟨4, _⟩ => ⟨S4x512x2048, .f32⟩
  | .hbm, ⟨5, _⟩ => ⟨S4x2048, .f32⟩
  | .hbm, ⟨6, _⟩ => ⟨S4x2048, .f32⟩
  | .hbm, ⟨7, _⟩ => ⟨S4x2048x2048, .bf16⟩
  | .hbm, ⟨8, _⟩ => ⟨S4x2048x512, .bf16⟩
  | .hbm, ⟨9, _⟩ => ⟨S4x512x2048, .bf16⟩
  | .hbm, ⟨10, _⟩ => ⟨S4x1x2048, .f32⟩
  | .hbm, ⟨11, _⟩ => ⟨S4x1x2048, .f32⟩
  | .hbm, ⟨12, _⟩ => ⟨S4x2048x2048, .f32⟩
  | .hbm, ⟨13, _⟩ => ⟨S4x2048x2048, .bf16⟩
  | .local _ .vmem, ⟨0, _⟩ => ⟨S1x512x2048, .bf16⟩
  | .local _ .vmem, ⟨1, _⟩ => ⟨S1x512x2048, .bf16⟩
  | .local _ .vmem, ⟨2, _⟩ => ⟨S1x512x2048, .f32⟩
  | .local _ .vmem, ⟨3, _⟩ => ⟨S1x512x2048, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x2048x512, .bf16⟩
  | .local _ .vmem, ⟨9, _⟩ => ⟨S1x512x2048, .bf16⟩
  | .local _ .vmem, ⟨10, _⟩ => ⟨S1x1x2048, .f32⟩
  | .local _ .vmem, ⟨11, _⟩ => ⟨S1x1x2048, .f32⟩
  | .local _ .vmem, ⟨12, _⟩ => ⟨S1x512x2048, .f32⟩
  | .local _ .vmem, ⟨13, _⟩ => ⟨S1x512x2048, .f32⟩
  | .local _ .vmem, ⟨14, _⟩ => ⟨S1x512x2048, .bf16⟩
  | .local _ .vmem, ⟨15, _⟩ => ⟨S1x512x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== AttnIdeal.lean ====
variable {F : FTy → Type} [FloatOps F] [Named F]
def κ : String → Option EReal := fun
  | "inv_sqrt_d" => some (((Real.sqrt 128)⁻¹ : ℝ) : EReal)
  | _ => none
-- ==== AttnRefIdeal.lean ====
abbrev S4x2048x2048 : Shape := ⟨3, ![4, 2048, 2048]⟩
abbrev S4x256x512 : Shape := ⟨3, ![4, 256, 512]⟩
abbrev S4x2048x512 : Shape := ⟨3, ![4, 2048, 512]⟩
abbrev S4x512x2048 : Shape := ⟨3, ![4, 512, 2048]⟩
abbrev S4x2048 : Shape := ⟨2, ![4, 2048]⟩
abbrev S1x2048x512 : Shape := ⟨3, ![1, 2048, 512]⟩
abbrev S2048x512 : Shape := ⟨2, ![2048, 512]⟩
abbrev S4x2048x4x128 : Shape := ⟨4, ![4, 2048, 4, 128]⟩
abbrev S4x256x4x128 : Shape := ⟨4, ![4, 256, 4, 128]⟩
abbrev S4x4x2048x256 : Shape := ⟨4, ![4, 4, 2048, 256]⟩
abbrev S_ : Shape := ⟨0, ![]⟩
abbrev S4x4x2048 : Shape := ⟨3, ![4, 4, 2048]⟩
abbrev S4x4x2048x1 : Shape := ⟨4, ![4, 4, 2048, 1]⟩
abbrev S4x4x128x2048 : Shape := ⟨4, ![4, 4, 128, 2048]⟩
abbrev S1x512x2048 : Shape := ⟨3, ![1, 512, 2048]⟩
abbrev S512x2048 : Shape := ⟨2, ![512, 2048]⟩
abbrev S1x2048 : Shape := ⟨2, ![1, 2048]⟩
abbrev S2048 : Shape := ⟨1, ![2048]⟩
abbrev S4x2048x1 : Shape := ⟨3, ![4, 2048, 1]⟩
abbrev S1x1x2048 : Shape := ⟨3, ![1, 1, 2048]⟩

abbrev nBuf : Space → Nat
  | .hbm => 76
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x256x512, .f32⟩
  | .hbm, ⟨2, _⟩ => ⟨S4x256x512, .f32⟩
  | .hbm, ⟨3, _⟩ => ⟨S4x2048x512, .f32⟩
  | .hbm, ⟨4, _⟩ => ⟨S4x512x2048, .f32⟩
  | .hbm, ⟨5, _⟩ => ⟨S4x2048, .f32⟩
  | .hbm, ⟨6, _⟩ => ⟨S4x2048, .f32⟩
  | .hbm, ⟨7, _⟩ => ⟨S1x2048x512, .f32⟩
  | .hbm, ⟨8, _⟩ => ⟨S2048x512, .f32⟩
  | .hbm, ⟨9, _⟩ => ⟨S4x2048x512, .f32⟩
  | .hbm, ⟨10, _⟩ => ⟨S4x2048x4x128, .f32⟩
  | .hbm, ⟨11, _⟩ => ⟨S4x256x4x128, .f32⟩
  | .hbm, ⟨12, _⟩ => ⟨S4x4x2048x256, .f32⟩
  | .hbm, ⟨13, _⟩ => ⟨S_, .f32⟩
  | .hbm, ⟨14, _⟩ => ⟨S_, .f32⟩
  | .hbm, ⟨15, _⟩ => ⟨S4x4x2048x256, .f32⟩
  | .hbm, ⟨16, _⟩ => ⟨S4x4x2048x256, .f32⟩
  | .hbm, ⟨17, _⟩ => ⟨S_, .f32⟩
  | .hbm, ⟨18, _⟩ => ⟨S4x4x2048, .f32⟩
  | .hbm, ⟨19, _⟩ => ⟨S_, .f32⟩
  | .hbm, ⟨20, _⟩ => ⟨S4x4x2048, .f32⟩
  | .hbm, ⟨21, _⟩ => ⟨S4x4x2048, .f32⟩
  | .hbm, ⟨22, _⟩ => ⟨S4x4x2048x1, .f32⟩
  | .hbm, ⟨23, _⟩ => ⟨S4x4x2048x256, .f32⟩
  | .hbm, ⟨24, _⟩ => ⟨S4x4x2048x256, .f32⟩
  | .hbm, ⟨25, _⟩ => ⟨S4x4x2048x256, .f32⟩
  | .hbm, ⟨26, _⟩ => ⟨S_, .f32⟩
  | .hbm, ⟨27, _⟩ => ⟨S4x4x2048, .f32⟩
  | .hbm, ⟨28, _⟩ => ⟨S4x4x2048x1, .f32⟩
  | .hbm, ⟨29, _⟩ => ⟨S4x4x2048x256, .f32⟩
  | .hbm, ⟨30, _⟩ => ⟨S4x4x2048x256, .f32⟩
  | .hbm, ⟨31, _⟩ => ⟨S4x256x4x128, .f32⟩
  | .hbm, ⟨32, _⟩ => ⟨S4x4x128x2048, .f32⟩
  | .hbm, ⟨33, _⟩ => ⟨S4x2048x4x128, .f32⟩
  | .hbm, ⟨34, _⟩ => ⟨S4x2048x512, .f32⟩
  | .hbm, ⟨35, _⟩ => ⟨S1x512x2048, .f32⟩
  | .hbm, ⟨36, _⟩ => ⟨S512x2048, .f32⟩
  | .hbm, ⟨37, _⟩ => ⟨S4x2048x2048, .f32⟩
  | .hbm, ⟨38, _⟩ => ⟨S_, .f32⟩
  | .hbm, ⟨39, _⟩ => ⟨S4x2048x2048, .f32⟩
  | .hbm, ⟨40, _⟩ => ⟨S4x2048x2048, .f32⟩
  | .hbm, ⟨41, _⟩ => ⟨S4x2048x2048, .f32⟩
  | .hbm, ⟨42, _⟩ => ⟨S1x2048, .f32⟩
  | .hbm, ⟨43, _⟩ => ⟨S2048, .f32⟩
  | .hbm, ⟨44, _⟩ => ⟨S1x2048, .f32⟩
  | .hbm, ⟨45, _⟩ => ⟨S2048, .f32⟩
  | .hbm, ⟨46, _⟩ => ⟨S_, .f32⟩
  | .hbm, ⟨47, _⟩ => ⟨S4x2048, .f32⟩
  | .hbm, ⟨48, _⟩ => ⟨S4x2048x1, .f32⟩
  | .hbm, ⟨49, _⟩ => ⟨S_, .f32⟩
  | .hbm, ⟨50, _⟩ => ⟨S4x2048x1, .f32⟩
  | .hbm, ⟨51, _⟩ => ⟨S4x2048x1, .f32⟩
  | .hbm, ⟨52, _⟩ => ⟨S4x2048x2048, .f32⟩
  | .hbm, ⟨53, _⟩ => ⟨S4x2048x2048, .f32⟩
  | .hbm, ⟨54, _⟩ => ⟨S4x2048x2048, .f32⟩
  | .hbm, ⟨55, _⟩ => ⟨S_, .f32⟩
  | .hbm, ⟨56, _⟩ => ⟨S4x2048, .f32⟩
  | .hbm, ⟨57, _⟩ => ⟨S4x2048x1, .f32⟩
  | .hbm, ⟨58, _⟩ => ⟨S_, .f32⟩
  | .hbm, ⟨59, _⟩ => ⟨S4x2048x1, .f32⟩
  | .hbm, ⟨60, _⟩ => ⟨S4x2048x1, .f32⟩
  | .hbm, ⟨61, _⟩ => ⟨S4x2048x2048, .f32⟩
  | .hbm, ⟨62, _⟩ => ⟨S4x2048x2048, .f32⟩
  | .hbm, ⟨63, _⟩ => ⟨S_, .f32⟩
  | .hbm, ⟨64, _⟩ => ⟨S4x2048x1, .f32⟩
  | .hbm, ⟨65, _⟩ => ⟨S4x2048x1, .f32⟩
  | .hbm, ⟨66, _⟩ => ⟨S4x2048x1, .f32⟩
  | .hbm, ⟨67, _⟩ => ⟨S4x2048x2048, .f32⟩
  | .hbm, ⟨68, _⟩ => ⟨S4x2048x2048, .f32⟩
  | .hbm, ⟨69, _⟩ => ⟨S1x1x2048, .f32⟩
  | .hbm, ⟨70, _⟩ => ⟨S4x2048x2048, .f32⟩
  | .hbm, ⟨71, _⟩ => ⟨S4x2048x2048, .f32⟩
  | .hbm, ⟨72, _⟩ => ⟨S1x1x2048, .f32⟩
  | .hbm, ⟨73, _⟩ => ⟨S4x2048x2048, .f32⟩
  | .hbm, ⟨74, _⟩ => ⟨S4x2048x2048, .f32⟩
  | .hbm, ⟨75, _⟩ => ⟨S4x2048x2048, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_8 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩

abbrev nD : Nat := 1
abbrev τ : Topo := Topo.v7x

variable {F : FTy → Type} [FloatOps F]
-- ==== Proof.InMainFrame.lean ====
/-
  The run of the fused input projection. One grid step multiplies a block of 2048 rows with 512 columns of the weight,
  and stores the product into one of three result blocks: the pooling branch's input for the first four column blocks,
  the state-space gate, through its activation, for the next eight, and the convolution's input for the last twelve. The
  two results a step doesn't store into keep the block they hold, and a result whose last block is held on to the end of
  a row of steps is written back there. This module states what each result's block holds after each step and proves
  the run.
-/
module

public import proofs.«01_k».proof.Proof.Gen.InMainIdeal.Skeleton
public import proofs.«01_k».proof.Proof.Gen.InMainIdeal.Frame
public import Idealize.ShloMosaic.Lib.Pipeline.TableIdle
public import Idealize.ShloMosaic.Lib.VecWindow
public import Idealize.ShloMosaic.Lib.Claim
public import Idealize.ShloMosaic.Lib.Pipeline.Value

@[expose] public section

set_option maxRecDepth 16384

noncomputable section

namespace InMainFrame

open Cert.InMainIdeal Cert.InMainIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

set_option maxHeartbeats 800000 in
/-- One step of the body: a result's block is the step's product, or its activation, where the step stores into it, and
    what it was where it doesn't. -/
theorem step (c : Dev nD) (i : grid0.Coords) (arg2 : Memref sig .tc .vmem S2048x2048 .bf16) (harg2 : arg2.IsWhole)
    (arg3 : Memref sig .tc .vmem S1x512x2048 .f32) (harg3 : arg3.IsWhole) (arg4 : Memref sig .tc .vmem S2048x512 .f32) (harg4 : arg4.IsWhole)
    (arg5 : Memref sig .tc .vmem S2048x512 .bf16) (harg5 : arg5.IsWhole) (arg6 : Memref sig .tc .vmem S2048x512 .f32) (harg6 : arg6.IsWhole)
    (x : Vec F S2048x2048 .bf16) (w : Vec F S1x512x2048 .f32) (u : Vec F S2048x512 .f32) (z : Vec F S2048x512 .bf16) (b : Vec F S2048x512 .f32)
    (E : Set ℕ) (K : PUnit → sProp 𝕄) :
    iprop(owns (c : Thread nD τ) arg2 fullShare x ∗ owns (c : Thread nD τ) arg3 fullShare w ∗ owns (c : Thread nD τ) arg4 fullShare u
      ∗ owns (c : Thread nD τ) arg5 fullShare z ∗ owns (c : Thread nD τ) arg6 fullShare b
      ∗ (iprop(owns (c : Thread nD τ) arg2 fullShare x ∗ owns (c : Thread nD τ) arg3 fullShare w
        ∗ owns (c : Thread nD τ) arg4 fullShare (if k0_cond1 i = 1#1 then k0_pay1 x w else u)
        ∗ owns (c : Thread nD τ) arg5 fullShare (if k0_cond2 i = 1#1 then k0_pay2 x w else z)
        ∗ owns (c : Thread nD τ) arg6 fullShare (if k0_cond3 i = 1#1 then k0_pay1 x w else b)) -∗ K ⟨⟩))
      ⊢ wp frame (wpE (defs₀ (F := F)) Variants.none c none) E (cc0_in_main i arg2 harg2 arg3 harg3 arg4 harg4 arg5 harg5 arg6 harg6) K := by
  have ex : View.readAt (Elt F) arg2.view (Rect.unit ![0, 0] S2048x2048.size inb_S2048x2048_S2048x2048_0_0).toLoadRect (harg2.unread x) = x := by
    rw [View.readAt_eq_ld, View.ld_unit_zero hz2, harg2.read_unread]
  have ew : View.readAt (Elt F) arg3.view (Rect.unit ![0, 0, 0] S1x512x2048.size inb_S1x512x2048_S1x512x2048_0_0_0).toLoadRect (harg3.unread w) = w := by
    rw [View.readAt_eq_ld, View.ld_unit_zero hz3, harg3.read_unread]
  by_cases h1 : k0_cond1 i = 1#1 <;> by_cases h2 : k0_cond2 i = 1#1 <;> by_cases h3 : k0_cond3 i = 1#1 <;> (
    simp only [h1, h2, h3, ↓reduceIte]
    simp only [cc0_in_main_eq_skeleton]; unfold cc0_in_main_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | sl_exact h1 | sl_exact h2 | sl_exact h3)
    sl_step
    iapply Hk
    isplitl [H0]
    · iexists _; isplitr
      swap; · iexact H0
      ipureintro; exact hf0
    isplitl [H1]
    · iexists _; isplitr
      swap; · iexact H1
      ipureintro; exact hf1
    isplitl [H2]
    · iexists _; isplitr
      swap; · iexact H2
      ipureintro; first | (with_reducible exact hf2) | (rw [View.read_writes_full]; try rw [ex, ew])
    isplitl [H3]
    · iexists _; isplitr
      swap; · iexact H3
      ipureintro; first | (with_reducible exact hf3) | (rw [View.read_writes_full]; try rw [ex, ew])
    iexists _; isplitr
    swap; · iexact H4
    ipureintro; first | (with_reducible exact hf4) | (rw [View.read_writes_full]; try rw [ex, ew]))

/-! ## Where each result is stored and written back -/

/-- The conditions, by the point's place in its row of 24. -/
theorem cond1 : ∀ t : Fin grid0.N, (k0_cond1 (grid0.coords t) == 1#1) = decide (t.val % 24 < 4) := by decide +kernel
theorem cond2 : ∀ t : Fin grid0.N, (k0_cond2 (grid0.coords t) == 1#1) = decide (4 ≤ t.val % 24 ∧ t.val % 24 < 12) := by decide +kernel
theorem cond3 : ∀ t : Fin grid0.N, (k0_cond3 (grid0.coords t) == 1#1) = decide (12 ≤ t.val % 24) := by decide +kernel

theorem stored2 (t : Fin cfg0.N) : k0_cond1 (grid0.coords t) = 1#1 ↔ t.val % 24 < 4 := by
  rw [← decide_eq_true_iff (p := t.val % 24 < 4), ← cond1 t, beq_iff_eq]
theorem stored3 (t : Fin cfg0.N) : k0_cond2 (grid0.coords t) = 1#1 ↔ 4 ≤ t.val % 24 ∧ t.val % 24 < 12 := by
  rw [← decide_eq_true_iff (p := 4 ≤ t.val % 24 ∧ t.val % 24 < 12), ← cond2 t, beq_iff_eq]
theorem stored4 (t : Fin cfg0.N) : k0_cond3 (grid0.coords t) = 1#1 ↔ 12 ≤ t.val % 24 := by
  rw [← decide_eq_true_iff (p := 12 ≤ t.val % 24), ← cond3 t, beq_iff_eq]

/-- A result is idle at the points that don't store into it. -/
theorem idle2 (t : Fin cfg0.N) : cfg0.idle 2 (cfg0.grid.coords t) = !decide (t.val % 24 < 4) := congrArg (!·) (cond1 t)
theorem idle3 (t : Fin cfg0.N) : cfg0.idle 3 (cfg0.grid.coords t) = !decide (4 ≤ t.val % 24 ∧ t.val % 24 < 12) := congrArg (!·) (cond2 t)
theorem idle4 (t : Fin cfg0.N) : cfg0.idle 4 (cfg0.grid.coords t) = !decide (12 ≤ t.val % 24) := congrArg (!·) (cond3 t)

/-- A result's block is written back where the next point has another block: at every point of its range but the last,
    whose block is held to the end of the row of points. -/
theorem flush2 : ∀ t : Fin cfg0.N, (cfg0.win 2).flush t = decide (t.val % 24 < 3 ∨ t.val % 24 = 23) := fun t =>
  (win0_2.flush_eq_flushF t).trans ((by decide +kernel : ∀ t : Fin grid0.N, win0_2.flushF t = decide (t.val % 24 < 3 ∨ t.val % 24 = 23)) t)
theorem flush3 : ∀ t : Fin cfg0.N, (cfg0.win 3).flush t = decide ((4 ≤ t.val % 24 ∧ t.val % 24 < 11) ∨ t.val % 24 = 23) := fun t =>
  (win0_3.flush_eq_flushF t).trans ((by decide +kernel : ∀ t : Fin grid0.N, win0_3.flushF t = decide ((4 ≤ t.val % 24 ∧ t.val % 24 < 11) ∨ t.val % 24 = 23)) t)
theorem flush4 : ∀ t : Fin cfg0.N, (cfg0.win 4).flush t = decide (12 ≤ t.val % 24) := fun t =>
  (win0_4.flush_eq_flushF t).trans ((by decide +kernel : ∀ t : Fin grid0.N, win0_4.flushF t = decide (12 ≤ t.val % 24)) t)

/-- Whether a result's buffer holds nothing stored since it was last written back. -/
theorem fresh2 (n : ℕ) (h : n ≤ cfg0.N) : cfg0.fresh 2 n = decide (n % 24 < 4) :=
  cfg0.fresh_tab 2 (fun n => decide (n % 24 < 4)) rfl (fun t => by
    rw [flush2, idle2]
    by_cases a : t.val % 24 < 4 <;> by_cases b : t.val % 24 < 3 <;> by_cases e : t.val % 24 = 23 <;> simp [a, b, e] <;> omega) n h
theorem fresh3 (n : ℕ) (h : n ≤ cfg0.N) : cfg0.fresh 3 n = decide (n % 24 < 12) :=
  cfg0.fresh_tab 3 (fun n => decide (n % 24 < 12)) rfl (fun t => by
    rw [flush3, idle3, Bool.eq_iff_iff]
    simp only [Bool.or_eq_true, Bool.and_eq_true, Bool.not_eq_true', decide_eq_true_eq, decide_eq_false_iff_not]
    omega) n h

/-- The point whose product a result's block holds after point `t`: the last one that stored into it in the row of
    points (before the first, nothing is read). -/
def last2 (t : Fin cfg0.N) : Fin cfg0.N := ⟨t.val / 24 * 24 + min (t.val % 24) 3, by have := t.isLt; have hN : cfg0.N = 96 := N_0; omega⟩
def last3 (t : Fin cfg0.N) : Fin cfg0.N := ⟨t.val / 24 * 24 + max 4 (min (t.val % 24) 11), by have := t.isLt; have hN : cfg0.N = 96 := N_0; omega⟩
def last4 (t : Fin cfg0.N) : Fin cfg0.N := ⟨t.val / 24 * 24 + max 12 (t.val % 24), by have := t.isLt; have hN : cfg0.N = 96 := N_0; omega⟩

/-! ## The run -/

variable (m : (ℓ : Loc nD τ sig) → Buf (Elt F) ℓ) (ρ : Dev nD → PrngReg)

/-- What each block holds after each point: the two operands their blocks, the three results the product of the last
    point that stored into them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay1 (iblk m c 0 (last2 t)) (iblk m c 1 (last2 t))
    | ⟨3, _⟩ => k0_pay2 (iblk m c 0 (last3 t)) (iblk m c 1 (last3 t))
    | ⟨4, _⟩ => k0_pay1 (iblk m c 0 (last4 t)) (iblk m c 1 (last4 t))
  Φ _ := Pipeline.ΦA spec0 c
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) :
    (dats m 0 c).after 2 t = k0_pay1 (iblk m c 0 (last2 t)) (iblk m c 1 (last2 t)) := by dsimp only [dats]
theorem after3 (c : Dev nD) (t : Fin cfg0.N) :
    (dats m 0 c).after 3 t = k0_pay2 (iblk m c 0 (last3 t)) (iblk m c 1 (last3 t)) := by dsimp only [dats]
theorem after4 (c : Dev nD) (t : Fin cfg0.N) :
    (dats m 0 c).after 4 t = k0_pay1 (iblk m c 0 (last4 t)) (iblk m c 1 (last4 t)) := by dsimp only [dats]

/-- An operand's buffer holds its block at every point. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- A point that doesn't store into a result, and writes its block back, finds the block that an earlier point left. -/
theorem held2 (c : Dev nD) (t : Fin cfg0.N) (h : 4 ≤ t.val % 24) (d) : (dats m 0 c).before 2 t d = (dats m 0 c).after 2 t := by
  have carry : ∀ (t : Fin cfg0.N) (_ : t.val ≠ 0), 4 ≤ t.val % 24 → (dats m 0 c).after 2 t = (dats m 0 c).after 2 ⟨t.val - 1, by omega⟩ := by
    intro t h0 ht
    have e : last2 t = last2 ⟨t.val - 1, by omega⟩ := Fin.ext (by dsimp only [last2]; omega)
    rw [after2, after2, e]
  have h0 : t.val ≠ 0 := fun e => by rw [e] at h; omega
  refine ((dats m 0 c).before_out_traj 2 rfl (fun _ _ => rfl) (fun t h0 hi _ => ?_) t.val t rfl d).trans ?_
  · refine carry t h0 ?_
    have := (idle2 t).symm.trans hi
    simp only [Bool.not_eq_true', decide_eq_false_iff_not] at this
    omega
  · rw [fresh2 _ t.isLt.le, if_neg (by rw [decide_eq_true_iff]; omega)]
    exact (carry t h0 h).symm
theorem held3 (c : Dev nD) (t : Fin cfg0.N) (h : 12 ≤ t.val % 24) (d) : (dats m 0 c).before 3 t d = (dats m 0 c).after 3 t := by
  have carry : ∀ (t : Fin cfg0.N) (_ : t.val ≠ 0), 12 ≤ t.val % 24 → (dats m 0 c).after 3 t = (dats m 0 c).after 3 ⟨t.val - 1, by omega⟩ := by
    intro t h0 ht
    have e : last3 t = last3 ⟨t.val - 1, by omega⟩ := Fin.ext (by dsimp only [last3]; omega)
    rw [after3, after3, e]
  have h0 : t.val ≠ 0 := fun e => by rw [e] at h; omega
  refine ((dats m 0 c).before_out_traj 3 rfl (fun _ _ => rfl) (fun t h0 hi hf => ?_) t.val t rfl d).trans ?_
  · refine carry t h0 ?_
    have := (fresh3 _ t.isLt.le).symm.trans hf
    simp only [decide_eq_false_iff_not] at this
    omega
  · rw [fresh3 _ t.isLt.le, if_neg (by rw [decide_eq_true_iff]; omega)]
    exact (carry t h0 h).symm

/-- What a step leaves in the first result's buffer is what the run needs there. -/
theorem leaves2 (c : Dev nD) (t : Fin cfg0.N) (d) :
    owns (c : Thread nD τ) (st0_2 t) fullShare (if k0_cond1 (grid0.coords t) = 1#1 then k0_pay1 (iblk m c 0 t) (iblk m c 1 t) else (dats m 0 c).before 2 t d)
      ⊢ ((dats m 0 c).leavesExact 2 t : sProp 𝕄) := by
  by_cases h : t.val % 24 < 4
  · rw [if_pos ((stored2 t).mpr h)]
    have e : last2 t = t := Fin.ext (by dsimp only [last2]; omega)
    have hi : cfg0.idle 2 (cfg0.grid.coords t) = false := by rw [idle2, decide_eq_true h]; rfl
    unfold Dat.leavesExact; rw [hi, after2, e]
  · rw [if_neg (fun k => h ((stored2 t).mp k))]
    have hi : cfg0.idle 2 (cfg0.grid.coords t) = true := by rw [idle2, decide_eq_false h]; rfl
    cases hf : (cfg0.win 2).flush t
    · rw [Dat.leavesExact_idle _ 2 t hi hf]
      iintro H; iexists d; iexact H
    · unfold Dat.leavesExact; rw [hi, hf, held2 m c t (by omega)]
theorem leaves3 (c : Dev nD) (t : Fin cfg0.N) (d) :
    owns (c : Thread nD τ) (st0_3 t) fullShare (if k0_cond2 (grid0.coords t) = 1#1 then k0_pay2 (iblk m c 0 t) (iblk m c 1 t) else (dats m 0 c).before 3 t d)
      ⊢ ((dats m 0 c).leavesExact 3 t : sProp 𝕄) := by
  by_cases h : 4 ≤ t.val % 24 ∧ t.val % 24 < 12
  · rw [if_pos ((stored3 t).mpr h)]
    have e : last3 t = t := Fin.ext (by dsimp only [last3]; omega)
    have hi : cfg0.idle 3 (cfg0.grid.coords t) = false := by rw [idle3, decide_eq_true h]; rfl
    unfold Dat.leavesExact; rw [hi, after3, e]
  · rw [if_neg (fun k => h ((stored3 t).mp k))]
    have hi : cfg0.idle 3 (cfg0.grid.coords t) = true := by rw [idle3, decide_eq_false h]; rfl
    cases hf : (cfg0.win 3).flush t
    · rw [Dat.leavesExact_idle _ 3 t hi hf]
      iintro H; iexists d; iexact H
    · have h12 : 12 ≤ t.val % 24 := by
        have := (flush3 t).symm.trans hf
        rw [decide_eq_true_iff] at this
        omega
      unfold Dat.leavesExact; rw [hi, hf, held3 m c t h12]
theorem leaves4 (c : Dev nD) (t : Fin cfg0.N) (d) :
    owns (c : Thread nD τ) (st0_4 t) fullShare (if k0_cond3 (grid0.coords t) = 1#1 then k0_pay1 (iblk m c 0 t) (iblk m c 1 t) else (dats m 0 c).before 4 t d)
      ⊢ ((dats m 0 c).leavesExact 4 t : sProp 𝕄) := by
  by_cases h : 12 ≤ t.val % 24
  · rw [if_pos ((stored4 t).mpr h)]
    have e : last4 t = t := Fin.ext (by dsimp only [last4]; omega)
    have hi : cfg0.idle 4 (cfg0.grid.coords t) = false := by rw [idle4, decide_eq_true h]; rfl
    unfold Dat.leavesExact; rw [hi, after4, e]
  · rw [if_neg (fun k => h ((stored4 t).mp k))]
    have hi : cfg0.idle 4 (cfg0.grid.coords t) = true := by rw [idle4, decide_eq_false h]; rfl
    have hf : (cfg0.win 4).flush t = false := by rw [flush4, decide_eq_false h]
    rw [Dat.leavesExact_idle _ 4 t hi hf]
    iintro H; iexists d; iexact H

/-- The step at point `t`, from what the buffers hold before it to what they hold after it. -/
theorem sound (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d)))
    ⊢ wp frame (wpE (defs₀ (F := F)) Variants.none c none) Set.univ (bodyAt0 t) (fun _ =>
      iprop((dats m 0 c).Φ t.succ ∗ (dats m 0 c).owesAt () t.succ
        ∗ (dats m 0 c).leavesExact 0 t ∗ (dats m 0 c).leavesExact 1 t ∗ (dats m 0 c).leavesExact 2 t
        ∗ (dats m 0 c).leavesExact 3 t ∗ (dats m 0 c).leavesExact 4 t)) := by
  unfold bodyAt0
  simp only [before0, before1]
  rw [show (dats m 0 c).Φ t.succ = (dats m 0 c).Φ t.castSucc from rfl,
    show (dats m 0 c).owesAt () t.succ = (dats m 0 c).owesAt () t.castSucc from rfl,
    show (dats m 0 c).leavesExact 0 t = owns (c : Thread nD τ) (st0_0 t) fullShare (iblk m c 0 t) from by
      rw [← after0 m c t],
    show (dats m 0 c).leavesExact 1 t = owns (c : Thread nD τ) (st0_1 t) fullShare (iblk m c 1 t) from by
      rw [← after1 m c t]]
  iintro ⟨HΦ, Ho, ⟨%d0, H0⟩, ⟨%d1, H1⟩, ⟨%d2, H2⟩, ⟨%d3, H3⟩, ⟨%d4, H4⟩⟩
  iapply (step c (grid0.coords t) _ _ _ _ _ _ _ _ _ _ (iblk m c 0 t) (iblk m c 1 t) ((dats m 0 c).before 2 t d2)
    ((dats m 0 c).before 3 t d3) ((dats m 0 c).before 4 t d4) Set.univ _)
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [Ho]; · iexact Ho
  isplitl [H0]; · iexact H0
  isplitl [H1]; · iexact H1
  isplitl [H2]; · iapply (leaves2 m c t d2); iexact H2
  isplitl [H3]; · iapply (leaves3 m c t d3); iexact H3
  iapply (leaves4 m c t d4); iexact H4

/-- The body's row of the table is the body as called at point `t`. -/
theorem row (t : Fin cfg0.N) : defs₀ (F := F) .tc cfg0.body (cfg0.bodyArgs t (cfg0.slots t)) = bodyAt0 t := by
  unfold defs₀; rw [Defs.onTc_tc]

/-- So every point of the pipeline meets its obligation. -/
theorem obligation (c : Dev nD) : BodyObligation (dats (F := F) m 0 c) (defs₀ (F := F)) Variants.none () Set.univ := fun t => by
  rw [bigSep_W0, bigSep_W0, row]
  exact triple_restated (sound m c t) rfl .rfl fun _ => .rfl

set_option backward.isDefEq.respectTransparency.types false in
/-- The run: it ends, with each result's array as its written-back blocks make it and every counter at zero. -/
theorem run_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- The run leaves its arguments as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

end InMainFrame

end
-- ==== Proof.InProj.lean ====
/-
  What the input projections share. Each of the layer's input projections is one blocked product of the activations,
  flattened to 8192 rows, with a column range of the first layer's stacked weight. `proj` is one entry of that product;
  the reference's product, the kernel's product of two blocks, and the host reshape and transpose of the arguments are
  each read here at an index, once for all of the projections.
-/
module

public import proofs.«01_k».proof.Proof.Gen.InGatesRefIdeal.Read
public import Idealize.ShloMosaic.Lib.MatmulPlain
public import Idealize.ShloMosaic.Lib.IdealHost
public import Idealize.ShloMosaic.Lib.Pipeline.Value

@[expose] public section

set_option maxRecDepth 16384

noncomputable section

namespace InProj

open Idealize.ShloMosaic Idealize.ShloMosaic.TcCoe Idealize.ShloMosaic.ValueIdx

/-- Row `r` of the flattened activations is row `r % 2048` of sequence `r / 2048`. -/
abbrev rowIx (r : Fin 8192) (k : Fin 2048) : (⟨3, ![4, 2048, 2048]⟩ : Shape).Idx :=
  ix3 ⟨r.val / 2048, by omega⟩ ⟨r.val % 2048, by omega⟩ k

/-- Entry (r, c) of the flattened activations times the first layer's weight. -/
def proj (x : (⟨3, ![4, 2048, 2048]⟩ : Shape).Idx → EReal) (w : (⟨3, ![4, 2048, 16448]⟩ : Shape).Idx → EReal)
    (r : Fin 8192) (c : Fin 16448) : EReal :=
  ∑ k : Fin 2048, x (rowIx r k) * w (ix3 0 k c)

/-- The reference's product, flattened, read at (r, c). -/
theorem ref_proj (x : (⟨3, ![4, 2048, 2048]⟩ : Shape).Idx → EReal) (w : (⟨3, ![4, 2048, 16448]⟩ : Shape).Idx → EReal)
    (r : Fin 8192) (c : Fin 16448) :
    Cert.InGatesRefIdeal.Read.val_main_v3 (F := Ideal) x w (ix2 r c) = proj x w r c := by
  rw [Cert.InGatesRefIdeal.Read.val_main_v3_apply, Cert.InGatesRefIdeal.Read.val_main_v2_apply]
  refine Finset.sum_congr rfl fun k _ => ?_
  rw [Cert.InGatesRefIdeal.Read.val_main_v1_apply, Cert.InGatesRefIdeal.Read.val_main_v0_apply]
  have hr : r.val < 8192 := r.isLt
  have hc : c.val < 16448 := c.isLt
  have hk : k.val < 2048 := k.isLt
  refine congrArg₂ (· * ·) (congrArg x (funext fun a => Fin.ext ?_)) (congrArg w (funext fun a => Fin.ext ?_))
  · match a with
    | ⟨0, _⟩ => show (r.val * 16448 + c.val) / 33685504 = r.val / 2048; omega
    | ⟨1, _⟩ => show (r.val * 16448 + c.val) / 16448 % 2048 = r.val % 2048; omega
    | ⟨2, _⟩ => rfl
  · match a with
    | ⟨0, _⟩ => rfl
    | ⟨1, _⟩ => show (k.val * 16448 + (r.val * 16448 + c.val) % 16448) / 16448 % 2048 = k.val; omega
    | ⟨2, _⟩ => show (k.val * 16448 + (r.val * 16448 + c.val) % 16448) % 16448 = c.val; omega

/-- The kernel's product of a block of rows with a block of weight rows (each weight row a column of the layer's
    weight), read at (r, c): the sum of the products along the shared axis. -/
theorem block_sum {N : ℕ} (v0 : FVec Ideal ⟨2, ![2048, 2048]⟩ .bf16) (v2 : FVec Ideal ⟨3, ![1, N, 2048]⟩ .f32)
    (h0 : (⟨2, ![2048, 2048]⟩ : Shape).ShapeCasts ⟨2, ![2048, 2048]⟩) (h2 : (⟨3, ![1, N, 2048]⟩ : Shape).ShapeCasts ⟨2, ![N, 2048]⟩)
    (hb : FTy.bf16.bits < FTy.f32.bits) (r : Fin 2048) (c : Fin N) :
    FloatOps.matmul (DotDims.transposedRhs 2048 2048 N) none (shapeCast ⟨2, ![2048, 2048]⟩ v0 h0)
      (truncf .bf16 (shapeCast ⟨2, ![N, 2048]⟩ v2 h2 : FVec Ideal ⟨2, ![N, 2048]⟩ .f32) hb) (constant ⟨2, ![2048, N]⟩ .f32 0x00000000#32) (ix2 r c)
      = ∑ k : Fin 2048, v0 (ix2 r k) * v2 (ix3 0 c k) := by
  rw [Ideal.matmul_transposedRhs_apply]
  show Ideal.ofBits .f32 0x00000000#32 + _ = _
  rw [Ideal.ofBits_zero_f32, zero_add, shapeCast_self]
  refine Finset.sum_congr rfl fun k _ => ?_
  rw [truncf_apply, shapeCast_apply v2 h2 (ix2 c k) (ix3 0 c k)
    (by rewrite [Shape.rowMajor_val_three, Shape.rowMajor_val_two]; show (0 * N + c.val) * 2048 + k.val = c.val * 2048 + k.val; rw [Nat.zero_mul, Nat.zero_add])]

/-- So it is the product's entry in the row and the column that the two blocks hold there. -/
theorem block_proj {N : ℕ} (x : (⟨3, ![4, 2048, 2048]⟩ : Shape).Idx → EReal) (w : (⟨3, ![4, 2048, 16448]⟩ : Shape).Idx → EReal)
    (v0 : FVec Ideal ⟨2, ![2048, 2048]⟩ .bf16) (v2 : FVec Ideal ⟨3, ![1, N, 2048]⟩ .f32)
    (h0 : (⟨2, ![2048, 2048]⟩ : Shape).ShapeCasts ⟨2, ![2048, 2048]⟩) (h2 : (⟨3, ![1, N, 2048]⟩ : Shape).ShapeCasts ⟨2, ![N, 2048]⟩)
    (hb : FTy.bf16.bits < FTy.f32.bits) (r : Fin 2048) (c : Fin N) (R : Fin 8192) (C : Fin 16448)
    (hx : ∀ k, v0 (ix2 r k) = x (rowIx R k)) (hw : ∀ k, v2 (ix3 0 c k) = w (ix3 0 k C)) :
    FloatOps.matmul (DotDims.transposedRhs 2048 2048 N) none (shapeCast ⟨2, ![2048, 2048]⟩ v0 h0)
      (truncf .bf16 (shapeCast ⟨2, ![N, 2048]⟩ v2 h2 : FVec Ideal ⟨2, ![N, 2048]⟩ .f32) hb) (constant ⟨2, ![2048, N]⟩ .f32 0x00000000#32) (ix2 r c)
      = proj x w R C :=
  (block_sum v0 v2 h0 h2 hb r c).trans (Finset.sum_congr rfl fun k _ => by rw [hx, hw])

/-- In a column where the weights' block is zero, it is zero. -/
theorem block_zero {N : ℕ} (v0 : FVec Ideal ⟨2, ![2048, 2048]⟩ .bf16) (v2 : FVec Ideal ⟨3, ![1, N, 2048]⟩ .f32)
    (h0 : (⟨2, ![2048, 2048]⟩ : Shape).ShapeCasts ⟨2, ![2048, 2048]⟩) (h2 : (⟨3, ![1, N, 2048]⟩ : Shape).ShapeCasts ⟨2, ![N, 2048]⟩)
    (hb : FTy.bf16.bits < FTy.f32.bits) (r : Fin 2048) (c : Fin N) (hw : ∀ k, v2 (ix3 0 c k) = 0) :
    FloatOps.matmul (DotDims.transposedRhs 2048 2048 N) none (shapeCast ⟨2, ![2048, 2048]⟩ v0 h0)
      (truncf .bf16 (shapeCast ⟨2, ![N, 2048]⟩ v2 h2 : FVec Ideal ⟨2, ![N, 2048]⟩ .f32) hb) (constant ⟨2, ![2048, N]⟩ .f32 0x00000000#32) (ix2 r c)
      = 0 :=
  (block_sum v0 v2 h0 h2 hb r c).trans (Finset.sum_eq_zero fun k _ => by rw [hw, mul_zero])

/-- The activations flattened to 8192 rows, read at row `r`. -/
theorem flat_apply (x : (⟨3, ![4, 2048, 2048]⟩ : Shape).Idx → EReal)
    (h : (⟨3, ![4, 2048, 2048]⟩ : Shape).ShapeCasts ⟨2, ![8192, 2048]⟩) (r : Fin 8192) (k : Fin 2048) :
    shapeCast ⟨2, ![8192, 2048]⟩ x h (ix2 r k) = x (rowIx r k) :=
  shapeCast_apply x h (ix2 r k) (rowIx r k) (by
    rewrite [Shape.rowMajor_val_three, Shape.rowMajor_val_two]
    have hr : r.val < 8192 := r.isLt
    show (r.val / 2048 * 2048 + r.val % 2048) * 2048 + k.val = r.val * 2048 + k.val
    omega)

/-- The weight with its last two axes exchanged, read at an index. -/
theorem swap_apply (w : (⟨3, ![4, 2048, 16448]⟩ : Shape).Idx → EReal)
    (h : (⟨3, ![4, 2048, 16448]⟩ : Shape).Transposes [0, 2, 1] ⟨3, ![4, 16448, 2048]⟩)
    (l : Fin 4) (c : Fin 16448) (k : Fin 2048) :
    transpose ⟨3, ![4, 16448, 2048]⟩ [0, 2, 1] w h (ix3 l c k) = w (ix3 l k c) :=
  transpose_apply [0, 2, 1] w h (ix3 l c k) (ix3 l k c) (fun b => match b with
    | ⟨0, _⟩ => rfl
    | ⟨1, _⟩ => rfl
    | ⟨2, _⟩ => rfl)

end InProj
-- ==== Proof.InMainValue.lean ====
/-
  The values of the fused input projection: the run leaves in its three results the reference's columns of the same
  arguments: columns 0 to 2047 of the product, the activation of columns 2048 to 6143, and columns 6144 to 12287.
-/
module

public import proofs.«01_k».proof.Defs
public import proofs.«01_k».proof.Proof.Gen.InMainRefIdeal.Run
public import proofs.«01_k».proof.Proof.Gen.InMainRefIdeal.Read
public import proofs.«01_k».proof.Proof.Gen.InMain
public import proofs.«01_k».proof.Proof.InMainFrame
public import proofs.«01_k».proof.Proof.InProj
public import Idealize.ShloMosaic.Lib.Pipeline.Value
public import Idealize.ShloMosaic.Lib.Quiescent

@[expose] public section

set_option maxRecDepth 16384

noncomputable section

namespace InMainValue

open Cert.InMainIdeal Cert.InMainIdeal.Gen
open Idealize.ShloMosaic Idealize.ShloMosaic.TcCoe Idealize.SL.Sem Idealize.ShloMosaic.ValueIdx
open Idealize.ShloMosaic.Pipeline (Dat)
open InProj InMainFrame

variable (m : (ℓ : Loc nD τ sig) → Buf (Elt Ideal) ℓ) (ρ : Dev nD → PrngReg)

/-- Device `c`'s activations as launched. -/
abbrev argX (c : Dev nD) : (⟨3, ![4, 2048, 2048]⟩ : Shape).Idx → EReal := m ((c : Thread nD τ).loc main_arg0)
/-- Device `c`'s stacked weights as launched. -/
abbrev argW (c : Dev nD) : (⟨3, ![4, 2048, 16448]⟩ : Shape).Idx → EReal := m ((c : Thread nD τ).loc main_arg1)

/-- What the reference computes from device `c`'s arguments: the pooling branch's input, the state-space branch's gate,
    the convolution's input. -/
abbrev goal2 (c : Dev nD) : (⟨2, ![8192, 2048]⟩ : Shape).Idx → EReal :=
  Cert.InMainRefIdeal.Read.val_main_v4 (F := Ideal) (argX m c) (argW m c)
abbrev goal3 (c : Dev nD) : (⟨2, ![8192, 4096]⟩ : Shape).Idx → EReal :=
  Cert.InMainRefIdeal.Read.val_main_v7 (F := Ideal) (argX m c) (argW m c)
abbrev goal4 (c : Dev nD) : (⟨2, ![8192, 6144]⟩ : Shape).Idx → EReal :=
  Cert.InMainRefIdeal.Read.val_main_v8 (F := Ideal) (argX m c) (argW m c)

/-- The region finds the flattened activations in its first operand. -/
theorem V_x (c : Dev nD) (r : Fin 8192) (k : Fin 2048) : V m c main_v2 (ix2 r k) = argX m c (rowIx r k) := by
  have e : V m c main_v2 = (truncf .bf16 (shapeCast S8192x2048 (argX m c) shapeCasts_S4x2048x2048_S8192x2048 : FVec Ideal S8192x2048 .f32) bitsLt_bf16_f32
      : FVec Ideal S8192x2048 .bf16) := by
    unfold V hostOps0
    after_results
    rfl
  rw [e]
  exact flat_apply (argX m c) _ r k

/-- and the weights, last two axes exchanged, in its second. -/
theorem V_w (c : Dev nD) (l : Fin 4) (j : Fin 16448) (k : Fin 2048) : V m c main_v0 (ix3 l j k) = argW m c (ix3 l k j) := by
  have e : V m c main_v0 = (transpose S4x16448x2048 [0, 2, 1] (argW m c) transposes_S4x2048x16448_S4x16448x2048_0_2_1) := by
    unfold V hostOps0
    after_results
  rw [e]
  exact swap_apply (argW m c) _ l j k

/-- Where point `t`'s blocks lie: row block `t / 24`; the weight's block at column block `t % 24`, each result's at its
    own column block nearest to it. -/
theorem at0 : ∀ t : Fin cfg0.N, win0_0.index t 0 = t.val / 24 ∧ win0_0.index t 1 = 0 :=
  (by decide +kernel : ∀ t : Fin grid0.N, win0_0.index t 0 = t.val / 24 ∧ win0_0.index t 1 = 0)
theorem at1 : ∀ t : Fin cfg0.N, win0_1.index t 0 = 0 ∧ win0_1.index t 1 = t.val % 24 * 512 ∧ win0_1.index t 2 = 0 :=
  (by decide +kernel : ∀ t : Fin grid0.N, win0_1.index t 0 = 0 ∧ win0_1.index t 1 = t.val % 24 * 512 ∧ win0_1.index t 2 = 0)
theorem at2 : ∀ t : Fin cfg0.N, win0_2.index t 0 = t.val / 24 ∧ win0_2.index t 1 = min (t.val % 24) 3 :=
  (by decide +kernel : ∀ t : Fin grid0.N, win0_2.index t 0 = t.val / 24 ∧ win0_2.index t 1 = min (t.val % 24) 3)
theorem at3 : ∀ t : Fin cfg0.N, win0_3.index t 0 = t.val / 24 ∧ win0_3.index t 1 = (max 4 (min (t.val % 24) 11) - 4) :=
  (by decide +kernel : ∀ t : Fin grid0.N, win0_3.index t 0 = t.val / 24 ∧ win0_3.index t 1 = (max 4 (min (t.val % 24) 11) - 4))
theorem at4 : ∀ t : Fin cfg0.N, win0_4.index t 0 = t.val / 24 ∧ win0_4.index t 1 = (max 12 (t.val % 24) - 12) :=
  (by decide +kernel : ∀ t : Fin grid0.N, win0_4.index t 0 = t.val / 24 ∧ win0_4.index t 1 = (max 12 (t.val % 24) - 12))

theorem lt_N (t : Fin cfg0.N) : t.val < 96 := by have := t.isLt; have hN : cfg0.N = 96 := N_0; omega

/-- The activations' block at point `t`, read at an index. -/
theorem blk0 (c : Dev nD) (t : Fin cfg0.N) (r : Fin 2048) (k : Fin 2048) :
    iblk m c 0 t (ix2 r k) = argX m c (rowIx ⟨t.val / 24 * 2048 + r.val, by have := lt_N t; omega⟩ k) := by
  rw [← V_x]
  show V m c main_v2 ((win0_0.rect t).emb (ix2 r k)) = _
  refine congrArg (V m c main_v2) (funext fun a => Fin.ext ?_)
  refine (win0_0.rect_emb_val t (ix2 r k) a).trans ?_
  match a with
  | ⟨0, _⟩ => show win0_0.index t 0 * 2048 + r.val = _; rw [(at0 t).1]
  | ⟨1, _⟩ => show win0_0.index t 1 * 2048 + k.val = k.val; rw [(at0 t).2]; omega

/-- The weights' block at point `t`, read at an index: it starts at an element offset. -/
theorem blk1 (c : Dev nD) (t : Fin cfg0.N) (j : Fin 512) (k : Fin 2048) :
    iblk m c 1 t (ix3 0 j k) = argW m c (ix3 0 k ⟨t.val % 24 * 512 + j.val, by omega⟩) := by
  rw [← V_w]
  show V m c main_v0 ((win0_1.rect t).emb (ix3 0 j k)) = _
  refine congrArg (V m c main_v0) (funext fun a => Fin.ext ?_)
  refine (win0_1.rect_emb_val_off t (ix3 0 j k) a).trans ?_
  match a with
  | ⟨0, _⟩ => show win0_1.index t 0 + 0 = 0; rw [(at1 t).1]
  | ⟨1, _⟩ => show win0_1.index t 1 + j.val = _; rw [(at1 t).2.1]
  | ⟨2, _⟩ => show win0_1.index t 2 + k.val = k.val; rw [(at1 t).2.2]; omega

/-- The activation `x · logistic x`. -/
abbrev silu (a : EReal) : EReal := a * Ideal.logistic a

/-- The product of point `t`'s blocks, read at an index: an entry of the projection. -/
theorem pay_apply (c : Dev nD) (t : Fin cfg0.N) (r : Fin 2048) (j : Fin 512) (R : Fin 8192) (C : Fin 16448)
    (hR : R.val = t.val / 24 * 2048 + r.val) (hC : C.val = t.val % 24 * 512 + j.val) :
    k0_pay1 (F := Ideal) (iblk m c 0 t) (iblk m c 1 t) (ix2 r j) = proj (argX m c) (argW m c) R C :=
  block_proj _ _ _ _ _ _ _ r j R C
    (fun k => (blk0 m c t r k).trans (congrArg (fun q => argX m c (rowIx q k)) (Fin.ext hR.symm)))
    (fun k => (blk1 m c t j k).trans (congrArg (fun q => argW m c (ix3 0 k q)) (Fin.ext hC.symm)))

/-- Its activation. -/
theorem pay_silu_apply (c : Dev nD) (t : Fin cfg0.N) (r : Fin 2048) (j : Fin 512) (R : Fin 8192) (C : Fin 16448)
    (hR : R.val = t.val / 24 * 2048 + r.val) (hC : C.val = t.val % 24 * 512 + j.val) :
    k0_pay2 (F := Ideal) (iblk m c 0 t) (iblk m c 1 t) (ix2 r j) = silu (proj (argX m c) (argW m c) R C) := by
  show silu (k0_pay1 (F := Ideal) (iblk m c 0 t) (iblk m c 1 t) (ix2 r j)) = _
  rw [pay_apply m c t r j R C hR hC]

/-- The reference's results at (r, j): entries of the projection, from columns 0, 2048 and 6144 on. -/
theorem goal2_apply (c : Dev nD) (r : Fin 8192) (j : Fin 2048) :
    goal2 m c (ix2 r j) = proj (argX m c) (argW m c) r ⟨j.val, by omega⟩ := by
  rw [← ref_proj]
  refine (Cert.InMainRefIdeal.Read.val_main_v4_apply _ _ _).trans
    (congrArg (Cert.InMainRefIdeal.Read.val_main_v3 (F := Ideal) (argX m c) (argW m c)) ?_)
  funext a
  match a with
  | ⟨0, _⟩ => rfl
  | ⟨1, _⟩ => rfl
theorem goal3_apply (c : Dev nD) (r : Fin 8192) (j : Fin 4096) :
    goal3 m c (ix2 r j) = silu (proj (argX m c) (argW m c) r ⟨2048 + j.val, by omega⟩) := by
  rw [← ref_proj]
  show _ * Ideal.div (Ideal.ofBits .f32 0x3F800000#32) (Ideal.ofBits .f32 0x3F800000#32 + Ideal.exp (-_)) = _ * Ideal.div 1 (1 + Ideal.exp (-_))
  rw [Ideal.ofBits_one_f32, Cert.InMainRefIdeal.Read.val_main_v5_apply]
  refine congrArg (fun i => silu (Cert.InMainRefIdeal.Read.val_main_v3 (F := Ideal) (argX m c) (argW m c) i)) ?_
  funext a
  match a with
  | ⟨0, _⟩ => rfl
  | ⟨1, _⟩ => rfl
theorem goal4_apply (c : Dev nD) (r : Fin 8192) (j : Fin 6144) :
    goal4 m c (ix2 r j) = proj (argX m c) (argW m c) r ⟨6144 + j.val, by omega⟩ := by
  rw [← ref_proj]
  refine (Cert.InMainRefIdeal.Read.val_main_v8_apply _ _ _).trans
    (congrArg (Cert.InMainRefIdeal.Read.val_main_v3 (F := Ideal) (argX m c) (argW m c)) ?_)
  funext a
  match a with
  | ⟨0, _⟩ => rfl
  | ⟨1, _⟩ => rfl

/-! ## What is written back -/

/-- What point `t` writes back of a result is its block of the reference's. -/
theorem flushed2 (c : Dev nD) (t : Fin cfg0.N) :
    (InMainFrame.dats m 0 c).flushed 2 t = (win0_2.blk t).view.read (Elt Ideal) (goal2 m c) := by
  show (cfg0.win 2).cut (grid0.coords t) ((InMainFrame.dats m 0 c).after 2 t) = _
  rw [after2]
  funext y
  obtain ⟨r, j, rfl⟩ : ∃ (r : Fin 2048) (j : Fin 512), y = ix2 r j := ⟨y 0, y 1, eq_ix2 y⟩
  have ht := lt_N t
  have e : (win0_2.rect t).emb (ix2 r j)
      = ix2 (⟨t.val / 24 * 2048 + r.val, by omega⟩ : Fin 8192) (⟨min (t.val % 24) 3 * 512 + j.val, by omega⟩ : Fin 2048) := by
    funext a
    refine Fin.ext ?_
    refine (win0_2.rect_emb_val t (ix2 r j) a).trans ?_
    match a with
    | ⟨0, _⟩ => show win0_2.index t 0 * 2048 + r.val = _; rw [(at2 t).1]
    | ⟨1, _⟩ => show win0_2.index t 1 * 512 + j.val = _; rw [(at2 t).2]
  refine Eq.trans ?_ ((congrArg (goal2 m c) e).trans (goal2_apply m c _ _)).symm
  exact pay_apply m c (last2 t) r j _ _ (by dsimp only [last2]; omega) (by dsimp only [last2]; omega)

theorem flushed3 (c : Dev nD) (t : Fin cfg0.N) :
    (InMainFrame.dats m 0 c).flushed 3 t = (win0_3.blk t).view.read (Elt Ideal) (goal3 m c) := by
  show (cfg0.win 3).cut (grid0.coords t) ((InMainFrame.dats m 0 c).after 3 t) = _
  rw [after3]
  funext y
  obtain ⟨r, j, rfl⟩ : ∃ (r : Fin 2048) (j : Fin 512), y = ix2 r j := ⟨y 0, y 1, eq_ix2 y⟩
  have ht := lt_N t
  have e : (win0_3.rect t).emb (ix2 r j)
      = ix2 (⟨t.val / 24 * 2048 + r.val, by omega⟩ : Fin 8192) (⟨(max 4 (min (t.val % 24) 11) - 4) * 512 + j.val, by omega⟩ : Fin 4096) := by
    funext a
    refine Fin.ext ?_
    refine (win0_3.rect_emb_val t (ix2 r j) a).trans ?_
    match a with
    | ⟨0, _⟩ => show win0_3.index t 0 * 2048 + r.val = _; rw [(at3 t).1]
    | ⟨1, _⟩ => show win0_3.index t 1 * 512 + j.val = _; rw [(at3 t).2]
  refine Eq.trans ?_ ((congrArg (goal3 m c) e).trans (goal3_apply m c _ _)).symm
  exact pay_silu_apply m c (last3 t) r j _ _ (by dsimp only [last3]; omega) (by dsimp only [last3]; omega)

theorem flushed4 (c : Dev nD) (t : Fin cfg0.N) :
    (InMainFrame.dats m 0 c).flushed 4 t = (win0_4.blk t).view.read (Elt Ideal) (goal4 m c) := by
  show (cfg0.win 4).cut (grid0.coords t) ((InMainFrame.dats m 0 c).after 4 t) = _
  rw [after4]
  funext y
  obtain ⟨r, j, rfl⟩ : ∃ (r : Fin 2048) (j : Fin 512), y = ix2 r j := ⟨y 0, y 1, eq_ix2 y⟩
  have ht := lt_N t
  have e : (win0_4.rect t).emb (ix2 r j)
      = ix2 (⟨t.val / 24 * 2048 + r.val, by omega⟩ : Fin 8192) (⟨(max 12 (t.val % 24) - 12) * 512 + j.val, by omega⟩ : Fin 6144) := by
    funext a
    refine Fin.ext ?_
    refine (win0_4.rect_emb_val t (ix2 r j) a).trans ?_
    match a with
    | ⟨0, _⟩ => show win0_4.index t 0 * 2048 + r.val = _; rw [(at4 t).1]
    | ⟨1, _⟩ => show win0_4.index t 1 * 512 + j.val = _; rw [(at4 t).2]
  refine Eq.trans ?_ ((congrArg (goal4 m c) e).trans (goal4_apply m c _ _)).symm
  exact pay_apply m c (last4 t) r j _ _ (by dsimp only [last4]; omega) (by dsimp only [last4]; omega)

/-- The blocks written back tile each result array. -/
theorem cover2 (i : (⟨2, ![8192, 2048]⟩ : Shape).Idx) : ∃ t : Fin cfg0.N, (cfg0.win 2).flush t = true ∧ i ∈ ((cfg0.win 2).blk t).view.set := by
  have h0 : (i 0 : Nat) < 8192 := (i 0).isLt
  have h1 : (i 1 : Nat) < 2048 := (i 1).isLt
  have hN : cfg0.N = 96 := N_0
  obtain ⟨p, hp, hf, hc⟩ : ∃ p : ℕ, p < 24 ∧ (p < 3 ∨ p = 23) ∧ min (p) 3 = (i 1 : Nat) / 512 := by
    by_cases h : (i 1 : Nat) / 512 = 3
    · exact ⟨23, by omega, by omega, by omega⟩
    · exact ⟨(i 1 : Nat) / 512 + 0, by omega, by omega, by omega⟩
  obtain ⟨t, ht⟩ : ∃ t : Fin cfg0.N, t.val = (i 0 : Nat) / 2048 * 24 + p := ⟨⟨(i 0 : Nat) / 2048 * 24 + p, by omega⟩, rfl⟩
  have hq : t.val / 24 = (i 0 : Nat) / 2048 := by omega
  have hr : t.val % 24 = p := by omega
  refine ⟨t, by rw [flush2, decide_eq_true_iff, hr]; exact hf, ?_⟩
  show i ∈ ((View.whole main_v3_0).slice (win0_2.rect t)).set
  rw [View.set_slice_whole, Rect.mem_set_unit]
  intro a
  match a with
  | ⟨0, _⟩ => show win0_2.index t 0 * 2048 ≤ (i 0 : Nat) ∧ (i 0 : Nat) < win0_2.index t 0 * 2048 + 2048; rw [(at2 t).1, hq]; omega
  | ⟨1, _⟩ => show win0_2.index t 1 * 512 ≤ (i 1 : Nat) ∧ (i 1 : Nat) < win0_2.index t 1 * 512 + 512; rw [(at2 t).2, hr, hc]; omega

theorem cover3 (i : (⟨2, ![8192, 4096]⟩ : Shape).Idx) : ∃ t : Fin cfg0.N, (cfg0.win 3).flush t = true ∧ i ∈ ((cfg0.win 3).blk t).view.set := by
  have h0 : (i 0 : Nat) < 8192 := (i 0).isLt
  have h1 : (i 1 : Nat) < 4096 := (i 1).isLt
  have hN : cfg0.N = 96 := N_0
  obtain ⟨p, hp, hf, hc⟩ : ∃ p : ℕ, p < 24 ∧ ((4 ≤ p ∧ p < 11) ∨ p = 23) ∧ (max 4 (min (p) 11) - 4) = (i 1 : Nat) / 512 := by
    by_cases h : (i 1 : Nat) / 512 = 7
    · exact ⟨23, by omega, by omega, by omega⟩
    · exact ⟨(i 1 : Nat) / 512 + 4, by omega, by omega, by omega⟩
  obtain ⟨t, ht⟩ : ∃ t : Fin cfg0.N, t.val = (i 0 : Nat) / 2048 * 24 + p := ⟨⟨(i 0 : Nat) / 2048 * 24 + p, by omega⟩, rfl⟩
  have hq : t.val / 24 = (i 0 : Nat) / 2048 := by omega
  have hr : t.val % 24 = p := by omega
  refine ⟨t, by rw [flush3, decide_eq_true_iff, hr]; exact hf, ?_⟩
  show i ∈ ((View.whole main_v3_1).slice (win0_3.rect t)).set
  rw [View.set_slice_whole, Rect.mem_set_unit]
  intro a
  match a with
  | ⟨0, _⟩ => show win0_3.index t 0 * 2048 ≤ (i 0 : Nat) ∧ (i 0 : Nat) < win0_3.index t 0 * 2048 + 2048; rw [(at3 t).1, hq]; omega
  | ⟨1, _⟩ => show win0_3.index t 1 * 512 ≤ (i 1 : Nat) ∧ (i 1 : Nat) < win0_3.index t 1 * 512 + 512; rw [(at3 t).2, hr, hc]; omega

theorem cover4 (i : (⟨2, ![8192, 6144]⟩ : Shape).Idx) : ∃ t : Fin cfg0.N, (cfg0.win 4).flush t = true ∧ i ∈ ((cfg0.win 4).blk t).view.set := by
  have h0 : (i 0 : Nat) < 8192 := (i 0).isLt
  have h1 : (i 1 : Nat) < 6144 := (i 1).isLt
  have hN : cfg0.N = 96 := N_0
  obtain ⟨p, hp, hf, hc⟩ : ∃ p : ℕ, p < 24 ∧ (12 ≤ p) ∧ (max 12 (p) - 12) = (i 1 : Nat) / 512 := by
    exact ⟨(i 1 : Nat) / 512 + 12, by omega, by omega, by omega⟩
  obtain ⟨t, ht⟩ : ∃ t : Fin cfg0.N, t.val = (i 0 : Nat) / 2048 * 24 + p := ⟨⟨(i 0 : Nat) / 2048 * 24 + p, by omega⟩, rfl⟩
  have hq : t.val / 24 = (i 0 : Nat) / 2048 := by omega
  have hr : t.val % 24 = p := by omega
  refine ⟨t, by rw [flush4, decide_eq_true_iff, hr]; exact hf, ?_⟩
  show i ∈ ((View.whole main_v3_2).slice (win0_4.rect t)).set
  rw [View.set_slice_whole, Rect.mem_set_unit]
  intro a
  match a with
  | ⟨0, _⟩ => show win0_4.index t 0 * 2048 ≤ (i 0 : Nat) ∧ (i 0 : Nat) < win0_4.index t 0 * 2048 + 2048; rw [(at4 t).1, hq]; omega
  | ⟨1, _⟩ => show win0_4.index t 1 * 512 ≤ (i 1 : Nat) ∧ (i 1 : Nat) < win0_4.index t 1 * 512 + 512; rw [(at4 t).2, hr, hc]; omega

/-- The run, read: the result arrays hold the reference's columns of the arguments, which are as launched. -/
theorem run : θ_run defs (onTc (τ := τ) (main (F := Ideal))) ⟨m, fun _ => 0, ρ⟩ fun r => ∀ c : Dev nD,
      r.2.mem ((c : Thread nD τ).loc main_v3_0) = goal2 m c
      ∧ r.2.mem ((c : Thread nD τ).loc main_v3_1) = goal3 m c
      ∧ r.2.mem ((c : Thread nD τ).loc main_v3_2) = goal4 m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h.1 c).1 2).trans ((InMainFrame.dats m 0 c).arrAt_eq_of_cover 2 (goal2 m c) (fun t _ => flushed2 m c t) cover2),
        ((h.1 c).1 3).trans ((InMainFrame.dats m 0 c).arrAt_eq_of_cover 3 (goal3 m c) (fun t _ => flushed3 m c t) cover3),
        ((h.1 c).1 4).trans ((InMainFrame.dats m 0 c).arrAt_eq_of_cover 4 (goal4 m c) (fun t _ => flushed4 m c t) cover4),
        h.2.1 c⟩)
    (θ_run_and ((θ_run defs _ _).mono (fun _ h => h.1) (run_quiescent m ρ)) (frame m ρ))

/-- The reference leaves its arguments as launched and every semaphore counter at zero. -/
theorem ref_frame : Cert.quiescent_InMainRefIdeal := fun m ρ _ =>
  (θ_run Cert.InMainRefIdeal.defs _ _).mono
    (fun r h => ⟨fun c => (h c).2.2.2, Idealize.ShloMosaic.sem_eq_zero_of_no_sems (by decide) r.2⟩)
    (Cert.InMainRefIdeal.Value.run m ρ)

/-- From equal arguments the kernel and the reference end with equal results. -/
theorem agrees : Cert.algebraic_InMainIdeal_InMainRefIdeal := by
  intro m ρ m' ρ' _ hagree
  refine ⟨fun c => goal2 m c, fun c => goal3 m c, fun c => goal4 m c, run m ρ,
    (θ_run Cert.InMainRefIdeal.defs _ _).mono (fun _ h c => ⟨(h c).1.trans ?_, (h c).2.1.trans ?_, (h c).2.2.1.trans ?_, (h c).2.2.2⟩)
      (Cert.InMainRefIdeal.Value.run (F := Ideal) m' ρ')⟩
  · rw [(hagree c).1, (hagree c).2]
    exact Cert.InMainRefIdeal.Read.val_main_v4_eq _ _
  · rw [(hagree c).1, (hagree c).2]
    exact Cert.InMainRefIdeal.Read.val_main_v7_eq _ _
  · rw [(hagree c).1, (hagree c).2]
    exact Cert.InMainRefIdeal.Read.val_main_v8_eq _ _

/-- The printed kernel is, under another name, the text that is read over the reals: its table of bodies -/
theorem defs₀_eq {F : FTy → Type} [FloatOps F] : Cert.InMain.defs₀ (F := F) = Cert.InMainIdeal.defs₀ (F := F) := by
  unfold Cert.InMain.defs₀ Cert.InMainIdeal.defs₀
  refine congrArg Defs.onTc (funext fun l => funext fun a => ?_)
  match l, a with
  | 0, (t, s) => rfl
  | ⟨_ + 1, h⟩, _ => exact absurd h (Nat.not_lt.2 (Nat.le_add_left _ _))

/-- and that of its pipeline are the same, -/
theorem defs_eq {F : FTy → Type} [FloatOps F] : Cert.InMain.defs (F := F) = Cert.InMainIdeal.defs (F := F) :=
  congrArg (Pipeline.defs Cert.InMainIdeal.pcfgs) defs₀_eq

/-- so that the run proved above is also its run. -/
theorem printed_frame : Cert.quiescent_InMain := fun m ρ _ => by
  rw [defs_eq]
  exact InMainFrame.frame m ρ

end InMainValue
-- ==== Proof.InGatesValue.lean ====
/-
  The gate projection: the run of the blocked product leaves, in its result array, the reference's gates of the same
  arguments. Each grid point's block is a block of 2048 rows by 512 columns; the weight's block is taken at an element
  offset, 512 columns at a time from column 12352 on.
-/
module

public import proofs.«01_k».proof.Defs
public import proofs.«01_k».proof.Proof.Gen.InGatesIdeal.Value
public import proofs.«01_k».proof.Proof.Gen.InGatesRefIdeal.Run
public import proofs.«01_k».proof.Proof.Gen.InGatesRefIdeal.Read
public import proofs.«01_k».proof.Proof.InProj
public import Idealize.ShloMosaic.Lib.Pipeline.Value
public import Idealize.ShloMosaic.Lib.Quiescent

@[expose] public section

set_option maxRecDepth 16384

noncomputable section

namespace InGatesValue

open Cert.InGatesIdeal Cert.InGatesIdeal.Gen
open Idealize.ShloMosaic Idealize.ShloMosaic.TcCoe Idealize.SL.Sem Idealize.ShloMosaic.ValueIdx
open Idealize.ShloMosaic.Pipeline (Dat)
open InProj

variable (m : (ℓ : Loc nD τ sig) → Buf (Elt Ideal) ℓ) (ρ : Dev nD → PrngReg)

/-- Device `c`'s activations as launched. -/
abbrev argX (c : Dev nD) : (⟨3, ![4, 2048, 2048]⟩ : Shape).Idx → EReal := m ((c : Thread nD τ).loc main_arg0)
/-- Device `c`'s stacked weights as launched. -/
abbrev argW (c : Dev nD) : (⟨3, ![4, 2048, 16448]⟩ : Shape).Idx → EReal := m ((c : Thread nD τ).loc main_arg1)

/-- What the reference computes from device `c`'s arguments. -/
abbrev goal (c : Dev nD) : (⟨2, ![8192, 4096]⟩ : Shape).Idx → EReal :=
  Cert.InGatesRefIdeal.Read.val_main_v11 (F := Ideal) (argX m c) (argW m c)

/-- The region finds the flattened activations in its first operand. -/
theorem V_x (c : Dev nD) (r : Fin 8192) (k : Fin 2048) : V m c main_v2 (ix2 r k) = argX m c (rowIx r k) := by
  have e : V m c main_v2 = (truncf .bf16 (shapeCast S8192x2048 (argX m c) shapeCasts_S4x2048x2048_S8192x2048 : FVec Ideal S8192x2048 .f32) bitsLt_bf16_f32
      : FVec Ideal S8192x2048 .bf16) := by
    unfold V hostOps0
    after_results
    rfl
  rw [e]
  exact flat_apply (argX m c) _ r k

/-- and the weights, last two axes exchanged, in its second. -/
theorem V_w (c : Dev nD) (l : Fin 4) (j : Fin 16448) (k : Fin 2048) : V m c main_v0 (ix3 l j k) = argW m c (ix3 l k j) := by
  have e : V m c main_v0 = (transpose S4x16448x2048 [0, 2, 1] (argW m c) transposes_S4x2048x16448_S4x16448x2048_0_2_1) := by
    unfold V hostOps0
    after_results
  rw [e]
  exact swap_apply (argW m c) _ l j k

/-- Where point `t`'s blocks lie: row block `t / 8`, column block `t % 8`. -/
theorem at0 : ∀ t : Fin cfg0.N, win0_0.index t 0 = t.val / 8 ∧ win0_0.index t 1 = 0 :=
  (by decide +kernel : ∀ t : Fin grid0.N, win0_0.index t 0 = t.val / 8 ∧ win0_0.index t 1 = 0)
theorem at1 : ∀ t : Fin cfg0.N, win0_1.index t 0 = 0 ∧ win0_1.index t 1 = 12352 + t.val % 8 * 512 ∧ win0_1.index t 2 = 0 :=
  (by decide +kernel : ∀ t : Fin grid0.N, win0_1.index t 0 = 0 ∧ win0_1.index t 1 = 12352 + t.val % 8 * 512 ∧ win0_1.index t 2 = 0)
theorem at2 : ∀ t : Fin cfg0.N, win0_2.index t 0 = t.val / 8 ∧ win0_2.index t 1 = t.val % 8 :=
  (by decide +kernel : ∀ t : Fin grid0.N, win0_2.index t 0 = t.val / 8 ∧ win0_2.index t 1 = t.val % 8)

theorem lt_N (t : Fin cfg0.N) : t.val < 32 := by have := t.isLt; have hN : cfg0.N = 32 := N_0; omega

/-- The activations' block at point `t`, read at an index. -/
theorem blk0 (c : Dev nD) (t : Fin cfg0.N) (r : Fin 2048) (k : Fin 2048) :
    iblk m c 0 t (ix2 r k) = argX m c (rowIx ⟨t.val / 8 * 2048 + r.val, by have := lt_N t; omega⟩ k) := by
  rw [← V_x]
  show V m c main_v2 ((win0_0.rect t).emb (ix2 r k)) = _
  refine congrArg (V m c main_v2) (funext fun a => Fin.ext ?_)
  refine (win0_0.rect_emb_val t (ix2 r k) a).trans ?_
  match a with
  | ⟨0, _⟩ => show win0_0.index t 0 * 2048 + r.val = _; rw [(at0 t).1]
  | ⟨1, _⟩ => show win0_0.index t 1 * 2048 + k.val = k.val; rw [(at0 t).2]; omega

/-- The weights' block at point `t`, read at an index: it starts at an element offset. -/
theorem blk1 (c : Dev nD) (t : Fin cfg0.N) (j : Fin 512) (k : Fin 2048) :
    iblk m c 1 t (ix3 0 j k) = argW m c (ix3 0 k ⟨12352 + t.val % 8 * 512 + j.val, by omega⟩) := by
  rw [← V_w]
  show V m c main_v0 ((win0_1.rect t).emb (ix3 0 j k)) = _
  refine congrArg (V m c main_v0) (funext fun a => Fin.ext ?_)
  refine (win0_1.rect_emb_val_off t (ix3 0 j k) a).trans ?_
  match a with
  | ⟨0, _⟩ => show win0_1.index t 0 + 0 = 0; rw [(at1 t).1]
  | ⟨1, _⟩ => show win0_1.index t 1 + j.val = _; rw [(at1 t).2.1]
  | ⟨2, _⟩ => show win0_1.index t 2 + k.val = k.val; rw [(at1 t).2.2]; omega

theorem hz2 : (![0, 0] : Fin 2 → Nat) = fun _ => 0 := funext fun a => by fin_cases a <;> rfl
theorem hz3 : (![0, 0, 0] : Fin 3 → Nat) = fun _ => 0 := funext fun a => by fin_cases a <;> rfl

/-- The reference's gates at (r, c): the logistic function of the product's entry in column 12352 + c. -/
theorem goal_apply (c : Dev nD) (r : Fin 8192) (j : Fin 4096) :
    goal m c (ix2 r j) = Ideal.logistic (proj (argX m c) (argW m c) r ⟨12352 + j.val, by omega⟩) := by
  rw [← ref_proj]
  show Ideal.div (Ideal.ofBits .f32 0x3F800000#32) (Ideal.ofBits .f32 0x3F800000#32 + Ideal.exp (-_)) = Ideal.div 1 (1 + Ideal.exp (-_))
  rw [Ideal.ofBits_one_f32, Cert.InGatesRefIdeal.Read.val_main_v4_apply]
  refine congrArg (fun i => Ideal.div 1 (1 + Ideal.exp (-(Cert.InGatesRefIdeal.Read.val_main_v3 (F := Ideal) (argX m c) (argW m c) i)))) ?_
  funext a
  match a with
  | ⟨0, _⟩ => rfl
  | ⟨1, _⟩ => rfl

/-- What point `t` writes back is its block of the reference's gates. -/
theorem flushed_eq (c : Dev nD) (t : Fin cfg0.N) :
    (dats m 0 c).flushed 2 t = (win0_2.blk t).view.read (Elt Ideal) (goal m c) := by
  rw [Value.flushed2]
  unfold out0_2
  rw [View.canon_unit_zero hz2, View.ld_unit_zero hz2, View.ld_unit_zero hz3]
  funext y
  obtain ⟨r, j, rfl⟩ : ∃ (r : Fin 2048) (j : Fin 512), y = ix2 r j := ⟨y 0, y 1, eq_ix2 y⟩
  have ht := lt_N t
  have e : (win0_2.rect t).emb (ix2 r j)
      = ix2 (⟨t.val / 8 * 2048 + r.val, by omega⟩ : Fin 8192) (⟨t.val % 8 * 512 + j.val, by omega⟩ : Fin 4096) := by
    funext a
    refine Fin.ext ?_
    refine (win0_2.rect_emb_val t (ix2 r j) a).trans ?_
    match a with
    | ⟨0, _⟩ => show win0_2.index t 0 * 2048 + r.val = _; rw [(at2 t).1]
    | ⟨1, _⟩ => show win0_2.index t 1 * 512 + j.val = _; rw [(at2 t).2]
  show Ideal.logistic (FloatOps.matmul (DotDims.transposedRhs 2048 2048 512) none (shapeCast S2048x2048 (iblk m c 0 t) _)
    (truncf .bf16 (shapeCast S512x2048 (iblk m c 1 t) _ : FVec Ideal S512x2048 .f32) _) (constant S2048x512 .f32 0x00000000#32) (ix2 r j))
      = goal m c ((win0_2.rect t).emb (ix2 r j))
  rw [e, goal_apply]
  exact congrArg Ideal.logistic (block_proj _ _ _ _ _ _ _ r j _ _ (fun k => blk0 m c t r k)
    (fun k => (blk1 m c t j k).trans (congrArg (fun q => argW m c (ix3 0 k q)) (Fin.ext (Nat.add_assoc _ _ _)))))

/-- An index of the result array lies in point `t`'s block. -/
theorem mem_blk (t : Fin cfg0.N) (i : S8192x4096.Idx) :
    i ∈ ((cfg0.win 2).blk t).view.set ↔ (t.val / 8 * 2048 ≤ (i 0 : Nat) ∧ (i 0 : Nat) < t.val / 8 * 2048 + 2048)
      ∧ (t.val % 8 * 512 ≤ (i 1 : Nat) ∧ (i 1 : Nat) < t.val % 8 * 512 + 512) := by
  show i ∈ ((View.whole main_v3).slice (win0_2.rect t)).set ↔ _
  rw [View.set_slice_whole, Rect.mem_set_unit, ← (at2 t).1, ← (at2 t).2]
  refine ⟨fun h => ⟨h 0, h 1⟩, fun h a => ?_⟩
  match a with
  | ⟨0, _⟩ => exact h.1
  | ⟨1, _⟩ => exact h.2

/-- The blocks written back tile the result array. -/
theorem cover (i : S8192x4096.Idx) : ∃ t : Fin cfg0.N, (cfg0.win 2).flush t = true ∧ i ∈ ((cfg0.win 2).blk t).view.set := by
  have h0 : (i 0 : Nat) < 8192 := (i 0).isLt
  have h1 : (i 1 : Nat) < 4096 := (i 1).isLt
  have hN : cfg0.N = 32 := N_0
  refine ⟨⟨(i 0 : Nat) / 2048 * 8 + (i 1 : Nat) / 512, by rw [hN]; omega⟩, flush0_2 _, ?_⟩
  rw [mem_blk]
  dsimp only
  omega

/-- The run, read: the result array holds the reference's gates of the arguments, which are as launched. -/
theorem run : θ_run defs (onTc (τ := τ) (main (F := Ideal))) ⟨m, fun _ => 0, ρ⟩ fun r => ∀ c : Dev nD,
      r.2.mem ((c : Thread nD τ).loc main_v3) = goal m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans ((dats m 0 c).arrAt_eq_of_cover 2 (goal m c) (fun t _ => flushed_eq m c t) cover), (h c).2⟩)
    (Value.run_blocks m ρ)

/-- The reference leaves its arguments as launched and every semaphore counter at zero. -/
theorem ref_frame : Cert.quiescent_InGatesRefIdeal := fun m ρ _ =>
  (θ_run Cert.InGatesRefIdeal.defs _ _).mono
    (fun r h => ⟨fun c => ⟨(h c).2.1, (h c).2.2⟩, Idealize.ShloMosaic.sem_eq_zero_of_no_sems (by decide) r.2⟩)
    (Cert.InGatesRefIdeal.Value.run m ρ)

/-- From equal arguments the kernel and the reference end with equal results. -/
theorem agrees : Cert.algebraic_InGatesIdeal_InGatesRefIdeal := by
  intro m ρ m' ρ' _ hagree
  refine ⟨fun c => goal m c, run m ρ, (θ_run Cert.InGatesRefIdeal.defs _ _).mono (fun _ h c => ⟨(h c).1.trans ?_, (h c).2⟩)
    (Cert.InGatesRefIdeal.Value.run (F := Ideal) m' ρ')⟩
  rw [(hagree c).1, (hagree c).2]
  exact Cert.InGatesRefIdeal.Read.val_main_v11_eq _ _

end InGatesValue
-- ==== Proof.InDtValue.lean ====
/-
  The projection giving the step sizes: the run of the blocked product leaves, in its result array, the reference's
  64 columns of the same arguments followed by 64 columns of zeros. The weight's 64 columns are padded by zeros to 128
  before the product; the padded columns of the product are sums of zeros.
-/
module

public import proofs.«01_k».proof.Defs
public import proofs.«01_k».proof.Proof.Gen.InDtIdeal.Value
public import proofs.«01_k».proof.Proof.Gen.InDtRefIdeal.Run
public import proofs.«01_k».proof.Proof.Gen.InDtRefIdeal.Read
public import proofs.«01_k».proof.Proof.InProj
public import Idealize.ShloMosaic.Lib.Pipeline.Value
public import Idealize.ShloMosaic.Lib.Quiescent
public import Idealize.ShloMosaic.Lib.KernelVsHost

@[expose] public section

set_option maxRecDepth 16384

noncomputable section

namespace InDtValue

open Cert.InDtIdeal Cert.InDtIdeal.Gen
open Idealize.ShloMosaic Idealize.ShloMosaic.TcCoe Idealize.SL.Sem Idealize.ShloMosaic.ValueIdx
open Idealize.ShloMosaic.Pipeline (Dat)
open InProj

variable (m : (ℓ : Loc nD τ sig) → Buf (Elt Ideal) ℓ) (ρ : Dev nD → PrngReg)

/-- Device `c`'s activations as launched. -/
abbrev argX (c : Dev nD) : (⟨3, ![4, 2048, 2048]⟩ : Shape).Idx → EReal := m ((c : Thread nD τ).loc main_arg0)
/-- Device `c`'s stacked weights as launched. -/
abbrev argW (c : Dev nD) : (⟨3, ![4, 2048, 16448]⟩ : Shape).Idx → EReal := m ((c : Thread nD τ).loc main_arg1)

/-- What the reference computes from device `c`'s arguments. -/
abbrev goal (c : Dev nD) : (⟨2, ![8192, 128]⟩ : Shape).Idx → EReal :=
  Cert.InDtRefIdeal.Read.val_main_v5 (F := Ideal) (argX m c) (argW m c)

/-- The region finds the flattened activations in its first operand. -/
theorem V_x (c : Dev nD) (r : Fin 8192) (k : Fin 2048) : V m c main_v4 (ix2 r k) = argX m c (rowIx r k) := by
  have e : V m c main_v4 = (truncf .bf16 (shapeCast S8192x2048 (argX m c) shapeCasts_S4x2048x2048_S8192x2048 : FVec Ideal S8192x2048 .f32) bitsLt_bf16_f32
      : FVec Ideal S8192x2048 .bf16) := by
    unfold V hostOps0 hostOps0_1 hostOps0_2
    after_results
    rfl
  rw [e]
  exact flat_apply (argX m c) _ r k

/-- The value padded with is zero. -/
theorem pad_zero : FloatOps.sitofp (F := Ideal) .f32 (0#32) = (0 : EReal) := by
  show ((((0#32 : BitVec 32).toInt : ℤ) : ℝ) : EReal) = 0
  simp

/-- The padded weights as the region finds them in its second operand. -/
theorem V_pad (c : Dev nD) : V m c main_v2 = pad S4x128x2048 ![0, 0, 0] ![0, 64, 0] ![0, 0, 0]
    (extractStridedSlice S4x64x2048 ![0, 12288, 0]
      (transpose S4x16448x2048 [0, 2, 1] (argW m c) transposes_S4x2048x16448_S4x16448x2048_0_2_1) slices_S4x16448x2048_S4x64x2048_0_12288_0)
    (sitofp (F := Ideal) .f32 (constantI S_ 32 0#32) : FVec Ideal S_ .f32) pads_S4x64x2048_S4x128x2048_000_0640_000 h_S_ := by
  unfold V hostOps0 hostOps0_1 hostOps0_2
  after_results
  rfl

/-- A column below 64 of the padded weights is a column of the weights, -/
theorem V_w (c : Dev nD) (l : Fin 4) (j : Fin 128) (k : Fin 2048) (hj : j.val < 64) :
    V m c main_v2 (ix3 l j k) = argW m c (ix3 l k ⟨12288 + j.val, by omega⟩) := by
  rw [V_pad]
  refine (pad_apply_of_inside _ _ _ _ _ _ _ (ix3 l j k) (ix3 l ⟨j.val, hj⟩ k) (fun a => ?_)).trans ?_
  · match a with
    | ⟨0, _⟩ => show l.val = 0 + l.val * (0 + 1); omega
    | ⟨1, _⟩ => show j.val = 0 + j.val * (0 + 1); omega
    | ⟨2, _⟩ => show k.val = 0 + k.val * (0 + 1); omega
  · refine (extractStridedSlice_apply _ _ _ _ (ix3 l (⟨12288 + j.val, by omega⟩ : Fin 16448) k) (fun a => ?_)).trans (swap_apply (argW m c) _ l _ k)
    match a with
    | ⟨0, _⟩ => show l.val = 0 + l.val; omega
    | ⟨1, _⟩ => rfl
    | ⟨2, _⟩ => show k.val = 0 + k.val; omega

/-- and a column from 64 on is zero. -/
theorem V_w_zero (c : Dev nD) (l : Fin 4) (j : Fin 128) (k : Fin 2048) (hj : 64 ≤ j.val) :
    V m c main_v2 (ix3 l j k) = (0 : EReal) := by
  rw [V_pad]
  refine (pad_apply_of_not_inside _ _ _ _ _ _ _ (ix3 l j k) (1 : Fin 3) ?_).trans pad_zero
  show ¬(0 ≤ j.val ∧ (j.val - 0) % (0 + 1) = 0 ∧ (j.val - 0) / (0 + 1) < 64)
  omega

/-- Where point `t`'s blocks lie: row block `t`, every column. -/
theorem at0 : ∀ t : Fin cfg0.N, win0_0.index t 0 = t.val ∧ win0_0.index t 1 = 0 :=
  (by decide +kernel : ∀ t : Fin grid0.N, win0_0.index t 0 = t.val ∧ win0_0.index t 1 = 0)
theorem at1 : ∀ t : Fin cfg0.N, win0_1.index t 0 = 0 ∧ win0_1.index t 1 = 0 ∧ win0_1.index t 2 = 0 :=
  (by decide +kernel : ∀ t : Fin grid0.N, win0_1.index t 0 = 0 ∧ win0_1.index t 1 = 0 ∧ win0_1.index t 2 = 0)
theorem at2 : ∀ t : Fin cfg0.N, win0_2.index t 0 = t.val ∧ win0_2.index t 1 = 0 :=
  (by decide +kernel : ∀ t : Fin grid0.N, win0_2.index t 0 = t.val ∧ win0_2.index t 1 = 0)

theorem lt_N (t : Fin cfg0.N) : t.val < 4 := by have := t.isLt; have hN : cfg0.N = 4 := N_0; omega

/-- The activations' block at point `t`, read at an index. -/
theorem blk0 (c : Dev nD) (t : Fin cfg0.N) (r : Fin 2048) (k : Fin 2048) :
    iblk m c 0 t (ix2 r k) = argX m c (rowIx ⟨t.val * 2048 + r.val, by have := lt_N t; omega⟩ k) := by
  rw [← V_x]
  show V m c main_v4 ((win0_0.rect t).emb (ix2 r k)) = _
  refine congrArg (V m c main_v4) (funext fun a => Fin.ext ?_)
  refine (win0_0.rect_emb_val t (ix2 r k) a).trans ?_
  match a with
  | ⟨0, _⟩ => show win0_0.index t 0 * 2048 + r.val = _; rw [(at0 t).1]
  | ⟨1, _⟩ => show win0_0.index t 1 * 2048 + k.val = k.val; rw [(at0 t).2]; omega

/-- The padded weights' block, the same at every point, read at an index. -/
theorem blk1 (c : Dev nD) (t : Fin cfg0.N) (j : Fin 128) (k : Fin 2048) :
    iblk m c 1 t (ix3 0 j k) = V m c main_v2 (ix3 0 j k) := by
  show V m c main_v2 ((win0_1.rect t).emb (ix3 0 j k)) = _
  refine congrArg (V m c main_v2) (funext fun a => Fin.ext ?_)
  refine (win0_1.rect_emb_val_off t (ix3 0 j k) a).trans ?_
  match a with
  | ⟨0, _⟩ => show win0_1.index t 0 + 0 = 0; rw [(at1 t).1]
  | ⟨1, _⟩ => show win0_1.index t 1 + j.val = j.val; rw [(at1 t).2.1]; omega
  | ⟨2, _⟩ => show win0_1.index t 2 + k.val = k.val; rw [(at1 t).2.2]; omega

theorem hz2 : (![0, 0] : Fin 2 → Nat) = fun _ => 0 := funext fun a => by fin_cases a <;> rfl
theorem hz3 : (![0, 0, 0] : Fin 3 → Nat) = fun _ => 0 := funext fun a => by fin_cases a <;> rfl

/-- The reference's columns at (r, c): below 64 the product's entry in column 12288 + c, -/
theorem goal_apply (c : Dev nD) (r : Fin 8192) (j : Fin 128) (hj : j.val < 64) :
    goal m c (ix2 r j) = proj (argX m c) (argW m c) r ⟨12288 + j.val, by omega⟩ := by
  rw [← ref_proj]
  refine (pad_apply_of_inside _ _ _ _ _ _ _ (ix2 r j) (ix2 r ⟨j.val, hj⟩) (fun a => ?_)).trans ?_
  · match a with
    | ⟨0, _⟩ => show r.val = 0 + r.val * (0 + 1); omega
    | ⟨1, _⟩ => show j.val = 0 + j.val * (0 + 1); omega
  · refine (Cert.InDtRefIdeal.Read.val_main_v4_apply _ _ _).trans
      (congrArg (Cert.InGatesRefIdeal.Read.val_main_v3 (F := Ideal) (argX m c) (argW m c)) ?_)
    funext a
    match a with
    | ⟨0, _⟩ => rfl
    | ⟨1, _⟩ => rfl

/-- and from 64 on zero. -/
theorem goal_zero (c : Dev nD) (r : Fin 8192) (j : Fin 128) (hj : 64 ≤ j.val) : goal m c (ix2 r j) = 0 := by
  refine (pad_apply_of_not_inside _ _ _ _ _ _ _ (ix2 r j) (1 : Fin 2) ?_).trans pad_zero
  show ¬(0 ≤ j.val ∧ (j.val - 0) % (0 + 1) = 0 ∧ (j.val - 0) / (0 + 1) < 64)
  omega

/-- What point `t` writes back is its block of the reference's columns. -/
theorem flushed_eq (c : Dev nD) (t : Fin cfg0.N) :
    (dats m 0 c).flushed 2 t = (win0_2.blk t).view.read (Elt Ideal) (goal m c) := by
  rw [Value.flushed2]
  unfold out0_2
  rw [View.canon_unit_zero hz2, View.ld_unit_zero hz2, View.ld_unit_zero hz3]
  funext y
  obtain ⟨r, j, rfl⟩ : ∃ (r : Fin 2048) (j : Fin 128), y = ix2 r j := ⟨y 0, y 1, eq_ix2 y⟩
  have ht := lt_N t
  have e : (win0_2.rect t).emb (ix2 r j) = ix2 (⟨t.val * 2048 + r.val, by omega⟩ : Fin 8192) j := by
    funext a
    refine Fin.ext ?_
    refine (win0_2.rect_emb_val t (ix2 r j) a).trans ?_
    match a with
    | ⟨0, _⟩ => show win0_2.index t 0 * 2048 + r.val = _; rw [(at2 t).1]
    | ⟨1, _⟩ => show win0_2.index t 1 * 128 + j.val = j.val; rw [(at2 t).2]; omega
  show FloatOps.matmul (DotDims.transposedRhs 2048 2048 128) none (shapeCast S2048x2048 (iblk m c 0 t) _)
    (truncf .bf16 (shapeCast S128x2048 (iblk m c 1 t) _ : FVec Ideal S128x2048 .f32) _) (constant S2048x128 .f32 0x00000000#32) (ix2 r j)
      = goal m c ((win0_2.rect t).emb (ix2 r j))
  rw [e]
  by_cases hj : j.val < 64
  · rw [goal_apply m c _ j hj]
    exact block_proj _ _ _ _ _ _ _ r j _ _ (fun k => blk0 m c t r k) (fun k => (blk1 m c t j k).trans (V_w m c 0 j k hj))
  · rw [goal_zero m c _ j (by omega)]
    exact block_zero _ _ _ _ _ r j (fun k => (blk1 m c t j k).trans (V_w_zero m c 0 j k (by omega)))

/-- An index of the result array lies in point `t`'s block. -/
theorem mem_blk (t : Fin cfg0.N) (i : S8192x128.Idx) :
    i ∈ ((cfg0.win 2).blk t).view.set ↔ (t.val * 2048 ≤ (i 0 : Nat) ∧ (i 0 : Nat) < t.val * 2048 + 2048)
      ∧ (0 * 128 ≤ (i 1 : Nat) ∧ (i 1 : Nat) < 0 * 128 + 128) := by
  show i ∈ ((View.whole main_v5).slice (win0_2.rect t)).set ↔ _
  rw [View.set_slice_whole, Rect.mem_set_unit, ← (at2 t).1, ← (at2 t).2]
  refine ⟨fun h => ⟨h 0, h 1⟩, fun h a => ?_⟩
  match a with
  | ⟨0, _⟩ => exact h.1
  | ⟨1, _⟩ => exact h.2

/-- The blocks written back tile the result array. -/
theorem cover (i : S8192x128.Idx) : ∃ t : Fin cfg0.N, (cfg0.win 2).flush t = true ∧ i ∈ ((cfg0.win 2).blk t).view.set := by
  have h0 : (i 0 : Nat) < 8192 := (i 0).isLt
  have h1 : (i 1 : Nat) < 128 := (i 1).isLt
  have hN : cfg0.N = 4 := N_0
  refine ⟨⟨(i 0 : Nat) / 2048, by rw [hN]; omega⟩, flush0_2 _, ?_⟩
  rw [mem_blk]
  dsimp only
  omega

/-- The run, read: the result array holds the reference's columns of the arguments, which are as launched. -/
theorem run : θ_run defs (onTc (τ := τ) (main (F := Ideal))) ⟨m, fun _ => 0, ρ⟩ fun r => ∀ c : Dev nD,
      r.2.mem ((c : Thread nD τ).loc main_v5) = goal m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans ((dats m 0 c).arrAt_eq_of_cover 2 (goal m c) (fun t _ => flushed_eq m c t) cover), (h c).2⟩)
    (Value.run_blocks m ρ)

/-- The reference leaves its arguments as launched and every semaphore counter at zero. -/
theorem ref_frame : Cert.quiescent_InDtRefIdeal := fun m ρ _ =>
  (θ_run Cert.InDtRefIdeal.defs _ _).mono
    (fun r h => ⟨fun c => ⟨(h c).2.1, (h c).2.2⟩, Idealize.ShloMosaic.sem_eq_zero_of_no_sems (by decide) r.2⟩)
    (Cert.InDtRefIdeal.Value.run m ρ)

/-- From equal arguments the kernel and the reference end with equal results. -/
theorem agrees : Cert.algebraic_InDtIdeal_InDtRefIdeal := by
  intro m ρ m' ρ' _ hagree
  refine ⟨fun c => goal m c, run m ρ, (θ_run Cert.InDtRefIdeal.defs _ _).mono (fun _ h c => ⟨(h c).1.trans ?_, (h c).2⟩)
    (Cert.InDtRefIdeal.Value.run (F := Ideal) m' ρ')⟩
  rw [(hagree c).1, (hagree c).2]
  exact Cert.InDtRefIdeal.Read.val_main_v5_eq _ _

end InDtValue
-- ==== Proof.MemKvValue.lean ====
/-
  The memory's key and value projection: the run of the one-block product leaves, in its result array, the reference's
  product of the same arguments.
-/
module

public import proofs.«01_k».proof.Defs
public import proofs.«01_k».proof.Proof.Gen.MemKvIdeal.Value
public import proofs.«01_k».proof.Proof.Gen.MemKvRefIdeal.Run
public import proofs.«01_k».proof.Proof.Gen.MemKvRefIdeal.Read
public import Idealize.ShloMosaic.Lib.MatmulPlain
public import Idealize.ShloMosaic.Lib.Pipeline.Value
public import Idealize.ShloMosaic.Lib.Quiescent

@[expose] public section

set_option maxRecDepth 16384

noncomputable section

namespace MemKvValue

open Cert.MemKvIdeal Cert.MemKvIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- Device `c`'s memory as launched. -/
abbrev argX (c : Dev nD) : (⟨3, ![4, 256, 2048]⟩ : Shape).Idx → EReal := m ((c : Thread nD τ).loc main_arg0)
/-- Device `c`'s stacked weights as launched. -/
abbrev argW (c : Dev nD) : (⟨3, ![4, 2048, 512]⟩ : Shape).Idx → EReal := m ((c : Thread nD τ).loc main_arg1)

/-- What the reference computes from device `c`'s arguments. -/
abbrev goal (c : Dev nD) : (⟨2, ![1024, 512]⟩ : Shape).Idx → EReal :=
  Cert.MemKvRefIdeal.Read.val_main_v3 (F := Ideal) (argX m c) (argW m c)

/-- The reference's product, flattened, read at (r, j): a sum along the shared axis. -/
theorem goal_apply (c : Dev nD) (r : Fin 1024) (j : Fin 512) :
    goal m c (ix2 r j) = ∑ k : Fin 2048, argX m c (ix3 ⟨r.val / 256, by omega⟩ ⟨r.val % 256, by omega⟩ k) * argW m c (ix3 0 k j) := by
  rw [goal, Cert.MemKvRefIdeal.Read.val_main_v3_apply, Cert.MemKvRefIdeal.Read.val_main_v2_apply]
  refine Finset.sum_congr rfl fun k _ => ?_
  rw [Cert.MemKvRefIdeal.Read.val_main_v1_apply, Cert.MemKvRefIdeal.Read.val_main_v0_apply]
  have hr : r.val < 1024 := r.isLt
  have hj : j.val < 512 := j.isLt
  have hk : k.val < 2048 := k.isLt
  refine congrArg₂ (· * ·) (congrArg (argX m c) (funext fun a => Fin.ext ?_)) (congrArg (argW m c) (funext fun a => Fin.ext ?_))
  · match a with
    | ⟨0, _⟩ => show (r.val * 512 + j.val) / 131072 = r.val / 256; omega
    | ⟨1, _⟩ => show (r.val * 512 + j.val) / 512 % 256 = r.val % 256; omega
    | ⟨2, _⟩ => rfl
  · match a with
    | ⟨0, _⟩ => rfl
    | ⟨1, _⟩ => show (k.val * 512 + (r.val * 512 + j.val) % 512) / 512 % 2048 = k.val; omega
    | ⟨2, _⟩ => show (k.val * 512 + (r.val * 512 + j.val) % 512) % 512 = j.val; omega

/-- The region finds the flattened memory in its first operand. -/
theorem V_x (c : Dev nD) (r : Fin 1024) (k : Fin 2048) :
    V m c main_v1 (ix2 r k) = argX m c (ix3 ⟨r.val / 256, by omega⟩ ⟨r.val % 256, by omega⟩ k) := by
  have e : V m c main_v1 = (truncf .bf16 (shapeCast S1024x2048 (argX m c) shapeCasts_S4x256x2048_S1024x2048 : FVec Ideal S1024x2048 .f32) bitsLt_bf16_f32
      : FVec Ideal S1024x2048 .bf16) := by
    unfold V hostOps0
    after_results
    rfl
  rw [e]
  refine shapeCast_apply (argX m c) _ (ix2 r k) _ ?_
  rewrite [Shape.rowMajor_val_three, Shape.rowMajor_val_two]
  show (r.val / 256 * 256 + r.val % 256) * 2048 + k.val = r.val * 2048 + k.val
  omega

/-- and the weights in its second. -/
theorem V_w (c : Dev nD) (i : (⟨3, ![4, 2048, 512]⟩ : Shape).Idx) : V m c main_v2 i = argW m c i := by
  have e : V m c main_v2 = (truncf .bf16 (argW m c : FVec Ideal S4x2048x512 .f32) bitsLt_bf16_f32 : FVec Ideal S4x2048x512 .bf16) := by
    unfold V hostOps0
    after_results
  rw [e]
  rfl

/-- The one point's blocks lie at the arrays' beginnings. -/
theorem at0 : ∀ t : Fin cfg0.N, win0_0.index t 0 = 0 ∧ win0_0.index t 1 = 0 :=
  (by decide +kernel : ∀ t : Fin grid0.N, win0_0.index t 0 = 0 ∧ win0_0.index t 1 = 0)
theorem at1 : ∀ t : Fin cfg0.N, win0_1.index t 0 = 0 ∧ win0_1.index t 1 = 0 ∧ win0_1.index t 2 = 0 :=
  (by decide +kernel : ∀ t : Fin grid0.N, win0_1.index t 0 = 0 ∧ win0_1.index t 1 = 0 ∧ win0_1.index t 2 = 0)
theorem at2 : ∀ t : Fin cfg0.N, win0_2.index t 0 = 0 ∧ win0_2.index t 1 = 0 :=
  (by decide +kernel : ∀ t : Fin grid0.N, win0_2.index t 0 = 0 ∧ win0_2.index t 1 = 0)

/-- The memory's block, read at an index. -/
theorem blk0 (c : Dev nD) (t : Fin cfg0.N) (r : Fin 1024) (k : Fin 2048) : iblk m c 0 t (ix2 r k) = V m c main_v1 (ix2 r k) := by
  show V m c main_v1 ((win0_0.rect t).emb (ix2 r k)) = _
  refine congrArg (V m c main_v1) (funext fun a => Fin.ext ?_)
  match a with
  | ⟨0, _⟩ => exact win0_0.rect_emb_val_of_index_zero t 0 (at0 t).1 (ix2 r k)
  | ⟨1, _⟩ => exact win0_0.rect_emb_val_of_index_zero t 1 (at0 t).2 (ix2 r k)

/-- The weights' block, read at an index. -/
theorem blk1 (c : Dev nD) (t : Fin cfg0.N) (k : Fin 2048) (j : Fin 512) : iblk m c 1 t (ix3 0 k j) = argW m c (ix3 0 k j) := by
  rw [← V_w]
  show V m c main_v2 ((win0_1.rect t).emb (ix3 0 k j)) = _
  refine congrArg (V m c main_v2) (funext fun a => Fin.ext ?_)
  match a with
  | ⟨0, _⟩ => exact win0_1.rect_emb_val_of_index_zero t 0 (at1 t).1 (ix3 0 k j)
  | ⟨1, _⟩ => exact win0_1.rect_emb_val_of_index_zero t 1 (at1 t).2.1 (ix3 0 k j)
  | ⟨2, _⟩ => exact win0_1.rect_emb_val_of_index_zero t 2 (at1 t).2.2 (ix3 0 k j)

theorem hz2 : (![0, 0] : Fin 2 → Nat) = fun _ => 0 := funext fun a => by fin_cases a <;> rfl
theorem hz3 : (![0, 0, 0] : Fin 3 → Nat) = fun _ => 0 := funext fun a => by fin_cases a <;> rfl

/-- The result window's one block is the whole array. -/
theorem emb2 (t : Fin cfg0.N) (i : S1024x512.Idx) : (win0_2.rect t).emb i = i := by
  refine funext fun a => Fin.ext ?_
  match a with
  | ⟨0, _⟩ => exact win0_2.rect_emb_val_of_index_zero t 0 (at2 t).1 i
  | ⟨1, _⟩ => exact win0_2.rect_emb_val_of_index_zero t 1 (at2 t).2 i

/-- What the point writes back is the reference's product. -/
theorem flushed_eq (c : Dev nD) (t : Fin cfg0.N) :
    (dats m 0 c).flushed 2 t = (win0_2.blk t).view.read (Elt Ideal) (goal m c) := by
  rw [Value.flushed2]
  unfold out0_2
  rw [View.canon_unit_zero hz2, View.ld_unit_zero hz2, View.ld_unit_zero hz3]
  funext y
  obtain ⟨r, j, rfl⟩ : ∃ (r : Fin 1024) (j : Fin 512), y = ix2 r j := ⟨y 0, y 1, eq_ix2 y⟩
  show FloatOps.matmul (F := Ideal) (DotDims.plain 1024 2048 512) none (shapeCast S1024x2048 (iblk m c 0 t : FVec Ideal S1024x2048 .bf16) shapeCasts_S1024x2048_S1024x2048)
    (shapeCast S2048x512 (iblk m c 1 t : FVec Ideal S1x2048x512 .bf16) shapeCasts_S1x2048x512_S2048x512) (constant S1024x512 .f32 0x00000000#32) (ix2 r j)
      = goal m c ((win0_2.rect t).emb (ix2 r j))
  rw [emb2, goal_apply]
  refine (Ideal.matmul_plain_apply _ _ _ _ r j).trans ?_
  show Ideal.ofBits .f32 0x00000000#32 + _ = _
  rw [Ideal.ofBits_zero_f32, zero_add]
  refine Finset.sum_congr rfl fun k _ => ?_
  rw [← V_x, ← blk0 m c t, ← blk1 m c t]
  refine congrArg₂ (· * ·) (congrFun (shapeCast_self _ _) _) (shapeCast_apply _ _ (ix2 k j) (ix3 0 k j) ?_)
  rewrite [Shape.rowMajor_val_three, Shape.rowMajor_val_two]
  show (0 * 2048 + k.val) * 512 + j.val = k.val * 512 + j.val
  omega

/-- The one block written back is the whole result array. -/
theorem cover (i : S1024x512.Idx) : ∃ t : Fin cfg0.N, (cfg0.win 2).flush t = true ∧ i ∈ ((cfg0.win 2).blk t).view.set := by
  have hN : cfg0.N = 1 := N_0
  have mem : ∀ t : Fin cfg0.N, i ∈ ((cfg0.win 2).blk t).view.set := fun t => by
    show i ∈ ((View.whole main_v3).slice (win0_2.rect t)).set
    rw [View.set_slice_whole, ← Rect.map_emb_univ, Finset.mem_map]
    exact ⟨i, Finset.mem_univ _, emb2 t i⟩
  exact ⟨⟨0, by rw [hN]; omega⟩, flush0_2 _, mem _⟩

/-- The run, read: the result array holds the reference's product of the arguments, which are as launched. -/
theorem run : θ_run defs (onTc (τ := τ) (main (F := Ideal))) ⟨m, fun _ => 0, ρ⟩ fun r => ∀ c : Dev nD,
      r.2.mem ((c : Thread nD τ).loc main_v3) = goal m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans ((dats m 0 c).arrAt_eq_of_cover 2 (goal m c) (fun t _ => flushed_eq m c t) cover), (h c).2⟩)
    (Value.run_blocks m ρ)

/-- The reference leaves its arguments as launched and every semaphore counter at zero. -/
theorem ref_frame : Cert.quiescent_MemKvRefIdeal := fun m ρ _ =>
  (θ_run Cert.MemKvRefIdeal.defs _ _).mono
    (fun r h => ⟨fun c => ⟨(h c).2.1, (h c).2.2⟩, Idealize.ShloMosaic.sem_eq_zero_of_no_sems (by decide) r.2⟩)
    (Cert.MemKvRefIdeal.Value.run m ρ)

/-- From equal arguments the kernel and the reference end with equal results. -/
theorem agrees : Cert.algebraic_MemKvIdeal_MemKvRefIdeal := by
  intro m ρ m' ρ' _ hagree
  refine ⟨fun c => goal m c, run m ρ, (θ_run Cert.MemKvRefIdeal.defs _ _).mono (fun _ h c => ⟨(h c).1.trans ?_, (h c).2⟩)
    (Cert.MemKvRefIdeal.Value.run (F := Ideal) m' ρ')⟩
  rw [(hagree c).1, (hagree c).2]
  exact Cert.MemKvRefIdeal.Read.val_main_v3_eq _ _

end MemKvValue
-- ==== Proof.RowNorm.lean ====
/-
  The normalization that closes each block of the layer, on one row: the row less its mean, divided by the root of its
  variance plus a small constant, scaled and shifted. The kernel's blocks and the references are each read as this
  function of a row.
-/
module

public import Idealize.ShloMosaic.Lib.IdealHost
public import Idealize.ShloMosaic.Lib.Pointwise

@[expose] public section

noncomputable section

namespace RowNorm

open Idealize.ShloMosaic

/-- The mean of a row of 2048 entries. -/
def mean (x : Fin 2048 → EReal) : EReal := Ideal.div (∑ q, x q) (Ideal.ofBits .f32 0x45000000#32)

/-- Entry `j` of the normalized row, with scale `g` and shift `b`. -/
def normed (x : Fin 2048 → EReal) (g b : EReal) (j : Fin 2048) : EReal :=
  (x j - mean x) * Ideal.rsqrt (mean (fun q => (x q - mean x) * (x q - mean x)) + Ideal.ofBits .f32 0x3727C5AC#32) * g + b

/-- The scaled residual. -/
def scaled (x : EReal) : EReal := Ideal.ofBits .f32 0x3FD744FD#32 * x

end RowNorm
-- ==== Proof.MergeValue.lean ====
/-
  The merge of the two branches: the run of the fused call leaves, in its two result arrays, the reference's normalized
  rows of the same arguments, in f32 and in bf16. Each grid point takes 256 rows, in two halves of 128.
-/
module

public import proofs.«01_k».proof.Defs
public import proofs.«01_k».proof.Proof.Gen.MergeIdeal.Value
public import proofs.«01_k».proof.Proof.Gen.MergeRefIdeal.Run
public import proofs.«01_k».proof.Proof.Gen.MergeRefIdeal.Read
public import proofs.«01_k».proof.Proof.RowNorm
public import Idealize.ShloMosaic.Lib.Pipeline.Value
public import Idealize.ShloMosaic.Lib.Quiescent

@[expose] public section

set_option maxRecDepth 16384

noncomputable section

namespace MergeValue

open Cert.MergeIdeal Cert.MergeIdeal.Gen
open Idealize.ShloMosaic Idealize.ShloMosaic.TcCoe Idealize.SL.Sem
open Idealize.ShloMosaic.Pipeline (Dat)
open RowNorm
open Cert.MergeRefIdeal.Read

/-- One row before its normalization: the scaled residual row `x` plus the merged row — the pooling branch's row `a`
    plus the gated product of `y`'s row with `wb` — times `wo`. -/
def row (y : Fin 4096 → EReal) (s a x : Fin 2048 → EReal) (wb : Fin 4096 → Fin 2048 → EReal)
    (wo : Fin 2048 → Fin 2048 → EReal) (q : Fin 2048) : EReal :=
  scaled (x q) + ∑ k, (a k + s k * ∑ l, y l * wb l k) * wo k q

/-- What a block of 256 rows holds at (r, j) afterwards, from the blocks of the eight operands. -/
def blockAt (x0 : Vec Ideal S256x4096 .bf16) (x1 : Vec Ideal S256x2048 .bf16) (x2 x3 : Vec Ideal S256x2048 .f32)
    (x4 : Vec Ideal S1x4096x2048 .bf16) (x5 : Vec Ideal S1x2048x2048 .bf16) (x6 x7 : Vec Ideal S1x1x2048 .f32) (r : Fin 256) (j : Fin 2048) : EReal :=
  normed (row (fun l => x0 (ix2 r l)) (fun k => x1 (ix2 r k)) (fun k => x2 (ix2 r k)) (fun k => x3 (ix2 r k))
    (fun l k => x4 (ix3 0 l k)) (fun k q => x5 (ix3 0 k q))) (x6 (ix3 0 0 j)) (x7 (ix3 0 0 j)) j

section Blocks

variable (x0 : Vec Ideal S256x4096 .bf16) (x1 : Vec Ideal S256x2048 .bf16) (x2 x3 : Vec Ideal S256x2048 .f32)
  (x4 : Vec Ideal S1x4096x2048 .bf16) (x5 : Vec Ideal S1x2048x2048 .bf16) (x6 x7 : Vec Ideal S1x1x2048 .f32)

/-- The first half's rows. -/
theorem pay_lo (r : Fin 128) (j : Fin 2048) :
    k0_pay7 (F := Ideal) (k0_pay11 x0 x1 x2 x3 x4 x5 x6 x7) (k0_pay12 x0 x1 x2 x3 x4 x5 x6 x7) (k0_pay13 x0 x1 x2 x3 x4 x5 x6 x7) (k0_pay14 x0 x1 x2 x3 x4 x5 x6 x7) (ix2 r j)
      = blockAt x0 x1 x2 x3 x4 x5 x6 x7 ⟨0 + r.val, by omega⟩ j := by
  pointwise [k0_pay14, k0_pay13, k0_pay12, k0_pay11, k0_pay7, k0_pay3, k0_pay4, k0_pay5, k0_pay6, r0_0, r0_1, r0_2, r0_3, r0_4,
    blockAt, normed, mean, row, scaled]

/-- The second half's rows. -/
theorem pay_hi (r : Fin 128) (j : Fin 2048) :
    k0_pay1 (F := Ideal) (k0_pay15 x0 x1 x2 x3 x4 x5 x6 x7) (k0_pay16 x0 x1 x2 x3 x4 x5 x6 x7) (View.ld x7 r0_4) (ix2 r j)
      = blockAt x0 x1 x2 x3 x4 x5 x6 x7 ⟨128 + r.val, by omega⟩ j := by
  pointwise [k0_pay16, k0_pay15, k0_pay1, k0_pay9, k0_pay10, r0_5, r0_1, r0_6, r0_3, r0_4, blockAt, normed, mean, row, scaled]

/-- The f32 block the body leaves, at an index. -/
theorem out8_apply (y : S256x2048.Idx) :
    out0_8 (F := Ideal) x0 x1 x2 x3 x4 x5 x6 x7 y = blockAt x0 x1 x2 x3 x4 x5 x6 x7 (y 0) (y 1) := by
  unfold out0_8
  refine View.canon_apply_of_pieces (Val := Elt Ideal) (e := .f32) (fun y : S256x2048.Idx => blockAt x0 x1 x2 x3 x4 x5 x6 x7 (y 0) (y 1)) _ ?_ y (cover0_8 _ _ y)
  intro p hp x
  rcases List.mem_cons.mp hp with rfl | hp
  · obtain ⟨r, j, rfl⟩ : ∃ (r : Fin 128) (j : Fin 2048), x = ix2 r j := ⟨x 0, x 1, eq_ix2 x⟩
    refine (pay_hi x0 x1 x2 x3 x4 x5 x6 x7 r j).trans (congrArg₂ (blockAt x0 x1 x2 x3 x4 x5 x6 x7) (Fin.ext ?_) (Fin.ext ?_))
    · show 128 + r.val = 128 + 1 * r.val; omega
    · show j.val = 0 + 1 * j.val; omega
  · obtain rfl := List.mem_singleton.mp hp
    obtain ⟨r, j, rfl⟩ : ∃ (r : Fin 128) (j : Fin 2048), x = ix2 r j := ⟨x 0, x 1, eq_ix2 x⟩
    refine (pay_lo x0 x1 x2 x3 x4 x5 x6 x7 r j).trans (congrArg₂ (blockAt x0 x1 x2 x3 x4 x5 x6 x7) (Fin.ext ?_) (Fin.ext ?_))
    · show 0 + r.val = 0 + 1 * r.val; omega
    · show j.val = 0 + 1 * j.val; omega

/-- The bf16 block is the f32 one: over the extended reals the conversion changes nothing. -/
theorem out9_eq (y : S256x2048.Idx) : out0_9 (F := Ideal) x0 x1 x2 x3 x4 x5 x6 x7 y = out0_8 (F := Ideal) x0 x1 x2 x3 x4 x5 x6 x7 y := rfl

end Blocks

/-- The reference at (r, j). -/
theorem goal_apply (x0 x1 : (⟨2, ![8192, 4096]⟩ : Shape).Idx → EReal) (x2 x3 : (⟨2, ![8192, 2048]⟩ : Shape).Idx → EReal)
    (x4 : (⟨3, ![4, 4096, 2048]⟩ : Shape).Idx → EReal) (x5 : (⟨3, ![4, 2048, 2048]⟩ : Shape).Idx → EReal)
    (x6 x7 : (⟨2, ![4, 2048]⟩ : Shape).Idx → EReal) (r : Fin 8192) (j : Fin 2048) :
    Cert.MergeRefIdeal.Read.val_main_v41 (F := Ideal) x0 x1 x2 x3 x4 x5 x6 x7 (ix2 r j)
      = normed (row (fun l => x0 (ix2 r l)) (fun k => x1 (ix2 r ⟨2048 + k.val, by omega⟩)) (fun k => x2 (ix2 r k)) (fun k => x3 (ix2 r k))
          (fun l k => x4 (ix3 0 l k)) (fun k q => x5 (ix3 0 k q))) (x6 (ix2 0 j)) (x7 (ix2 0 j)) j := by
  pointwise [val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4]
  rfl

variable (m : (ℓ : Loc nD τ sig) → Buf (Elt Ideal) ℓ) (ρ : Dev nD → PrngReg)

/-- Device `c`'s arguments as launched: the state-space branch, the gates, the gated pooling branch, the residual, the
    two stacked weights, the stacked scale and shift. -/
abbrev arg0 (c : Dev nD) : (⟨2, ![8192, 4096]⟩ : Shape).Idx → EReal := m ((c : Thread nD τ).loc main_arg0)
abbrev arg1 (c : Dev nD) : (⟨2, ![8192, 4096]⟩ : Shape).Idx → EReal := m ((c : Thread nD τ).loc main_arg1)
abbrev arg2 (c : Dev nD) : (⟨2, ![8192, 2048]⟩ : Shape).Idx → EReal := m ((c : Thread nD τ).loc main_arg2)
abbrev arg3 (c : Dev nD) : (⟨2, ![8192, 2048]⟩ : Shape).Idx → EReal := m ((c : Thread nD τ).loc main_arg3)
abbrev arg4 (c : Dev nD) : (⟨3, ![4, 4096, 2048]⟩ : Shape).Idx → EReal := m ((c : Thread nD τ).loc main_arg4)
abbrev arg5 (c : Dev nD) : (⟨3, ![4, 2048, 2048]⟩ : Shape).Idx → EReal := m ((c : Thread nD τ).loc main_arg5)
abbrev arg6 (c : Dev nD) : (⟨2, ![4, 2048]⟩ : Shape).Idx → EReal := m ((c : Thread nD τ).loc main_arg6)
abbrev arg7 (c : Dev nD) : (⟨2, ![4, 2048]⟩ : Shape).Idx → EReal := m ((c : Thread nD τ).loc main_arg7)

/-- What the reference computes from device `c`'s arguments. -/
abbrev goal (c : Dev nD) : (⟨2, ![8192, 2048]⟩ : Shape).Idx → EReal :=
  val_main_v41 (F := Ideal) (arg0 m c) (arg1 m c) (arg2 m c) (arg3 m c) (arg4 m c) (arg5 m c) (arg6 m c) (arg7 m c)

/-- The region finds the two weights in its fifth and sixth operands, -/
theorem V_4 (c : Dev nD) : V m c main_v0 = arg4 m c := by
  unfold V hostOps0
  after_results
  rfl
theorem V_5 (c : Dev nD) : V m c main_v1 = arg5 m c := by
  unfold V hostOps0
  after_results
  rfl

/-- and the scale and the shift, each as one row per layer, in its seventh and eighth. -/
theorem V_6 (c : Dev nD) (l : Fin 4) (j : Fin 2048) : V m c main_v2 (ix3 l 0 j) = arg6 m c (ix2 l j) := by
  have e : V m c main_v2 = shapeCast S4x1x2048 (arg6 m c) shapeCasts_S4x2048_S4x1x2048 := by
    unfold V hostOps0
    after_results
    rfl
  rw [e]
  pointwise
theorem V_7 (c : Dev nD) (l : Fin 4) (j : Fin 2048) : V m c main_v3 (ix3 l 0 j) = arg7 m c (ix2 l j) := by
  have e : V m c main_v3 = shapeCast S4x1x2048 (arg7 m c) shapeCasts_S4x2048_S4x1x2048 := by
    unfold V hostOps0
    after_results
    rfl
  rw [e]
  pointwise

/-- Where point `t`'s blocks lie: the row block is `t`; the gates' block is the right half of its rows. -/
theorem at0 : ∀ t : Fin cfg0.N, win0_0.index t 0 = t.val ∧ win0_0.index t 1 = 0 :=
  (by decide +kernel : ∀ t : Fin grid0.N, win0_0.index t 0 = t.val ∧ win0_0.index t 1 = 0)
theorem at1 : ∀ t : Fin cfg0.N, win0_1.index t 0 = t.val ∧ win0_1.index t 1 = 1 :=
  (by decide +kernel : ∀ t : Fin grid0.N, win0_1.index t 0 = t.val ∧ win0_1.index t 1 = 1)
theorem at2 : ∀ t : Fin cfg0.N, win0_2.index t 0 = t.val ∧ win0_2.index t 1 = 0 :=
  (by decide +kernel : ∀ t : Fin grid0.N, win0_2.index t 0 = t.val ∧ win0_2.index t 1 = 0)
theorem at3 : ∀ t : Fin cfg0.N, win0_3.index t 0 = t.val ∧ win0_3.index t 1 = 0 :=
  (by decide +kernel : ∀ t : Fin grid0.N, win0_3.index t 0 = t.val ∧ win0_3.index t 1 = 0)
theorem at8 : ∀ t : Fin cfg0.N, win0_8.index t 0 = t.val ∧ win0_8.index t 1 = 0 :=
  (by decide +kernel : ∀ t : Fin grid0.N, win0_8.index t 0 = t.val ∧ win0_8.index t 1 = 0)
theorem at9 : ∀ t : Fin cfg0.N, win0_9.index t 0 = t.val ∧ win0_9.index t 1 = 0 :=
  (by decide +kernel : ∀ t : Fin grid0.N, win0_9.index t 0 = t.val ∧ win0_9.index t 1 = 0)
/-- The weights', scale's and shift's blocks are the first layer's, at every point. -/
theorem at4567 : ∀ t : Fin cfg0.N, (∀ a, win0_4.index t a = 0) ∧ (∀ a, win0_5.index t a = 0) ∧ (∀ a, win0_6.index t a = 0) ∧ ∀ a, win0_7.index t a = 0 :=
  (by decide +kernel : ∀ t : Fin grid0.N, (∀ a, win0_4.index t a = 0) ∧ (∀ a, win0_5.index t a = 0) ∧ (∀ a, win0_6.index t a = 0) ∧ ∀ a, win0_7.index t a = 0)

theorem lt_N (t : Fin cfg0.N) : t.val < 32 := by have := t.isLt; have hN : cfg0.N = 32 := N_0; omega

/-- Row `r` of point `t`'s blocks is this row of the arrays. -/
abbrev rowOf (t : Fin cfg0.N) (r : Fin 256) : Fin 8192 := ⟨t.val * 256 + r.val, by have := lt_N t; omega⟩

/-- Each operand's block at point `t`, read at an index. -/
theorem blk0 (c : Dev nD) (t : Fin cfg0.N) (r : Fin 256) (k : Fin 4096) : iblk m c 0 t (ix2 r k) = arg0 m c (ix2 (rowOf t r) k) := by
  show V m c main_arg0 ((win0_0.rect t).emb (ix2 r k)) = _
  rw [V_main_arg0]
  refine congrArg (arg0 m c) (funext fun a => Fin.ext ((win0_0.rect_emb_val t (ix2 r k) a).trans ?_))
  match a with
  | ⟨0, _⟩ => show win0_0.index t 0 * 256 + r.val = _; rw [(at0 t).1]; rfl
  | ⟨1, _⟩ => show win0_0.index t 1 * 4096 + k.val = k.val; rw [(at0 t).2]; omega
theorem blk1 (c : Dev nD) (t : Fin cfg0.N) (r : Fin 256) (k : Fin 2048) :
    iblk m c 1 t (ix2 r k) = arg1 m c (ix2 (rowOf t r) ⟨2048 + k.val, by omega⟩) := by
  show V m c main_arg1 ((win0_1.rect t).emb (ix2 r k)) = _
  rw [V_main_arg1]
  refine congrArg (arg1 m c) (funext fun a => Fin.ext ((win0_1.rect_emb_val t (ix2 r k) a).trans ?_))
  match a with
  | ⟨0, _⟩ => show win0_1.index t 0 * 256 + r.val = _; rw [(at1 t).1]; rfl
  | ⟨1, _⟩ => show win0_1.index t 1 * 2048 + k.val = 2048 + k.val; rw [(at1 t).2, Nat.one_mul]
theorem blk2 (c : Dev nD) (t : Fin cfg0.N) (r : Fin 256) (k : Fin 2048) : iblk m c 2 t (ix2 r k) = arg2 m c (ix2 (rowOf t r) k) := by
  show V m c main_arg2 ((win0_2.rect t).emb (ix2 r k)) = _
  rw [V_main_arg2]
  refine congrArg (arg2 m c) (funext fun a => Fin.ext ((win0_2.rect_emb_val t (ix2 r k) a).trans ?_))
  match a with
  | ⟨0, _⟩ => show win0_2.index t 0 * 256 + r.val = _; rw [(at2 t).1]; rfl
  | ⟨1, _⟩ => show win0_2.index t 1 * 2048 + k.val = k.val; rw [(at2 t).2]; omega
theorem blk3 (c : Dev nD) (t : Fin cfg0.N) (r : Fin 256) (k : Fin 2048) : iblk m c 3 t (ix2 r k) = arg3 m c (ix2 (rowOf t r) k) := by
  show V m c main_arg3 ((win0_3.rect t).emb (ix2 r k)) = _
  rw [V_main_arg3]
  refine congrArg (arg3 m c) (funext fun a => Fin.ext ((win0_3.rect_emb_val t (ix2 r k) a).trans ?_))
  match a with
  | ⟨0, _⟩ => show win0_3.index t 0 * 256 + r.val = _; rw [(at3 t).1]; rfl
  | ⟨1, _⟩ => show win0_3.index t 1 * 2048 + k.val = k.val; rw [(at3 t).2]; omega
theorem blk4 (c : Dev nD) (t : Fin cfg0.N) (l : Fin 4096) (k : Fin 2048) : iblk m c 4 t (ix3 0 l k) = arg4 m c (ix3 0 l k) := by
  show V m c main_v0 ((win0_4.rect t).emb (ix3 0 l k)) = _
  rw [V_4]
  refine congrArg (arg4 m c) (funext fun a => Fin.ext ((win0_4.rect_emb_val_of_index_zero t a ((at4567 t).1 a) (ix3 0 l k)).trans ?_))
  match a with
  | ⟨0, _⟩ => rfl
  | ⟨1, _⟩ => rfl
  | ⟨2, _⟩ => rfl

theorem blk5 (c : Dev nD) (t : Fin cfg0.N) (k q : Fin 2048) : iblk m c 5 t (ix3 0 k q) = arg5 m c (ix3 0 k q) := by
  show V m c main_v1 ((win0_5.rect t).emb (ix3 0 k q)) = _
  rw [V_5]
  refine congrArg (arg5 m c) (funext fun a => Fin.ext ((win0_5.rect_emb_val_of_index_zero t a ((at4567 t).2.1 a) (ix3 0 k q)).trans ?_))
  match a with
  | ⟨0, _⟩ => rfl
  | ⟨1, _⟩ => rfl
  | ⟨2, _⟩ => rfl
theorem blk6 (c : Dev nD) (t : Fin cfg0.N) (j : Fin 2048) : iblk m c 6 t (ix3 0 0 j) = arg6 m c (ix2 0 j) := by
  rw [← V_6]
  show V m c main_v2 ((win0_6.rect t).emb (ix3 0 0 j)) = _
  refine congrArg (V m c main_v2) (funext fun a => Fin.ext ((win0_6.rect_emb_val_of_index_zero t a ((at4567 t).2.2.1 a) (ix3 0 0 j)).trans ?_))
  match a with
  | ⟨0, _⟩ => rfl
  | ⟨1, _⟩ => rfl
  | ⟨2, _⟩ => rfl
theorem blk7 (c : Dev nD) (t : Fin cfg0.N) (j : Fin 2048) : iblk m c 7 t (ix3 0 0 j) = arg7 m c (ix2 0 j) := by
  rw [← V_7]
  show V m c main_v3 ((win0_7.rect t).emb (ix3 0 0 j)) = _
  refine congrArg (V m c main_v3) (funext fun a => Fin.ext ((win0_7.rect_emb_val_of_index_zero t a ((at4567 t).2.2.2 a) (ix3 0 0 j)).trans ?_))
  match a with
  | ⟨0, _⟩ => rfl
  | ⟨1, _⟩ => rfl
  | ⟨2, _⟩ => rfl

/-- What point `t`'s block holds at (r, j) is the reference there. -/
theorem block_goal (c : Dev nD) (t : Fin cfg0.N) (r : Fin 256) (j : Fin 2048) :
    blockAt (iblk m c 0 t) (iblk m c 1 t) (iblk m c 2 t) (iblk m c 3 t) (iblk m c 4 t) (iblk m c 5 t) (iblk m c 6 t) (iblk m c 7 t) r j
      = goal m c (ix2 (rowOf t r) j) := by
  refine Eq.trans ?_ (goal_apply _ _ _ _ _ _ _ _ _ _).symm
  unfold blockAt
  have e0 : (fun l => iblk m c 0 t (ix2 r l)) = fun l => arg0 m c (ix2 (rowOf t r) l) := funext fun l => blk0 m c t r l
  have e1 : (fun k => iblk m c 1 t (ix2 r k)) = fun k : Fin 2048 => arg1 m c (ix2 (rowOf t r) ⟨2048 + k.val, by omega⟩) := funext fun k => blk1 m c t r k
  have e2 : (fun k => iblk m c 2 t (ix2 r k)) = fun k => arg2 m c (ix2 (rowOf t r) k) := funext fun k => blk2 m c t r k
  have e3 : (fun k => iblk m c 3 t (ix2 r k)) = fun k => arg3 m c (ix2 (rowOf t r) k) := funext fun k => blk3 m c t r k
  have e4 : (fun l k => iblk m c 4 t (ix3 0 l k)) = fun l k => arg4 m c (ix3 0 l k) := funext fun l => funext fun k => blk4 m c t l k
  have e5 : (fun k q => iblk m c 5 t (ix3 0 k q)) = fun k q => arg5 m c (ix3 0 k q) := funext fun k => funext fun q => blk5 m c t k q
  rw [e0, e1, e2, e3, e4, e5, blk6, blk7]

/-- What point `t` writes back to the f32 array is its block of the reference. -/
theorem flushed_eq8 (c : Dev nD) (t : Fin cfg0.N) :
    (dats m 0 c).flushed 8 t = (win0_8.blk t).view.read (Elt Ideal) (goal m c) := by
  rw [Value.flushed8]
  funext y
  obtain ⟨r, j, rfl⟩ : ∃ (r : Fin 256) (j : Fin 2048), y = ix2 r j := ⟨y 0, y 1, eq_ix2 y⟩
  refine (out8_apply (iblk m c 0 t) (iblk m c 1 t) (iblk m c 2 t) (iblk m c 3 t) (iblk m c 4 t) (iblk m c 5 t) (iblk m c 6 t) (iblk m c 7 t) (ix2 r j)).trans ((block_goal m c t r j).trans ?_)
  show goal m c _ = goal m c ((win0_8.rect t).emb (ix2 r j))
  refine congrArg (goal m c) (funext fun a => Fin.ext (Eq.trans ?_ (win0_8.rect_emb_val t (ix2 r j) a).symm))
  match a with
  | ⟨0, _⟩ => show t.val * 256 + r.val = win0_8.index t 0 * 256 + r.val; rw [(at8 t).1]
  | ⟨1, _⟩ => show j.val = win0_8.index t 1 * 2048 + j.val; rw [(at8 t).2]; omega

/-- The blocks written back tile that array. -/
theorem cover8 (i : S8192x2048.Idx) : ∃ t : Fin cfg0.N, (cfg0.win 8).flush t = true ∧ i ∈ ((cfg0.win 8).blk t).view.set := by
  have h0 : (i 0 : Nat) < 8192 := (i 0).isLt
  have h1 : (i 1 : Nat) < 2048 := (i 1).isLt
  have hN : cfg0.N = 32 := N_0
  obtain ⟨t, ht⟩ : ∃ t : Fin cfg0.N, t.val = (i 0 : Nat) / 256 := ⟨⟨(i 0 : Nat) / 256, by rw [hN]; omega⟩, rfl⟩
  refine ⟨t, flush0_8 t, ?_⟩
  show i ∈ ((View.whole main_v4_0).slice (win0_8.rect t)).set
  rw [View.set_slice_whole, Rect.mem_set_unit]
  intro a
  match a with
  | ⟨0, _⟩ => show win0_8.index t 0 * 256 ≤ (i 0 : Nat) ∧ (i 0 : Nat) < win0_8.index t 0 * 256 + 256; rw [(at8 t).1]; omega
  | ⟨1, _⟩ => show win0_8.index t 1 * 2048 ≤ (i 1 : Nat) ∧ (i 1 : Nat) < win0_8.index t 1 * 2048 + 2048; rw [(at8 t).2]; omega

/-- What point `t` writes back to the bf16 array is its block of the reference. -/
theorem flushed_eq9 (c : Dev nD) (t : Fin cfg0.N) :
    (dats m 0 c).flushed 9 t = (win0_9.blk t).view.read (Elt Ideal) (goal m c) := by
  rw [Value.flushed9]
  funext y
  obtain ⟨r, j, rfl⟩ : ∃ (r : Fin 256) (j : Fin 2048), y = ix2 r j := ⟨y 0, y 1, eq_ix2 y⟩
  refine (out8_apply (iblk m c 0 t) (iblk m c 1 t) (iblk m c 2 t) (iblk m c 3 t) (iblk m c 4 t) (iblk m c 5 t) (iblk m c 6 t) (iblk m c 7 t) (ix2 r j)).trans ((block_goal m c t r j).trans ?_)
  show goal m c _ = goal m c ((win0_9.rect t).emb (ix2 r j))
  refine congrArg (goal m c) (funext fun a => Fin.ext (Eq.trans ?_ (win0_9.rect_emb_val t (ix2 r j) a).symm))
  match a with
  | ⟨0, _⟩ => show t.val * 256 + r.val = win0_9.index t 0 * 256 + r.val; rw [(at9 t).1]
  | ⟨1, _⟩ => show j.val = win0_9.index t 1 * 2048 + j.val; rw [(at9 t).2]; omega

/-- The blocks written back tile that array. -/
theorem cover9 (i : S8192x2048.Idx) : ∃ t : Fin cfg0.N, (cfg0.win 9).flush t = true ∧ i ∈ ((cfg0.win 9).blk t).view.set := by
  have h0 : (i 0 : Nat) < 8192 := (i 0).isLt
  have h1 : (i 1 : Nat) < 2048 := (i 1).isLt
  have hN : cfg0.N = 32 := N_0
  obtain ⟨t, ht⟩ : ∃ t : Fin cfg0.N, t.val = (i 0 : Nat) / 256 := ⟨⟨(i 0 : Nat) / 256, by rw [hN]; omega⟩, rfl⟩
  refine ⟨t, flush0_9 t, ?_⟩
  show i ∈ ((View.whole main_v4_1).slice (win0_9.rect t)).set
  rw [View.set_slice_whole, Rect.mem_set_unit]
  intro a
  match a with
  | ⟨0, _⟩ => show win0_9.index t 0 * 256 ≤ (i 0 : Nat) ∧ (i 0 : Nat) < win0_9.index t 0 * 256 + 256; rw [(at9 t).1]; omega
  | ⟨1, _⟩ => show win0_9.index t 1 * 2048 ≤ (i 1 : Nat) ∧ (i 1 : Nat) < win0_9.index t 1 * 2048 + 2048; rw [(at9 t).2]; omega

/-- The run, read: both result arrays hold the reference's rows of the arguments, which are as launched. -/
theorem run : θ_run defs (onTc (τ := τ) (main (F := Ideal))) ⟨m, fun _ => 0, ρ⟩ fun r => ∀ c : Dev nD,
      r.2.mem ((c : Thread nD τ).loc main_v4_0) = goal m c
      ∧ r.2.mem ((c : Thread nD τ).loc main_v4_1) = goal m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨(h c).1.trans ((dats m 0 c).arrAt_eq_of_cover 8 (goal m c) (fun t _ => flushed_eq8 m c t) cover8),
      (h c).2.1.trans ((dats m 0 c).arrAt_eq_of_cover 9 (goal m c) (fun t _ => flushed_eq9 m c t) cover9), (h c).2.2⟩)
    (Value.run_blocks m ρ)

/-- The reference leaves its arguments as launched and every semaphore counter at zero. -/
theorem ref_frame : Cert.quiescent_MergeRefIdeal := fun m ρ _ =>
  (θ_run Cert.MergeRefIdeal.defs _ _).mono
    (fun r h => ⟨fun c => (h c).2.2, Idealize.ShloMosaic.sem_eq_zero_of_no_sems (by decide) r.2⟩)
    (Cert.MergeRefIdeal.Value.run m ρ)

/-- From equal arguments the kernel and the reference end with equal results. -/
theorem agrees : Cert.algebraic_MergeIdeal_MergeRefIdeal := by
  intro m ρ m' ρ' _ hagree
  have e (c : Dev nD) : val_main_v41 (F := Ideal) (m' ((c : Thread Cert.MergeRefIdeal.nD Cert.MergeRefIdeal.τ).loc Cert.MergeRefIdeal.main_arg0))
      (m' ((c : Thread Cert.MergeRefIdeal.nD Cert.MergeRefIdeal.τ).loc Cert.MergeRefIdeal.main_arg1)) (m' ((c : Thread Cert.MergeRefIdeal.nD Cert.MergeRefIdeal.τ).loc Cert.MergeRefIdeal.main_arg2))
      (m' ((c : Thread Cert.MergeRefIdeal.nD Cert.MergeRefIdeal.τ).loc Cert.MergeRefIdeal.main_arg3)) (m' ((c : Thread Cert.MergeRefIdeal.nD Cert.MergeRefIdeal.τ).loc Cert.MergeRefIdeal.main_arg4))
      (m' ((c : Thread Cert.MergeRefIdeal.nD Cert.MergeRefIdeal.τ).loc Cert.MergeRefIdeal.main_arg5)) (m' ((c : Thread Cert.MergeRefIdeal.nD Cert.MergeRefIdeal.τ).loc Cert.MergeRefIdeal.main_arg6))
      (m' ((c : Thread Cert.MergeRefIdeal.nD Cert.MergeRefIdeal.τ).loc Cert.MergeRefIdeal.main_arg7)) = goal m c := by
    obtain ⟨h0, h1, h2, h3, h4, h5, h6, h7⟩ := hagree c
    rw [h0, h1, h2, h3, h4, h5, h6, h7]
  exact ⟨fun c => goal m c, fun c => goal m c, run m ρ, (θ_run Cert.MergeRefIdeal.defs _ _).mono (fun _ h c =>
      ⟨(h c).1.trans ((val_main_v41_eq m' c).trans (e c)), (h c).2.1.trans ((val_main_v42_eq m' c).trans (e c)), (h c).2.2⟩)
    (Cert.MergeRefIdeal.Value.run (F := Ideal) m' ρ')⟩

end MergeValue
-- ==== Proof.FfnValue.lean ====
module

public import proofs.«01_k».proof.Defs
public import proofs.«01_k».proof.Proof.Gen.FfnIdeal.Value
public import proofs.«01_k».proof.Proof.Gen.FfnRefIdeal.Run
public import proofs.«01_k».proof.Proof.Gen.FfnRefIdeal.Read
public import proofs.«01_k».proof.Proof.RowNorm
public import Idealize.ShloMosaic.Lib.Pipeline.Value
public import Idealize.ShloMosaic.Lib.Pipeline.ValueKit.Acc
public import Idealize.ShloMosaic.Lib.Pipeline.ReadBack
public import Idealize.ShloMosaic.Lib.Quiescent

@[expose] public section

set_option maxRecDepth 16384

noncomputable section

namespace FfnValue

open Cert.FfnIdeal Cert.FfnIdeal.Gen
open Idealize.ShloMosaic Idealize.ShloMosaic.TcCoe Idealize.SL.Sem
open Idealize.ShloMosaic.Pipeline (Dat)
open RowNorm
open Cert.FfnRefIdeal.Read

/-- One hidden unit's activation: `a` passed through the sigmoid-weighted unit, times the up projection `b`. -/
def unit (a b : EReal) : EReal := a * Ideal.logistic a * b

section Blocks

variable (x0 : Vec Ideal S1024x2048 .bf16) (x1 : Vec Ideal S1024x2048 .f32) (x2 x3 : Vec Ideal S1x2048x512 .bf16) (x4 : Vec Ideal S1x512x2048 .bf16)
  (x5 x6 : Vec Ideal S1x1x2048 .f32) (xo : Vec Ideal S1024x2048 .f32)

/-- Row `r`'s activation of the block's hidden unit `k`. -/
def act (r : Fin 1024) (k : Fin 512) : EReal :=
  unit (∑ l : Fin 2048, x0 (ix2 r l) * x2 (ix3 0 l k)) (∑ l : Fin 2048, x0 (ix2 r l) * x3 (ix3 0 l k))

/-- The accumulator after a block of hidden units, from what it held before. -/
def added : Vec Ideal S1024x2048 .f32 := fun y => xo y + ∑ k : Fin 512, act x0 x2 x3 (y 0) k * x4 (ix3 0 k (y 1))

/-- The closing normalization of the accumulator `z`, added to the scaled residual. -/
def closed (z : Vec Ideal S1024x2048 .f32) : Vec Ideal S1024x2048 .f32 := fun y =>
  normed (fun q => scaled (x1 (ix2 (y 0) q)) + z (ix2 (y 0) q)) (x5 (ix3 0 0 (y 1))) (x6 (ix3 0 0 (y 1))) (y 1)

/-- The columns' right half and left half, as the body stores them. -/
abbrev rightHalf : Rect S1024x2048 := Rect.unit ![0, 1024] ![1024, 1024] inb_S1024x2048_S1024x1024_0_1024
abbrev leftHalf : Rect S1024x2048 := Rect.unit ![0, 0] ![1024, 1024] inb_S1024x2048_S1024x1024_0_0

theorem pay_right (x : S1024x1024.Idx) :
    k0_pay16 (F := Ideal) x0 x2 x3 (View.ld xo rightHalf) (View.ld x4 (Rect.unit ![0, 0, 1024] ![1, 512, 1024] inb_S1x512x2048_S1x512x1024_0_0_1024)) x
      = added x0 x2 x3 x4 xo (rightHalf.emb x) := by
  obtain ⟨r, j, rfl⟩ : ∃ (r : Fin 1024) (j : Fin 1024), x = ix2 r j := ⟨x 0, x 1, eq_ix2 x⟩
  have e : rightHalf.emb (ix2 r j) = ix2 r ⟨1024 + j.val, by omega⟩ := by
    refine funext fun a => Fin.ext ?_
    match a with
    | ⟨0, _⟩ => show 0 + 1 * r.val = r.val; omega
    | ⟨1, _⟩ => show 1024 + 1 * j.val = 1024 + j.val; omega
  rw [e]
  pointwise [k0_pay16, k0_pay14, added, act, unit]
theorem pay_left (x : S1024x1024.Idx) :
    k0_pay15 (F := Ideal) x0 x2 x3 (View.ld xo leftHalf) (View.ld x4 (Rect.unit ![0, 0, 0] ![1, 512, 1024] inb_S1x512x2048_S1x512x1024_0_0_0)) x
      = added x0 x2 x3 x4 xo (leftHalf.emb x) := by
  obtain ⟨r, j, rfl⟩ : ∃ (r : Fin 1024) (j : Fin 1024), x = ix2 r j := ⟨x 0, x 1, eq_ix2 x⟩
  have e : leftHalf.emb (ix2 r j) = ix2 r ⟨0 + j.val, by omega⟩ := by
    refine funext fun a => Fin.ext ?_
    match a with
    | ⟨0, _⟩ => show 0 + 1 * r.val = r.val; omega
    | ⟨1, _⟩ => show 0 + 1 * j.val = 0 + j.val; omega
  rw [e]
  pointwise [k0_pay15, k0_pay14, added, act, unit]

/-- The two halves together, over anything stored earlier. -/
theorem halves (L : List (View.Piece (Elt Ideal) S1024x2048 .f32)) :
    View.canon (⟨rightHalf, k0_pay16 (F := Ideal) x0 x2 x3 (View.ld xo rightHalf) (View.ld x4 (Rect.unit ![0, 0, 1024] ![1, 512, 1024] inb_S1x512x2048_S1x512x1024_0_0_1024))⟩
      :: ⟨leftHalf, k0_pay15 (F := Ideal) x0 x2 x3 (View.ld xo leftHalf) (View.ld x4 (Rect.unit ![0, 0, 0] ![1, 512, 1024] inb_S1x512x2048_S1x512x1024_0_0_0))⟩ :: L)
      = added x0 x2 x3 x4 xo :=
  funext fun y => View.canon_append_of_piecesOf (Val := Elt Ideal) (e := .f32) (added x0 x2 x3 x4 xo) L
    [⟨rightHalf, k0_pay16 (F := Ideal) x0 x2 x3 (View.ld xo rightHalf) (View.ld x4 (Rect.unit ![0, 0, 1024] ![1, 512, 1024] inb_S1x512x2048_S1x512x1024_0_0_1024))⟩,
      ⟨leftHalf, k0_pay15 (F := Ideal) x0 x2 x3 (View.ld xo leftHalf) (View.ld x4 (Rect.unit ![0, 0, 0] ![1, 512, 1024] inb_S1x512x2048_S1x512x1024_0_0_0))⟩]
    ⟨pay_right x0 x2 x3 x4 xo, pay_left x0 x2 x3 x4 xo, trivial⟩ y (View.cover_of_tiledBy _ ![1024, 1024] (by sl_kernel_rfl) y)

/-- A chunk of 256 rows, normalized. -/
theorem pay_chunk (z : Vec Ideal S1024x2048 .f32) (o : Nat) (ho : o + 256 ≤ 1024)
    (inb : ∀ a, (![o, 0] : Fin 2 → Nat) a + S256x2048.size a ≤ S1024x2048.size a) (x : S256x2048.Idx) :
    k0_pay3 (F := Ideal) (View.ld x1 (Rect.unit (s := S1024x2048) ![o, 0] S256x2048.size inb)) (View.ld z (Rect.unit (s := S1024x2048) ![o, 0] S256x2048.size inb)) x5 x6 x
      = closed x1 x5 x6 z ((Rect.unit (s := S1024x2048) ![o, 0] S256x2048.size inb).emb x) := by
  obtain ⟨r, j, rfl⟩ : ∃ (r : Fin 256) (j : Fin 2048), x = ix2 r j := ⟨x 0, x 1, eq_ix2 x⟩
  have e (q : Fin 2048) : (Rect.unit (s := S1024x2048) ![o, 0] S256x2048.size inb).emb (ix2 r q) = ix2 (⟨o + r.val, by omega⟩ : Fin 1024) q := by
    refine funext fun a => Fin.ext ?_
    match a with
    | ⟨0, _⟩ => show o + 1 * r.val = o + r.val; omega
    | ⟨1, _⟩ => show 0 + 1 * q.val = q.val; omega
  have e1 (w : Vec Ideal S1024x2048 .f32) (q : Fin 2048) : View.ld w (Rect.unit (s := S1024x2048) ![o, 0] S256x2048.size inb) (ix2 r q) = w (ix2 (⟨o + r.val, by omega⟩ : Fin 1024) q) :=
    congrArg w (e q)
  rw [e]
  generalize hu : View.ld x1 (Rect.unit (s := S1024x2048) ![o, 0] S256x2048.size inb) = u at e1 ⊢
  have eu (q : Fin 2048) : u (ix2 r q) = x1 (ix2 (⟨o + r.val, by omega⟩ : Fin 1024) q) := by rw [← hu]; exact congrArg x1 (e q)
  generalize hw : View.ld z (Rect.unit (s := S1024x2048) ![o, 0] S256x2048.size inb) = w
  have ew (q : Fin 2048) : w (ix2 r q) = z (ix2 (⟨o + r.val, by omega⟩ : Fin 1024) q) := by rw [← hw]; exact congrArg z (e q)
  pointwise [k0_pay3, closed, normed, mean, scaled]
  simp only [eu, ew]

end Blocks

/-- The zero fill. -/
theorem zeros : k0_pay13 (F := Ideal) = fun _ => 0 := funext fun y => by
  obtain ⟨r, j, rfl⟩ : ∃ (r : Fin 1024) (j : Fin 2048), y = ix2 r j := ⟨y 0, y 1, eq_ix2 y⟩
  pointwise [k0_pay13]

section Cases

variable (c : Dev nD) (i : grid0.Coords) (a2 : Memref sig .tc .vmem S1024x2048 .bf16) (h2 : a2.IsWhole) (a3 : Memref sig .tc .vmem S1024x2048 .f32) (h3 : a3.IsWhole)
    (a4 : Memref sig .tc .vmem S1x2048x512 .bf16) (h4 : a4.IsWhole) (a5 : Memref sig .tc .vmem S1x2048x512 .bf16) (h5 : a5.IsWhole)
    (a6 : Memref sig .tc .vmem S1x512x2048 .bf16) (h6 : a6.IsWhole) (a7 : Memref sig .tc .vmem S1x1x2048 .f32) (h7 : a7.IsWhole)
    (a8 : Memref sig .tc .vmem S1x1x2048 .f32) (h8 : a8.IsWhole) (a9 : Memref sig .tc .vmem S1024x2048 .f32) (h9 : a9.IsWhole)
    (a10 : Memref sig .tc .vmem S1024x2048 .bf16) (h10 : a10.IsWhole)
  (x0 : Vec Ideal S1024x2048 .bf16) (x1 : Vec Ideal S1024x2048 .f32) (x2 x3 : Vec Ideal S1x2048x512 .bf16) (x4 : Vec Ideal S1x512x2048 .bf16)
  (x5 x6 : Vec Ideal S1x1x2048 .f32) (xo : Vec Ideal S1024x2048 .f32)

/-- A point between the first and the last of its row block adds its block of hidden units to the accumulator. -/
theorem out_B (hc0 : ¬cond0_0 i) (hc1 : ¬cond0_1 i) :
    out0_B_7 (F := Ideal) c i a2 h2 a3 h3 a4 h4 a5 h5 a6 h6 a7 h7 a8 h8 a9 h9 a10 h10 hc0 hc1 x0 x1 x2 x3 x4 x5 x6 xo = added x0 x2 x3 x4 xo := by
  unfold out0_B_7
  rw [View.read_writes_junk_eq_canon]
  unfold kernelRun0_B
  dsimp only
  sl_unfold_words
  simp only [View.readAt_eq_ld, h2.read_unread, h4.read_unread, h5.read_unread, h6.read_unread, h9.read_unread]
  simp (disch := decide) only [View.ld_unit_lit']
  rw [halves]

/-- The first point of a row block starts it from zero. -/
theorem out_A (hc0 : cond0_0 i) (hc1 : ¬cond0_1 i) :
    out0_A_7 (F := Ideal) c i a2 h2 a3 h3 a4 h4 a5 h5 a6 h6 a7 h7 a8 h8 a9 h9 a10 h10 hc0 hc1 x0 x1 x2 x3 x4 x5 x6 = added x0 x2 x3 x4 (fun _ => 0) := by
  unfold out0_A_7
  rw [View.read_writes_junk_eq_canon]
  unfold kernelRun0_A
  dsimp only
  sl_unfold_words
  simp only [View.readAt_eq_ld, h2.read_unread, h4.read_unread, h5.read_unread, h6.read_unread]
  simp (disch := decide) only [View.ld_unit_lit']
  simp (disch := decide) only [↓View.readCov_skip, View.readCov_fill]
  rw [halves, zeros]

/-- What the last point reads back of the accumulator, through any box of rows. -/
theorem read_back (v : View sig .tc .vmem S1024x2048 .f32) (r : Rect S1024x2048) :
    v.readCov (Val := Elt Ideal) [⟨rightHalf, k0_pay16 (F := Ideal) x0 x2 x3 (View.ld xo rightHalf) (View.ld x4 (Rect.unit ![0, 0, 1024] ![1, 512, 1024] inb_S1x512x2048_S1x512x1024_0_0_1024))⟩,
      ⟨leftHalf, k0_pay15 (F := Ideal) x0 x2 x3 (View.ld xo leftHalf) (View.ld x4 (Rect.unit ![0, 0, 0] ![1, 512, 1024] inb_S1x512x2048_S1x512x1024_0_0_0))⟩] r.toLoadRect
      = View.ld (added x0 x2 x3 x4 xo) r := by
  rw [View.readCov_eq_canon', halves]

/-- The last point of a row block adds its block of hidden units and normalizes. -/
theorem out_C7 (hc0 : ¬cond0_0 i) (hc1 : cond0_1 i) :
    out0_C_7 (F := Ideal) c i a2 h2 a3 h3 a4 h4 a5 h5 a6 h6 a7 h7 a8 h8 a9 h9 a10 h10 hc0 hc1 x0 x1 x2 x3 x4 x5 x6 xo
      = closed x1 x5 x6 (added x0 x2 x3 x4 xo) := by
  unfold out0_C_7
  rw [View.read_writes_junk_eq_canon]
  unfold kernelRun0_C
  dsimp only
  sl_unfold_words
  simp only [View.readAt_eq_ld, h2.read_unread, h3.read_unread, h4.read_unread, h5.read_unread, h6.read_unread, h7.read_unread, h8.read_unread, h9.read_unread]
  simp (disch := decide) only [View.ld_unit_lit']
  simp (disch := decide) only [↓View.readCov_skip]
  simp only [read_back]
  funext y
  exact View.canon_append_of_piecesOf (Val := Elt Ideal) (e := .f32) (closed x1 x5 x6 (added x0 x2 x3 x4 xo)) [_, _] [_, _, _, _]
    ⟨pay_chunk x1 x5 x6 (added x0 x2 x3 x4 xo) 768 (by omega) _, pay_chunk x1 x5 x6 (added x0 x2 x3 x4 xo) 512 (by omega) _,
      pay_chunk x1 x5 x6 (added x0 x2 x3 x4 xo) 256 (by omega) _, pay_chunk x1 x5 x6 (added x0 x2 x3 x4 xo) 0 (by omega) _, trivial⟩ y
    (View.cover_of_tiledBy _ ![256, 2048] (by sl_kernel_rfl) y)

/-- It stores the same rows, converted, in the second result's block. -/
theorem out_C8 (hc0 : ¬cond0_0 i) (hc1 : cond0_1 i) :
    out0_C_8 (F := Ideal) c i a2 h2 a3 h3 a4 h4 a5 h5 a6 h6 a7 h7 a8 h8 a9 h9 a10 h10 hc0 hc1 x0 x1 x2 x3 x4 x5 x6 xo
      = closed x1 x5 x6 (added x0 x2 x3 x4 xo) := by
  unfold out0_C_8
  rw [View.read_writes_junk_eq_canon]
  unfold kernelRun0_C
  dsimp only
  sl_unfold_words
  simp only [View.readAt_eq_ld, h2.read_unread, h3.read_unread, h4.read_unread, h5.read_unread, h6.read_unread, h7.read_unread, h8.read_unread, h9.read_unread]
  simp (disch := decide) only [View.ld_unit_lit']
  simp (disch := decide) only [↓View.readCov_skip]
  simp only [read_back]
  funext y
  exact View.canon_append_of_piecesOf (Val := Elt Ideal) (e := .bf16) (closed x1 x5 x6 (added x0 x2 x3 x4 xo)) [] [_, _, _, _]
    ⟨pay_chunk x1 x5 x6 (added x0 x2 x3 x4 xo) 768 (by omega) _, pay_chunk x1 x5 x6 (added x0 x2 x3 x4 xo) 512 (by omega) _,
      pay_chunk x1 x5 x6 (added x0 x2 x3 x4 xo) 256 (by omega) _, pay_chunk x1 x5 x6 (added x0 x2 x3 x4 xo) 0 (by omega) _, trivial⟩ y
    (View.cover_of_tiledBy _ ![256, 2048] (by sl_kernel_rfl) y)

end Cases

/-- A row of the feed-forward block before its normalization: the scaled residual plus the down projection of the row's activations. -/
def row (x : Fin 2048 → EReal) (wg wu : Fin 2048 → Fin 5632 → EReal) (wd : Fin 5632 → Fin 2048 → EReal) (q : Fin 2048) : EReal :=
  scaled (x q) + ∑ k : Fin 5632, unit (∑ l, x l * wg l k) (∑ l, x l * wu l k) * wd k q

/-- The reference at (r, j). -/
theorem goal_apply (x0 : (⟨2, ![8192, 2048]⟩ : Shape).Idx → EReal) (x1 x2 : (⟨3, ![4, 2048, 5632]⟩ : Shape).Idx → EReal)
    (x3 : (⟨3, ![4, 5632, 2048]⟩ : Shape).Idx → EReal) (x4 x5 : (⟨2, ![4, 2048]⟩ : Shape).Idx → EReal) (r : Fin 8192) (j : Fin 2048) :
    Cert.FfnRefIdeal.Read.val_main_v41 (F := Ideal) x0 x1 x2 x3 x4 x5 (ix2 r j)
      = normed (row (fun l => x0 (ix2 r l)) (fun l k => x1 (ix3 0 l k)) (fun l k => x2 (ix3 0 l k)) (fun k q => x3 (ix3 0 k q)))
          (x4 (ix2 0 j)) (x5 (ix2 0 j)) j := by
  pointwise [val_main_v41, val_main_v40, val_main_v39, val_main_v38, val_main_v37, val_main_v36, val_main_v35, val_main_v34, val_main_v33, val_main_v32, val_main_v31, val_main_cst_4, val_main_v30, val_main_v29, val_main_v28, val_main_v27, val_main_cst_3, val_main_v26, val_main_v25, val_main_cst_2, val_main_v24, val_main_v23, val_main_v22, val_main_v21, val_main_v20, val_main_cst_1, val_main_v19, val_main_v18, val_main_cst_0, val_main_v17, val_main_v16, val_main_v15, val_main_v14, val_main_v13, val_main_v12, val_main_v11, val_main_cst, val_main_v10, val_main_v9, val_main_v8, val_main_v7, val_main_v6, val_main_call0_v5, val_main_call0_v4, val_main_call0_cst_0, val_main_call0_v3, val_main_call0_v2, val_main_call0_cst, val_main_call0_v1, val_main_call0_v0, val_main_v5, val_main_v4, val_main_v3, val_main_v2, val_main_v1, val_main_v0, normed, mean, row, scaled, unit, Ideal.logistic]

variable (m : (ℓ : Loc nD τ sig) → Buf (Elt Ideal) ℓ) (ρ : Dev nD → PrngReg)

/-- Device `c`'s arguments as launched: the hidden rows, the stacked gate, up and down weights, the stacked scale and shift. -/
abbrev arg0 (c : Dev nD) : (⟨2, ![8192, 2048]⟩ : Shape).Idx → EReal := m ((c : Thread nD τ).loc main_arg0)
abbrev arg1 (c : Dev nD) : (⟨3, ![4, 2048, 5632]⟩ : Shape).Idx → EReal := m ((c : Thread nD τ).loc main_arg1)
abbrev arg2 (c : Dev nD) : (⟨3, ![4, 2048, 5632]⟩ : Shape).Idx → EReal := m ((c : Thread nD τ).loc main_arg2)
abbrev arg3 (c : Dev nD) : (⟨3, ![4, 5632, 2048]⟩ : Shape).Idx → EReal := m ((c : Thread nD τ).loc main_arg3)
abbrev arg4 (c : Dev nD) : (⟨2, ![4, 2048]⟩ : Shape).Idx → EReal := m ((c : Thread nD τ).loc main_arg4)
abbrev arg5 (c : Dev nD) : (⟨2, ![4, 2048]⟩ : Shape).Idx → EReal := m ((c : Thread nD τ).loc main_arg5)

/-- What the reference computes from device `c`'s arguments. -/
abbrev goal (c : Dev nD) : (⟨2, ![8192, 2048]⟩ : Shape).Idx → EReal :=
  val_main_v41 (F := Ideal) (arg0 m c) (arg1 m c) (arg2 m c) (arg3 m c) (arg4 m c) (arg5 m c)

/-- The region finds the hidden rows and the three weights in its operands, -/
theorem V_0 (c : Dev nD) : V m c main_v0 = arg0 m c := by
  unfold V hostOps0
  after_results
  rfl
theorem V_1 (c : Dev nD) : V m c main_v1 = arg1 m c := by
  unfold V hostOps0
  after_results
  rfl
theorem V_2 (c : Dev nD) : V m c main_v2 = arg2 m c := by
  unfold V hostOps0
  after_results
  rfl
theorem V_3 (c : Dev nD) : V m c main_v3 = arg3 m c := by
  unfold V hostOps0
  after_results
  rfl

/-- and the scale and the shift, each as one row per layer. -/
theorem V_4 (c : Dev nD) (l : Fin 4) (j : Fin 2048) : V m c main_v4 (ix3 l 0 j) = arg4 m c (ix2 l j) := by
  have e : V m c main_v4 = shapeCast S4x1x2048 (arg4 m c) shapeCasts_S4x2048_S4x1x2048 := by
    unfold V hostOps0
    after_results
    rfl
  rw [e]
  pointwise
theorem V_5 (c : Dev nD) (l : Fin 4) (j : Fin 2048) : V m c main_v5 (ix3 l 0 j) = arg5 m c (ix2 l j) := by
  have e : V m c main_v5 = shapeCast S4x1x2048 (arg5 m c) shapeCasts_S4x2048_S4x1x2048 := by
    unfold V hostOps0
    after_results
    rfl
  rw [e]
  pointwise

/-- Where point `t`'s blocks lie: eleven consecutive points share a block of rows, and each takes the next block of hidden units. -/
theorem atRows : ∀ t : Fin cfg0.N, (win0_0.index t 0 = t.val / 11 ∧ win0_0.index t 1 = 0) ∧ (win0_1.index t 0 = t.val / 11 ∧ win0_1.index t 1 = 0)
    ∧ (win0_7.index t 0 = t.val / 11 ∧ win0_7.index t 1 = 0) ∧ (win0_8.index t 0 = t.val / 11 ∧ win0_8.index t 1 = 0) :=
  (by decide +kernel : ∀ t : Fin grid0.N, (win0_0.index t 0 = t.val / 11 ∧ win0_0.index t 1 = 0) ∧ (win0_1.index t 0 = t.val / 11 ∧ win0_1.index t 1 = 0)
    ∧ (win0_7.index t 0 = t.val / 11 ∧ win0_7.index t 1 = 0) ∧ (win0_8.index t 0 = t.val / 11 ∧ win0_8.index t 1 = 0))
theorem atWeights : ∀ t : Fin cfg0.N, (win0_2.index t 0 = 0 ∧ win0_2.index t 1 = 0 ∧ win0_2.index t 2 = t.val % 11)
    ∧ (win0_3.index t 0 = 0 ∧ win0_3.index t 1 = 0 ∧ win0_3.index t 2 = t.val % 11) ∧ (win0_4.index t 0 = 0 ∧ win0_4.index t 1 = t.val % 11 ∧ win0_4.index t 2 = 0) :=
  (by decide +kernel : ∀ t : Fin grid0.N, (win0_2.index t 0 = 0 ∧ win0_2.index t 1 = 0 ∧ win0_2.index t 2 = t.val % 11)
    ∧ (win0_3.index t 0 = 0 ∧ win0_3.index t 1 = 0 ∧ win0_3.index t 2 = t.val % 11) ∧ (win0_4.index t 0 = 0 ∧ win0_4.index t 1 = t.val % 11 ∧ win0_4.index t 2 = 0))
/-- The scale's and the shift's blocks are the first layer's, at every point. -/
theorem atVectors : ∀ t : Fin cfg0.N, (∀ a, win0_5.index t a = 0) ∧ ∀ a, win0_6.index t a = 0 :=
  (by decide +kernel : ∀ t : Fin grid0.N, (∀ a, win0_5.index t a = 0) ∧ ∀ a, win0_6.index t a = 0)

theorem lt_N (t : Fin cfg0.N) : t.val < 88 := by have := t.isLt; have hN : cfg0.N = 88 := N_0; omega

/-- Row `r` of point `t`'s blocks is this row of the arrays, -/
abbrev rowOf (t : Fin cfg0.N) (r : Fin 1024) : Fin 8192 := ⟨t.val / 11 * 1024 + r.val, by have := lt_N t; omega⟩
/-- and its hidden unit `k` is this one of the layer. -/
abbrev unitOf (t : Fin cfg0.N) (k : Fin 512) : Fin 5632 := ⟨t.val % 11 * 512 + k.val, by omega⟩

/-- Each operand's block at point `t`, read at an index. -/
theorem blk0 (c : Dev nD) (t : Fin cfg0.N) (r : Fin 1024) (k : Fin 2048) : iblk m c 0 t (ix2 r k) = arg0 m c (ix2 (rowOf t r) k) := by
  show V m c main_v0 ((win0_0.rect t).emb (ix2 r k)) = _
  rw [V_0]
  refine congrArg (arg0 m c) (funext fun a => Fin.ext ((win0_0.rect_emb_val t (ix2 r k) a).trans ?_))
  match a with
  | ⟨0, _⟩ => show win0_0.index t 0 * 1024 + r.val = _; rw [(atRows t).1.1]; rfl
  | ⟨1, _⟩ => show win0_0.index t 1 * 2048 + k.val = k.val; rw [(atRows t).1.2]; omega
theorem blk1 (c : Dev nD) (t : Fin cfg0.N) (r : Fin 1024) (k : Fin 2048) : iblk m c 1 t (ix2 r k) = arg0 m c (ix2 (rowOf t r) k) := by
  show V m c main_arg0 ((win0_1.rect t).emb (ix2 r k)) = _
  rw [V_main_arg0]
  refine congrArg (arg0 m c) (funext fun a => Fin.ext ((win0_1.rect_emb_val t (ix2 r k) a).trans ?_))
  match a with
  | ⟨0, _⟩ => show win0_1.index t 0 * 1024 + r.val = _; rw [(atRows t).2.1.1]; rfl
  | ⟨1, _⟩ => show win0_1.index t 1 * 2048 + k.val = k.val; rw [(atRows t).2.1.2]; omega
theorem blk2 (c : Dev nD) (t : Fin cfg0.N) (l : Fin 2048) (k : Fin 512) : iblk m c 2 t (ix3 0 l k) = arg1 m c (ix3 0 l (unitOf t k)) := by
  show V m c main_v1 ((win0_2.rect t).emb (ix3 0 l k)) = _
  rw [V_1]
  refine congrArg (arg1 m c) (funext fun a => Fin.ext ((win0_2.rect_emb_val t (ix3 0 l k) a).trans ?_))
  match a with
  | ⟨0, _⟩ => show win0_2.index t 0 * 1 + 0 = 0; rw [(atWeights t).1.1]
  | ⟨1, _⟩ => show win0_2.index t 1 * 2048 + l.val = l.val; rw [(atWeights t).1.2.1]; omega
  | ⟨2, _⟩ => show win0_2.index t 2 * 512 + k.val = _; rw [(atWeights t).1.2.2]; rfl
theorem blk3 (c : Dev nD) (t : Fin cfg0.N) (l : Fin 2048) (k : Fin 512) : iblk m c 3 t (ix3 0 l k) = arg2 m c (ix3 0 l (unitOf t k)) := by
  show V m c main_v2 ((win0_3.rect t).emb (ix3 0 l k)) = _
  rw [V_2]
  refine congrArg (arg2 m c) (funext fun a => Fin.ext ((win0_3.rect_emb_val t (ix3 0 l k) a).trans ?_))
  match a with
  | ⟨0, _⟩ => show win0_3.index t 0 * 1 + 0 = 0; rw [(atWeights t).2.1.1]
  | ⟨1, _⟩ => show win0_3.index t 1 * 2048 + l.val = l.val; rw [(atWeights t).2.1.2.1]; omega
  | ⟨2, _⟩ => show win0_3.index t 2 * 512 + k.val = _; rw [(atWeights t).2.1.2.2]; rfl
theorem blk4 (c : Dev nD) (t : Fin cfg0.N) (k : Fin 512) (q : Fin 2048) : iblk m c 4 t (ix3 0 k q) = arg3 m c (ix3 0 (unitOf t k) q) := by
  show V m c main_v3 ((win0_4.rect t).emb (ix3 0 k q)) = _
  rw [V_3]
  refine congrArg (arg3 m c) (funext fun a => Fin.ext ((win0_4.rect_emb_val t (ix3 0 k q) a).trans ?_))
  match a with
  | ⟨0, _⟩ => show win0_4.index t 0 * 1 + 0 = 0; rw [(atWeights t).2.2.1]
  | ⟨1, _⟩ => show win0_4.index t 1 * 512 + k.val = _; rw [(atWeights t).2.2.2.1]; rfl
  | ⟨2, _⟩ => show win0_4.index t 2 * 2048 + q.val = q.val; rw [(atWeights t).2.2.2.2]; omega
theorem blk5 (c : Dev nD) (t : Fin cfg0.N) (j : Fin 2048) : iblk m c 5 t (ix3 0 0 j) = arg4 m c (ix2 0 j) := by
  rw [← V_4]
  show V m c main_v4 ((win0_5.rect t).emb (ix3 0 0 j)) = _
  refine congrArg (V m c main_v4) (funext fun a => Fin.ext ((win0_5.rect_emb_val_of_index_zero t a ((atVectors t).1 a) (ix3 0 0 j)).trans ?_))
  match a with
  | ⟨0, _⟩ => rfl
  | ⟨1, _⟩ => rfl
  | ⟨2, _⟩ => rfl
theorem blk6 (c : Dev nD) (t : Fin cfg0.N) (j : Fin 2048) : iblk m c 6 t (ix3 0 0 j) = arg5 m c (ix2 0 j) := by
  rw [← V_5]
  show V m c main_v5 ((win0_6.rect t).emb (ix3 0 0 j)) = _
  refine congrArg (V m c main_v5) (funext fun a => Fin.ext ((win0_6.rect_emb_val_of_index_zero t a ((atVectors t).2 a) (ix3 0 0 j)).trans ?_))
  match a with
  | ⟨0, _⟩ => rfl
  | ⟨1, _⟩ => rfl
  | ⟨2, _⟩ => rfl

/-- What hidden unit `k` of the layer adds to row `R`, column `j`. -/
def term (c : Dev nD) (R : Fin 8192) (j : Fin 2048) (k : Fin 5632) : EReal :=
  unit (∑ l : Fin 2048, arg0 m c (ix2 R l) * arg1 m c (ix3 0 l k)) (∑ l : Fin 2048, arg0 m c (ix2 R l) * arg2 m c (ix3 0 l k)) * arg3 m c (ix3 0 k j)

/-- What the `b`-th block of 512 hidden units adds there. -/
def part (c : Dev nD) (R : Fin 8192) (j : Fin 2048) (b : ℕ) : EReal :=
  if h : b < 11 then ∑ k : Fin 512, term m c R j ⟨b * 512 + k.val, by omega⟩ else 0

/-- The eleven blocks are all of the layer's hidden units. -/
theorem sum_parts (c : Dev nD) (R : Fin 8192) (j : Fin 2048) : ∑ b ∈ Finset.range 11, part m c R j b = ∑ k : Fin 5632, term m c R j k := by
  rw [Finset.sum_range]
  have e (b : Fin 11) : part m c R j b.val = ∑ k : Fin 512, term m c R j ⟨b.val * 512 + k.val, by omega⟩ := dif_pos b.isLt
  simp only [e]
  rw [← Fintype.sum_prod_type' (f := fun (b : Fin 11) (k : Fin 512) => term m c R j ⟨b.val * 512 + k.val, by omega⟩)]
  refine Fintype.sum_equiv (finProdFinEquiv (m := 11) (n := 512)) _ _ fun x => congrArg (term m c R j) (Fin.ext ?_)
  show x.1.val * 512 + x.2.val = x.2.val + 512 * x.1.val
  omega

/-- What point `t` adds to the accumulator `xo`. -/
theorem added_apply (c : Dev nD) (t : Fin cfg0.N) (xo : Vec Ideal S1024x2048 .f32) (r : Fin 1024) (j : Fin 2048) :
    added (iblk m c 0 t) (iblk m c 2 t) (iblk m c 3 t) (iblk m c 4 t) xo (ix2 r j) = xo (ix2 r j) + part m c (rowOf t r) j (t.val % 11) := by
  have e : part m c (rowOf t r) j (t.val % 11) = ∑ k : Fin 512, term m c (rowOf t r) j (unitOf t k) := dif_pos (Nat.mod_lt _ (by omega))
  rw [e]
  show xo (ix2 r j) + ∑ k : Fin 512, act (iblk m c 0 t) (iblk m c 2 t) (iblk m c 3 t) r k * iblk m c 4 t (ix3 0 k j) = _
  refine congrArg (xo (ix2 r j) + ·) (Finset.sum_congr rfl fun k _ => ?_)
  unfold act term
  rw [blk4]
  refine congrArg (· * _) (congrArg₂ unit (Finset.sum_congr rfl fun l _ => ?_) (Finset.sum_congr rfl fun l _ => ?_))
  · rw [blk0, blk2]
  · rw [blk0, blk3]

/-- The accumulator after a point that is not the last of its row block: the blocks of hidden units up to the point's own. -/
theorem acc (c : Dev nD) : ∀ (n : ℕ) (h : n < cfg0.N), ¬n % 11 = 10 → ∀ (r : Fin 1024) (j : Fin 2048),
    (outsAt0 m c n h).1 (ix2 r j) = ∑ b ∈ Finset.range (n % 11 + 1), part m c (rowOf ⟨n, h⟩ r) j b := by
  intro n
  induction n with
  | zero =>
    intro h h1 r j
    rw [show outsAt0 m c 0 h = _ from outsAt0_A m c ⟨0, h⟩ rfl h1]
    dsimp only
    rw [out_A, added_apply, zero_add]
    exact (Finset.sum_range_one _).symm
  | succ n ih =>
    intro h h1 r j
    by_cases h0 : (n + 1) % 11 = 0
    · rw [show outsAt0 m c (n + 1) h = _ from outsAt0_A m c ⟨n + 1, h⟩ h0 h1]
      dsimp only
      rw [out_A, added_apply, zero_add]
      dsimp only
      rw [h0]
      exact (Finset.sum_range_one _).symm
    · rw [show outsAt0 m c (n + 1) h = _ from outsAt0_B m c ⟨n + 1, h⟩ h0 h1]
      dsimp only
      rw [out_B, added_apply]
      have hn : (n + 1) % 11 = n % 11 + 1 := by omega
      have hd : (n + 1) / 11 = n / 11 := by omega
      have hr : rowOf ⟨n + 1, h⟩ r = rowOf ⟨n, Nat.lt_of_succ_lt h⟩ r := Fin.ext (by show (n + 1) / 11 * 1024 + r.val = n / 11 * 1024 + r.val; rw [hd])
      rw [hr, Finset.sum_range_succ, hn]
      refine congrArg (· + _) ?_
      exact ih (Nat.lt_of_succ_lt h) (by omega) r j

/-- What the last point of a row block leaves in either result's block, at (r, j), is the reference there. -/
theorem block_goal (c : Dev nD) (t : Fin cfg0.N) (h1 : t.val % 11 = 10) (r : Fin 1024) (j : Fin 2048) :
    closed (iblk m c 1 t) (iblk m c 5 t) (iblk m c 6 t) (added (iblk m c 0 t) (iblk m c 2 t) (iblk m c 3 t) (iblk m c 4 t)
        (outsAt0 m c (t.val - 1) (Nat.lt_of_le_of_lt (Nat.sub_le _ _) t.isLt)).1) (ix2 r j)
      = goal m c (ix2 (rowOf t r) j) := by
  refine Eq.trans ?_ (goal_apply _ _ _ _ _ _ _ _).symm
  have e (q : Fin 2048) : added (iblk m c 0 t) (iblk m c 2 t) (iblk m c 3 t) (iblk m c 4 t)
        (outsAt0 m c (t.val - 1) (Nat.lt_of_le_of_lt (Nat.sub_le _ _) t.isLt)).1 (ix2 r q) = ∑ k : Fin 5632, term m c (rowOf t r) q k := by
    have hd : (t.val - 1) / 11 = t.val / 11 := by omega
    have hm : (t.val - 1) % 11 + 1 = 10 := by omega
    rw [added_apply, acc m c (t.val - 1) _ (by omega) r q, ← sum_parts, h1, hm, Finset.sum_range_succ _ 10]
    refine congrArg (· + _) (Finset.sum_congr rfl fun b _ => congrArg (fun R => part m c R q b) (Fin.ext ?_))
    show (t.val - 1) / 11 * 1024 + r.val = t.val / 11 * 1024 + r.val
    rw [hd]
  show normed (fun q => scaled (iblk m c 1 t (ix2 r q)) + added (iblk m c 0 t) (iblk m c 2 t) (iblk m c 3 t) (iblk m c 4 t)
        (outsAt0 m c (t.val - 1) (Nat.lt_of_le_of_lt (Nat.sub_le _ _) t.isLt)).1 (ix2 r q)) (iblk m c 5 t (ix3 0 0 j)) (iblk m c 6 t (ix3 0 0 j)) j = _
  rw [blk5, blk6]
  refine congrArg (fun x => normed x _ _ j) (funext fun q => ?_)
  rw [e, blk1]
  rfl

/-- What such a point writes back to the first result is its block of the reference. -/
theorem flushed_eq7 (c : Dev nD) (t : Fin cfg0.N) (hf : (cfg0.win 7).flush t = true) :
    (dats m 0 c).flushed 7 t = (win0_7.blk t).view.read (Elt Ideal) (goal m c) := by
  have h1 : t.val % 11 = 10 := (flush0_7 t).mp hf
  rw [Value.flushed7_C m c t (by omega) h1, out_C7]
  funext y
  obtain ⟨r, j, rfl⟩ : ∃ (r : Fin 1024) (j : Fin 2048), y = ix2 r j := ⟨y 0, y 1, eq_ix2 y⟩
  refine (block_goal m c t h1 r j).trans ?_
  show goal m c _ = goal m c ((win0_7.rect t).emb (ix2 r j))
  refine congrArg (goal m c) (funext fun a => Fin.ext (Eq.trans ?_ (win0_7.rect_emb_val t (ix2 r j) a).symm))
  match a with
  | ⟨0, _⟩ => show t.val / 11 * 1024 + r.val = win0_7.index t 0 * 1024 + r.val; rw [(atRows t).2.2.1.1]
  | ⟨1, _⟩ => show j.val = win0_7.index t 1 * 2048 + j.val; rw [(atRows t).2.2.1.2]; omega

/-- The blocks written back tile that array. -/
theorem cover7 (i : S8192x2048.Idx) : ∃ t : Fin cfg0.N, (cfg0.win 7).flush t = true ∧ i ∈ ((cfg0.win 7).blk t).view.set := by
  have h0 : (i 0 : Nat) < 8192 := (i 0).isLt
  have h1 : (i 1 : Nat) < 2048 := (i 1).isLt
  have hN : cfg0.N = 88 := N_0
  obtain ⟨t, ht⟩ : ∃ t : Fin cfg0.N, t.val = (i 0 : Nat) / 1024 * 11 + 10 := ⟨⟨(i 0 : Nat) / 1024 * 11 + 10, by rw [hN]; omega⟩, rfl⟩
  refine ⟨t, (flush0_7 t).mpr (by omega), ?_⟩
  show i ∈ ((View.whole main_v6_0).slice (win0_7.rect t)).set
  rw [View.set_slice_whole, Rect.mem_set_unit]
  intro a
  match a with
  | ⟨0, _⟩ => show win0_7.index t 0 * 1024 ≤ (i 0 : Nat) ∧ (i 0 : Nat) < win0_7.index t 0 * 1024 + 1024; rw [(atRows t).2.2.1.1]; omega
  | ⟨1, _⟩ => show win0_7.index t 1 * 2048 ≤ (i 1 : Nat) ∧ (i 1 : Nat) < win0_7.index t 1 * 2048 + 2048; rw [(atRows t).2.2.1.2]; omega

/-- What such a point writes back to the second result is its block of the reference. -/
theorem flushed_eq8 (c : Dev nD) (t : Fin cfg0.N) (hf : (cfg0.win 8).flush t = true) :
    (dats m 0 c).flushed 8 t = (win0_8.blk t).view.read (Elt Ideal) (goal m c) := by
  have h1 : t.val % 11 = 10 := (flush0_8 t).mp hf
  rw [Value.flushed8_C m c t (by omega) h1, out_C8]
  funext y
  obtain ⟨r, j, rfl⟩ : ∃ (r : Fin 1024) (j : Fin 2048), y = ix2 r j := ⟨y 0, y 1, eq_ix2 y⟩
  refine (block_goal m c t h1 r j).trans ?_
  show goal m c _ = goal m c ((win0_8.rect t).emb (ix2 r j))
  refine congrArg (goal m c) (funext fun a => Fin.ext (Eq.trans ?_ (win0_8.rect_emb_val t (ix2 r j) a).symm))
  match a with
  | ⟨0, _⟩ => show t.val / 11 * 1024 + r.val = win0_8.index t 0 * 1024 + r.val; rw [(atRows t).2.2.2.1]
  | ⟨1, _⟩ => show j.val = win0_8.index t 1 * 2048 + j.val; rw [(atRows t).2.2.2.2]; omega

/-- The blocks written back tile that array. -/
theorem cover8 (i : S8192x2048.Idx) : ∃ t : Fin cfg0.N, (cfg0.win 8).flush t = true ∧ i ∈ ((cfg0.win 8).blk t).view.set := by
  have h0 : (i 0 : Nat) < 8192 := (i 0).isLt
  have h1 : (i 1 : Nat) < 2048 := (i 1).isLt
  have hN : cfg0.N = 88 := N_0
  obtain ⟨t, ht⟩ : ∃ t : Fin cfg0.N, t.val = (i 0 : Nat) / 1024 * 11 + 10 := ⟨⟨(i 0 : Nat) / 1024 * 11 + 10, by rw [hN]; omega⟩, rfl⟩
  refine ⟨t, (flush0_8 t).mpr (by omega), ?_⟩
  show i ∈ ((View.whole main_v6_1).slice (win0_8.rect t)).set
  rw [View.set_slice_whole, Rect.mem_set_unit]
  intro a
  match a with
  | ⟨0, _⟩ => show win0_8.index t 0 * 1024 ≤ (i 0 : Nat) ∧ (i 0 : Nat) < win0_8.index t 0 * 1024 + 1024; rw [(atRows t).2.2.2.1]; omega
  | ⟨1, _⟩ => show win0_8.index t 1 * 2048 ≤ (i 1 : Nat) ∧ (i 1 : Nat) < win0_8.index t 1 * 2048 + 2048; rw [(atRows t).2.2.2.2]; omega

/-- The run, read: both result arrays hold the reference's rows of the arguments, which are as launched. -/
theorem run : θ_run defs (onTc (τ := τ) (main (F := Ideal))) ⟨m, fun _ => 0, ρ⟩ fun r => ∀ c : Dev nD,
      r.2.mem ((c : Thread nD τ).loc main_v6_0) = goal m c
      ∧ r.2.mem ((c : Thread nD τ).loc main_v6_1) = goal m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans ((dats m 0 c).arrAt_eq_of_cover 7 (goal m c) (flushed_eq7 m c) cover7),
      (h c).2.1.trans ((dats m 0 c).arrAt_eq_of_cover 8 (goal m c) (flushed_eq8 m c) cover8), (h c).2.2⟩)
    (Value.run_blocks m ρ)

/-- The reference leaves its arguments as launched and every semaphore counter at zero. -/
theorem ref_frame : Cert.quiescent_FfnRefIdeal := fun m ρ _ =>
  (θ_run Cert.FfnRefIdeal.defs _ _).mono
    (fun r h => ⟨fun c => (h c).2.2, Idealize.ShloMosaic.sem_eq_zero_of_no_sems (by decide) r.2⟩)
    (Cert.FfnRefIdeal.Value.run m ρ)

/-- From equal arguments the kernel and the reference end with equal results. -/
theorem agrees : Cert.algebraic_FfnIdeal_FfnRefIdeal := by
  intro m ρ m' ρ' _ hagree
  have e (c : Dev nD) : val_main_v41 (F := Ideal) (m' ((c : Thread Cert.FfnRefIdeal.nD Cert.FfnRefIdeal.τ).loc Cert.FfnRefIdeal.main_arg0))
      (m' ((c : Thread Cert.FfnRefIdeal.nD Cert.FfnRefIdeal.τ).loc Cert.FfnRefIdeal.main_arg1)) (m' ((c : Thread Cert.FfnRefIdeal.nD Cert.FfnRefIdeal.τ).loc Cert.FfnRefIdeal.main_arg2))
      (m' ((c : Thread Cert.FfnRefIdeal.nD Cert.FfnRefIdeal.τ).loc Cert.FfnRefIdeal.main_arg3)) (m' ((c : Thread Cert.FfnRefIdeal.nD Cert.FfnRefIdeal.τ).loc Cert.FfnRefIdeal.main_arg4))
      (m' ((c : Thread Cert.FfnRefIdeal.nD Cert.FfnRefIdeal.τ).loc Cert.FfnRefIdeal.main_arg5)) = goal m c := by
    obtain ⟨h0, h1, h2, h3, h4, h5⟩ := hagree c
    rw [h0, h1, h2, h3, h4, h5]
  exact ⟨fun c => goal m c, fun c => goal m c, run m ρ, (θ_run Cert.FfnRefIdeal.defs _ _).mono (fun _ h c =>
      ⟨(h c).1.trans ((val_main_v41_eq m' c).trans (e c)), (h c).2.1.trans ((val_main_v42_eq m' c).trans (e c)), (h c).2.2⟩)
    (Cert.FfnRefIdeal.Value.run (F := Ideal) m' ρ')⟩

end FfnValue
-- ==== Proof.PoolSampleValue.lean ====
module

public import proofs.«01_k».proof.Defs
public import proofs.«01_k».proof.Proof.Gen.PoolSampleIdeal.Value
public import proofs.«01_k».proof.Proof.Gen.PoolSampleRefIdeal.Run
public import proofs.«01_k».proof.Proof.Gen.PoolSampleRefIdeal.Read
public import Idealize.ShloMosaic.Lib.Pointwise
public import Idealize.ShloMosaic.Lib.Pipeline.Value
public import Idealize.ShloMosaic.Lib.Pipeline.ValueKit.Acc
public import Idealize.ShloMosaic.Lib.Pipeline.ReadBack
public import Idealize.ShloMosaic.Lib.Quiescent

@[expose] public section

set_option maxRecDepth 16384

noncomputable section

namespace PoolSampleValue

open Cert.PoolSampleIdeal Cert.PoolSampleIdeal.Gen
open Idealize.ShloMosaic Idealize.ShloMosaic.TcCoe Idealize.SL.Sem
open Idealize.ShloMosaic.Pipeline (Dat)
open Cert.PoolSampleRefIdeal.Read

/-- The sum of the newest `w` of sixteen values - fifteen past ones, oldest first, then the newest, `u` -, divided by the constant
`d`, less the newest. -/
def meanOver (w : Nat) (d : BitVec 32) (u : EReal) (b : Fin 15 → EReal) : EReal :=
  Ideal.div (∑ x : Fin w, if h : 16 - w + x.val < 15 then b ⟨16 - w + x.val, h⟩ else u) (Ideal.ofBits .f32 d) - u

/-- The four groups of columns take the last 2, 4, 8 and 16 values. -/
def pooled (g : Nat) (u : EReal) (b : Fin 15 → EReal) : EReal :=
  if g = 0 then meanOver 2 0x40000000#32 u b else if g = 1 then meanOver 4 0x40800000#32 u b
    else if g = 2 then meanOver 8 0x41000000#32 u b else meanOver 16 0x41800000#32 u b

/-- The same means, summed from the newest value to the oldest. -/
theorem pooled_0 (u : EReal) (b : Fin 15 → EReal) : pooled 0 u b = Ideal.div (u + b 14) (Ideal.ofBits .f32 0x40000000#32) - u := by
  have e : (∑ x : Fin 2, if h : 16 - 2 + x.val < 15 then b ⟨16 - 2 + x.val, h⟩ else u) = u + b 14 := by
    simp [Fin.sum_univ_succ]
    abel
  unfold pooled meanOver
  rw [if_pos rfl, e]
theorem pooled_1 (u : EReal) (b : Fin 15 → EReal) :
    pooled 1 u b = Ideal.div (u + b 14 + b 13 + b 12) (Ideal.ofBits .f32 0x40800000#32) - u := by
  have e : (∑ x : Fin 4, if h : 16 - 4 + x.val < 15 then b ⟨16 - 4 + x.val, h⟩ else u) = u + b 14 + b 13 + b 12 := by
    simp [Fin.sum_univ_succ]
    abel
  unfold pooled meanOver
  rw [if_neg (by decide), if_pos rfl, e]
theorem pooled_2 (u : EReal) (b : Fin 15 → EReal) :
    pooled 2 u b = Ideal.div (u + b 14 + b 13 + b 12 + b 11 + b 10 + b 9 + b 8) (Ideal.ofBits .f32 0x41000000#32) - u := by
  have e : (∑ x : Fin 8, if h : 16 - 8 + x.val < 15 then b ⟨16 - 8 + x.val, h⟩ else u) = u + b 14 + b 13 + b 12 + b 11 + b 10 + b 9 + b 8 := by
    simp [Fin.sum_univ_succ]
    abel
  unfold pooled meanOver
  rw [if_neg (by decide), if_neg (by decide), if_pos rfl, e]
theorem pooled_3 (u : EReal) (b : Fin 15 → EReal) :
    pooled 3 u b = Ideal.div (u + b 14 + b 13 + b 12 + b 11 + b 10 + b 9 + b 8 + b 7 + b 6 + b 5 + b 4 + b 3 + b 2 + b 1 + b 0)
      (Ideal.ofBits .f32 0x41800000#32) - u := by
  have e : (∑ x : Fin 16, if h : 16 - 16 + x.val < 15 then b ⟨16 - 16 + x.val, h⟩ else u)
      = u + b 14 + b 13 + b 12 + b 11 + b 10 + b 9 + b 8 + b 7 + b 6 + b 5 + b 4 + b 3 + b 2 + b 1 + b 0 := by
    simp [Fin.sum_univ_succ]
    abel
  unfold pooled meanOver
  rw [if_neg (by decide), if_neg (by decide), if_neg (by decide), e]

section Blocks

variable (x0 : Vec Ideal S32x2048 .f32) (x1 : Vec Ideal S1x4x512x512 .bf16) (x2 : Vec Ideal S1x1x2048 .f32) (x3 : Vec Ideal S1x2048x2048 .bf16)
  (x4 : Vec Ideal S32x2048 .bf16) (x5 : Vec Ideal S1x15x32x2048 .f32)

/-- The block's pooled values. -/
def pool : Vec Ideal S32x2048 .bf16 := fun y => pooled ((y 1).val / 512) (x0 y) (fun k => x5 (ix4 0 k (y 0) (y 1)))

/-- Each group of 512 columns through that group's weights, scaled column by column. -/
def projected : Vec Ideal S32x2048 .bf16 := fun y =>
  (∑ k : Fin 512, pool x0 x5 (ix2 (y 0) ⟨(y 1).val / 512 * 512 + k.val, by have := (y 1).isLt; have h : S32x2048.size 1 = 2048 := rfl; omega⟩)
      * x1 (ix4 0 ⟨(y 1).val / 512, by have := (y 1).isLt; have h : S32x2048.size 1 = 2048 := rfl; omega⟩ k ⟨(y 1).val % 512, by omega⟩))
    * x2 (ix3 0 0 (y 1))

/-- The block of the first result. -/
def gated : Vec Ideal S32x2048 .f32 := fun y => (∑ q : Fin 2048, projected x0 x1 x2 x5 (ix2 (y 0) q) * x3 (ix3 0 q (y 1))) * x4 y

/-- The block of the second: each row of the buffer moved up by one, the newest row last. -/
def shifted : Vec Ideal S1x15x32x2048 .f32 := fun y =>
  if h : 1 + (y 1).val < 15 then x5 (ix4 0 ⟨1 + (y 1).val, h⟩ (y 2) (y 3)) else x0 (ix2 (y 2) (y 3))

/-- A row of the buffer's block, read at a group of columns; -/
theorem ld_row (k o : Nat) (hk : k < 15) (ho : o + 512 ≤ 2048)
    (inb : ∀ a, (![0, k, 0, o] : Fin 4 → Nat) a + (![1, 1, 32, 512] : Fin 4 → Nat) a ≤ S1x15x32x2048.size a) (r : Fin 32) (j : Fin 512) :
    View.ld x5 (Rect.unit (s := S1x15x32x2048) ![0, k, 0, o] ![1, 1, 32, 512] inb) (ix4 0 0 r j) = x5 (ix4 0 ⟨k, hk⟩ r ⟨o + j.val, by omega⟩) := by
  refine congrArg x5 (funext fun a => Fin.ext ?_)
  match a with
  | ⟨0, _⟩ => rfl
  | ⟨1, _⟩ => rfl
  | ⟨2, _⟩ => show 0 + 1 * r.val = r.val; omega
  | ⟨3, _⟩ => show o + 1 * j.val = o + j.val; omega
/-- a group's weights; -/
theorem ld_weights (g : Nat) (hg : g < 4) (inb : ∀ a, (![0, g, 0, 0] : Fin 4 → Nat) a + (![1, 1, 512, 512] : Fin 4 → Nat) a ≤ S1x4x512x512.size a)
    (k j : Fin 512) : View.ld x1 (Rect.unit (s := S1x4x512x512) ![0, g, 0, 0] ![1, 1, 512, 512] inb) (ix4 0 0 k j) = x1 (ix4 0 ⟨g, hg⟩ k j) := by
  refine congrArg x1 (funext fun a => Fin.ext ?_)
  match a with
  | ⟨0, _⟩ => rfl
  | ⟨1, _⟩ => rfl
  | ⟨2, _⟩ => show 0 + 1 * k.val = k.val; omega
  | ⟨3, _⟩ => show 0 + 1 * j.val = j.val; omega
/-- and its scale. -/
theorem ld_scale (o : Nat) (ho : o + 512 ≤ 2048) (inb : ∀ a, (![0, 0, o] : Fin 3 → Nat) a + (![1, 1, 512] : Fin 3 → Nat) a ≤ S1x1x2048.size a)
    (j : Fin 512) : View.ld x2 (Rect.unit (s := S1x1x2048) ![0, 0, o] ![1, 1, 512] inb) (ix3 0 0 j) = x2 (ix3 0 0 ⟨o + j.val, by omega⟩) := by
  refine congrArg x2 (funext fun a => Fin.ext ?_)
  match a with
  | ⟨0, _⟩ => rfl
  | ⟨1, _⟩ => rfl
  | ⟨2, _⟩ => show o + 1 * j.val = o + j.val; omega

/-- The pooled value at a column of a group. -/
theorem pool_at (g o : Nat) (ho : o = 512 * g) (hg : g < 4) (r : Fin 32) (j : Fin 512) :
    pool x0 x5 (ix2 r ⟨o + j.val, by omega⟩)
      = pooled g (x0 (ix2 r ⟨o + j.val, by omega⟩)) (fun k => x5 (ix4 0 k r ⟨o + j.val, by omega⟩)) := by
  have e : (o + j.val) / 512 = g := by omega
  show pooled ((o + j.val) / 512) _ _ = _
  rw [e]
  rfl

/-- A group's pooled values, as the body computes them from fifteen rows of the buffer: the first group's, -/
theorem sum_0 (b : Fin 15 → Vec Ideal S1x1x32x512 .f32) (r : Fin 32) (j : Fin 512) :
    k0_pay18 (F := Ideal) x0 (b 14) (ix2 r j)
      = pooled 0 (x0 (ix2 r ⟨0 + j.val, by omega⟩)) (fun k => b k (ix4 0 0 r j)) := by
  rw [pooled_0]
  pointwise [k0_pay18]
/-- the second's, -/
theorem sum_1 (b : Fin 15 → Vec Ideal S1x1x32x512 .f32) (r : Fin 32) (j : Fin 512) :
    k0_pay21 (F := Ideal) (k0_pay19 x0) (k0_pay20 x0 (b 14)) (b 13) (b 12) (ix2 r j)
      = pooled 1 (x0 (ix2 r ⟨512 + j.val, by omega⟩)) (fun k => b k (ix4 0 0 r j)) := by
  rw [pooled_1]
  pointwise [k0_pay21, k0_pay20, k0_pay19]
/-- the third's -/
theorem sum_2 (b : Fin 15 → Vec Ideal S1x1x32x512 .f32) (r : Fin 32) (j : Fin 512) :
    k0_pay24 (F := Ideal) (k0_pay22 x0) (k0_pay23 x0 (b 14) (b 13) (b 12) (b 11) (b 10)) (b 9) (b 8) (ix2 r j)
      = pooled 2 (x0 (ix2 r ⟨1024 + j.val, by omega⟩)) (fun k => b k (ix4 0 0 r j)) := by
  rw [pooled_2]
  pointwise [k0_pay24, k0_pay23, k0_pay22]
/-- and the fourth's. -/
theorem sum_3 (b : Fin 15 → Vec Ideal S1x1x32x512 .f32) (r : Fin 32) (j : Fin 512) :
    k0_pay28 (F := Ideal) (k0_pay25 x0) (k0_pay27 (k0_pay26 x0 (b 14) (b 13) (b 12) (b 11) (b 10)) (b 9) (b 8) (b 7) (b 6) (b 5) (b 4) (b 3) (b 2) (b 1)) (b 0) (ix2 r j)
      = pooled 3 (x0 (ix2 r ⟨1536 + j.val, by omega⟩)) (fun k => b k (ix4 0 0 r j)) := by
  rw [pooled_3]
  pointwise [k0_pay28, k0_pay27, k0_pay26, k0_pay25]

/-- Row `k` of the buffer's block at the group of columns that starts at `o`. -/
def row (o : Nat) (ho : o + 512 ≤ 2048) (k : Fin 15) : Vec Ideal S1x1x32x512 .f32 :=
  View.ld x5 (Rect.unit (s := S1x15x32x2048) ![0, k.val, 0, o] ![1, 1, 32, 512]
    (fun a => match a with | 0 => (by decide : 0 + 1 ≤ 1) | 1 => (by have := k.isLt; show k.val + 1 ≤ 15; omega) | 2 => (by decide : 0 + 32 ≤ 32) | 3 => ho))

/-- So what the body keeps for a group is the block's pooled values at the group's columns, -/
theorem kept_0 (r : Fin 32) (j : Fin 512) :
    k0_pay18 (F := Ideal) x0 (row x5 0 (by decide) 14) (ix2 r j)
      = pool x0 x5 (ix2 r ⟨0 + j.val, by omega⟩) := by
  rw [pool_at x0 x5 0 0 rfl (by decide)]
  exact (sum_0 x0 (row x5 0 (by decide)) r j).trans (congrArg (pooled 0 _) (funext fun k => ld_row x5 k.val 0 k.isLt (by decide) _ r j))
theorem kept_1 (r : Fin 32) (j : Fin 512) :
    k0_pay21 (F := Ideal) (k0_pay19 x0) (k0_pay20 x0 (row x5 512 (by decide) 14)) (row x5 512 (by decide) 13) (row x5 512 (by decide) 12) (ix2 r j)
      = pool x0 x5 (ix2 r ⟨512 + j.val, by omega⟩) := by
  rw [pool_at x0 x5 1 512 rfl (by decide)]
  exact (sum_1 x0 (row x5 512 (by decide)) r j).trans (congrArg (pooled 1 _) (funext fun k => ld_row x5 k.val 512 k.isLt (by decide) _ r j))
theorem kept_2 (r : Fin 32) (j : Fin 512) :
    k0_pay24 (F := Ideal) (k0_pay22 x0) (k0_pay23 x0 (row x5 1024 (by decide) 14) (row x5 1024 (by decide) 13) (row x5 1024 (by decide) 12) (row x5 1024 (by decide) 11) (row x5 1024 (by decide) 10)) (row x5 1024 (by decide) 9) (row x5 1024 (by decide) 8) (ix2 r j)
      = pool x0 x5 (ix2 r ⟨1024 + j.val, by omega⟩) := by
  rw [pool_at x0 x5 2 1024 rfl (by decide)]
  exact (sum_2 x0 (row x5 1024 (by decide)) r j).trans (congrArg (pooled 2 _) (funext fun k => ld_row x5 k.val 1024 k.isLt (by decide) _ r j))
theorem kept_3 (r : Fin 32) (j : Fin 512) :
    k0_pay28 (F := Ideal) (k0_pay25 x0) (k0_pay27 (k0_pay26 x0 (row x5 1536 (by decide) 14) (row x5 1536 (by decide) 13) (row x5 1536 (by decide) 12) (row x5 1536 (by decide) 11) (row x5 1536 (by decide) 10)) (row x5 1536 (by decide) 9) (row x5 1536 (by decide) 8) (row x5 1536 (by decide) 7) (row x5 1536 (by decide) 6) (row x5 1536 (by decide) 5) (row x5 1536 (by decide) 4) (row x5 1536 (by decide) 3) (row x5 1536 (by decide) 2) (row x5 1536 (by decide) 1)) (row x5 1536 (by decide) 0) (ix2 r j)
      = pool x0 x5 (ix2 r ⟨1536 + j.val, by omega⟩) := by
  rw [pool_at x0 x5 3 1536 rfl (by decide)]
  exact (sum_3 x0 (row x5 1536 (by decide)) r j).trans (congrArg (pooled 3 _) (funext fun k => ld_row x5 k.val 1536 k.isLt (by decide) _ r j))

/-- The two axes of a group's place in the block. -/
theorem emb_cols (o : Nat) (ho : o + 512 ≤ 2048) (inb : ∀ a, (![0, o] : Fin 2 → Nat) a + (![32, 512] : Fin 2 → Nat) a ≤ S32x2048.size a)
    (r : Fin 32) (j : Fin 512) : (Rect.unit (s := S32x2048) ![0, o] ![32, 512] inb).emb (ix2 r j) = ix2 r ⟨o + j.val, by omega⟩ := by
  refine funext fun a => Fin.ext ?_
  match a with
  | ⟨0, _⟩ => show 0 + 1 * r.val = r.val; omega
  | ⟨1, _⟩ => show o + 1 * j.val = o + j.val; omega

/-- and what it then stores over them is the group's projection. -/
theorem project (g o : Nat) (ho : o = 512 * g) (hg : g < 4) (p : Vec Ideal S32x512 .bf16)
    (hp : ∀ (r : Fin 32) (k : Fin 512), p (ix2 r k) = pool x0 x5 (ix2 r ⟨o + k.val, by omega⟩))
    (w : Vec Ideal S1x1x512x512 .bf16) (hw : ∀ k j : Fin 512, w (ix4 0 0 k j) = x1 (ix4 0 ⟨g, hg⟩ k j))
    (s : Vec Ideal S1x1x512 .f32) (hs : ∀ j : Fin 512, s (ix3 0 0 j) = x2 (ix3 0 0 ⟨o + j.val, by omega⟩))
    (inb : ∀ a, (![0, o] : Fin 2 → Nat) a + (![32, 512] : Fin 2 → Nat) a ≤ S32x2048.size a) (x : S32x512.Idx) :
    k0_pay29 (F := Ideal) p w s x = projected x0 x1 x2 x5 ((Rect.unit (s := S32x2048) ![0, o] ![32, 512] inb).emb x) := by
  obtain ⟨r, j, rfl⟩ : ∃ (r : Fin 32) (j : Fin 512), x = ix2 r j := ⟨x 0, x 1, eq_ix2 x⟩
  rw [emb_cols o (by omega)]
  have e : k0_pay29 (F := Ideal) p w s (ix2 r j) = (∑ k : Fin 512, p (ix2 r k) * w (ix4 0 0 k j)) * s (ix3 0 0 j) := by
    pointwise [k0_pay29]
  rw [e, hs]
  refine congrArg (· * _) (Finset.sum_congr rfl fun k _ => ?_)
  rw [hp, hw]
  have h1 : (o + j.val) / 512 = g := by omega
  have h2 : (o + j.val) % 512 = j.val := by omega
  refine congrArg₂ (· * ·) (congrArg (pool x0 x5) (congrArg (ix2 r) (Fin.ext ?_))) (congrArg x1 ?_)
  · show o + k.val = (o + j.val) / 512 * 512 + k.val
    omega
  · exact congrArg₂ (fun (a : Fin 4) (b : Fin 512) => (ix4 0 a k b : S1x4x512x512.Idx)) (Fin.ext h1.symm) (Fin.ext h2.symm)

/-- The gate's product, once the scratch holds the projected values. -/
theorem pay_gate (y : Vec Ideal S32x2048 .bf16) (hy : y = projected x0 x1 x2 x5) : k0_pay1 (F := Ideal) x4 y x3 = gated x0 x1 x2 x3 x4 x5 := by
  subst hy
  funext y
  obtain ⟨r, j, rfl⟩ : ∃ (r : Fin 32) (j : Fin 2048), y = ix2 r j := ⟨y 0, y 1, eq_ix2 y⟩
  unfold gated
  generalize projected x0 x1 x2 x5 = z
  pointwise [k0_pay1]

/-- A row of the new buffer that moves up, and the newest row. -/
theorem move_row (k : Nat) (hk : 1 + k < 15) (inb : ∀ a, (![0, 1 + k, 0, 0] : Fin 4 → Nat) a + (![1, 1, 32, 2048] : Fin 4 → Nat) a ≤ S1x15x32x2048.size a)
    (inb' : ∀ a, (![0, k, 0, 0] : Fin 4 → Nat) a + (![1, 1, 32, 2048] : Fin 4 → Nat) a ≤ S1x15x32x2048.size a) (x : S1x1x32x2048.Idx) :
    k0_pay2 (F := Ideal) (View.ld x5 (Rect.unit (s := S1x15x32x2048) ![0, 1 + k, 0, 0] ![1, 1, 32, 2048] inb)) x
      = shifted x0 x5 ((Rect.unit (s := S1x15x32x2048) ![0, k, 0, 0] ![1, 1, 32, 2048] inb').emb x) := by
  obtain ⟨a, b, r, j, rfl⟩ : ∃ (a b : Fin 1) (r : Fin 32) (j : Fin 2048), x = ix4 a b r j := ⟨x 0, x 1, x 2, x 3, eq_ix4 x⟩
  obtain rfl : a = 0 := Subsingleton.elim _ _
  obtain rfl : b = 0 := Subsingleton.elim _ _
  have e : (Rect.unit (s := S1x15x32x2048) ![0, k, 0, 0] ![1, 1, 32, 2048] inb').emb (ix4 0 0 r j) = ix4 0 ⟨k, by omega⟩ r j := by
    refine funext fun a => Fin.ext ?_
    match a with
    | ⟨0, _⟩ => rfl
    | ⟨1, _⟩ => rfl
    | ⟨2, _⟩ => show 0 + 1 * r.val = r.val; omega
    | ⟨3, _⟩ => show 0 + 1 * j.val = j.val; omega
  have e' : View.ld x5 (Rect.unit (s := S1x15x32x2048) ![0, 1 + k, 0, 0] ![1, 1, 32, 2048] inb) (ix4 0 0 r j) = x5 (ix4 0 ⟨1 + k, hk⟩ r j) := by
    refine congrArg x5 (funext fun a => Fin.ext ?_)
    match a with
    | ⟨0, _⟩ => rfl
    | ⟨1, _⟩ => rfl
    | ⟨2, _⟩ => show 0 + 1 * r.val = r.val; omega
    | ⟨3, _⟩ => show 0 + 1 * j.val = j.val; omega
  rw [e]
  generalize View.ld x5 (Rect.unit (s := S1x15x32x2048) ![0, 1 + k, 0, 0] ![1, 1, 32, 2048] inb) = w at e'
  have e2 : shifted x0 x5 (ix4 0 ⟨k, by omega⟩ r j) = x5 (ix4 0 ⟨1 + k, hk⟩ r j) := by
    show (if h : 1 + k < 15 then x5 (ix4 0 ⟨1 + k, h⟩ r j) else x0 (ix2 r j)) = _
    rw [dif_pos hk]
  refine Eq.trans ?_ (e'.trans e2.symm)
  pointwise [k0_pay2]
theorem new_row (inb : ∀ a, (![0, 14, 0, 0] : Fin 4 → Nat) a + (![1, 1, 32, 2048] : Fin 4 → Nat) a ≤ S1x15x32x2048.size a) (x : S1x1x32x2048.Idx) :
    k0_pay17 (F := Ideal) x0 x = shifted x0 x5 ((Rect.unit (s := S1x15x32x2048) ![0, 14, 0, 0] ![1, 1, 32, 2048] inb).emb x) := by
  obtain ⟨a, b, r, j, rfl⟩ : ∃ (a b : Fin 1) (r : Fin 32) (j : Fin 2048), x = ix4 a b r j := ⟨x 0, x 1, x 2, x 3, eq_ix4 x⟩
  obtain rfl : a = 0 := Subsingleton.elim _ _
  obtain rfl : b = 0 := Subsingleton.elim _ _
  have e : (Rect.unit (s := S1x15x32x2048) ![0, 14, 0, 0] ![1, 1, 32, 2048] inb).emb (ix4 0 0 r j) = ix4 0 14 r j := by
    refine funext fun a => Fin.ext ?_
    match a with
    | ⟨0, _⟩ => rfl
    | ⟨1, _⟩ => rfl
    | ⟨2, _⟩ => show 0 + 1 * r.val = r.val; omega
    | ⟨3, _⟩ => show 0 + 1 * j.val = j.val; omega
  rw [e]
  refine Eq.trans ?_ (dif_neg (c := 1 + 14 < 15) (by decide)).symm
  pointwise [k0_pay17]

variable (c : Dev nD) (i : grid0.Coords) (a1 : Memref sig .tc .vmem S32x2048 .f32) (h1 : a1.IsWhole) (a2 : Memref sig .tc .vmem S1x4x512x512 .bf16) (h2 : a2.IsWhole)
    (a3 : Memref sig .tc .vmem S1x1x2048 .f32) (h3 : a3.IsWhole) (a4 : Memref sig .tc .vmem S1x2048x2048 .bf16) (h4 : a4.IsWhole)
    (a5 : Memref sig .tc .vmem S32x2048 .bf16) (h5 : a5.IsWhole) (a6 : Memref sig .tc .vmem S1x15x32x2048 .f32) (h6 : a6.IsWhole)
    (a8 : Memref sig .tc .vmem S32x2048 .f32) (h8 : a8.IsWhole) (a9 : Memref sig .tc .vmem S1x15x32x2048 .f32) (h9 : a9.IsWhole)
    (a10 : Memref sig .tc .vmem S32x2048 .bf16) (h10 : a10.IsWhole)

/-- A point's first block, -/
theorem out_6 : out0_A_6 (F := Ideal) c i a1 h1 a2 h2 a3 h3 a4 h4 a5 h5 a6 h6 a8 h8 a9 h9 a10 h10 x0 x1 x2 x3 x4 x5 = gated x0 x1 x2 x3 x4 x5 := by
  unfold out0_A_6
  rw [View.read_writes_junk_eq_canon]
  unfold kernelRun0_A
  dsimp only
  sl_unfold_words
  simp only [View.readAt_eq_ld, h1.read_unread, h2.read_unread, h3.read_unread, h4.read_unread, h5.read_unread, h6.read_unread]
  simp (disch := decide) only [View.ld_unit_lit']
  simp (disch := decide) only [↓View.readCov_skip, View.readCov_fill, View.readCov_cons_toLoadRect]
  refine (View.canon_cons_unit_lit (Val := Elt Ideal) (S := S32x2048) (e := .f32) _ _ _ (by decide)).trans ?_
  refine pay_gate x0 x1 x2 x3 x4 x5 _ ?_
  rw [View.readCov_eq_canon']
  refine (View.ld_unit_lit (Val := Elt Ideal) (S := S32x2048) (e := .bf16) inb_S32x2048_S32x2048_0_0 (View.canon _) (by decide)).trans ?_
  funext y
  exact View.canon_append_of_piecesOf (Val := Elt Ideal) (e := .bf16) (projected x0 x1 x2 x5) [_, _, _, _] [_, _, _, _]
    ⟨project x0 x1 x2 x5 3 1536 (by decide) (by decide) _ (kept_3 x0 x5) _ (ld_weights x1 3 (by decide) inb_S1x4x512x512_S1x1x512x512_0_3_0_0) _
        (ld_scale x2 1536 (by decide) inb_S1x1x2048_S1x1x512_0_0_1536) inb_S32x2048_S32x512_0_1536,
      project x0 x1 x2 x5 2 1024 (by decide) (by decide) _ (kept_2 x0 x5) _ (ld_weights x1 2 (by decide) inb_S1x4x512x512_S1x1x512x512_0_2_0_0) _
        (ld_scale x2 1024 (by decide) inb_S1x1x2048_S1x1x512_0_0_1024) inb_S32x2048_S32x512_0_1024,
      project x0 x1 x2 x5 1 512 (by decide) (by decide) _ (kept_1 x0 x5) _ (ld_weights x1 1 (by decide) inb_S1x4x512x512_S1x1x512x512_0_1_0_0) _
        (ld_scale x2 512 (by decide) inb_S1x1x2048_S1x1x512_0_0_512) inb_S32x2048_S32x512_0_512,
      project x0 x1 x2 x5 0 0 (by decide) (by decide) _ (kept_0 x0 x5) _ (ld_weights x1 0 (by decide) inb_S1x4x512x512_S1x1x512x512_0_0_0_0) _
        (ld_scale x2 0 (by decide) inb_S1x1x2048_S1x1x512_0_0_0) inb_S32x2048_S32x512_0_0, trivial⟩ y
    (View.cover_of_tiledBy _ ![32, 512] (by sl_kernel_rfl) y)

/-- and its second. -/
theorem out_7 : out0_A_7 (F := Ideal) c i a1 h1 a2 h2 a3 h3 a4 h4 a5 h5 a6 h6 a8 h8 a9 h9 a10 h10 x0 x1 x2 x3 x4 x5 = shifted x0 x5 := by
  unfold out0_A_7
  rw [View.read_writes_junk_eq_canon]
  unfold kernelRun0_A
  dsimp only
  sl_unfold_words
  simp only [View.readAt_eq_ld, h1.read_unread, h2.read_unread, h3.read_unread, h4.read_unread, h5.read_unread, h6.read_unread]
  simp (disch := decide) only [View.ld_unit_lit']
  funext y
  exact View.canon_append_of_piecesOf (Val := Elt Ideal) (e := .f32) (shifted x0 x5) [] [_, _, _, _, _, _, _, _, _, _, _, _, _, _, _]
    ⟨new_row x0 x5 inb_S1x15x32x2048_S1x1x32x2048_0_14_0_0,
      move_row x0 x5 13 (by decide) inb_S1x15x32x2048_S1x1x32x2048_0_14_0_0 inb_S1x15x32x2048_S1x1x32x2048_0_13_0_0, move_row x0 x5 12 (by decide) inb_S1x15x32x2048_S1x1x32x2048_0_13_0_0 inb_S1x15x32x2048_S1x1x32x2048_0_12_0_0,
      move_row x0 x5 11 (by decide) inb_S1x15x32x2048_S1x1x32x2048_0_12_0_0 inb_S1x15x32x2048_S1x1x32x2048_0_11_0_0, move_row x0 x5 10 (by decide) inb_S1x15x32x2048_S1x1x32x2048_0_11_0_0 inb_S1x15x32x2048_S1x1x32x2048_0_10_0_0,
      move_row x0 x5 9 (by decide) inb_S1x15x32x2048_S1x1x32x2048_0_10_0_0 inb_S1x15x32x2048_S1x1x32x2048_0_9_0_0, move_row x0 x5 8 (by decide) inb_S1x15x32x2048_S1x1x32x2048_0_9_0_0 inb_S1x15x32x2048_S1x1x32x2048_0_8_0_0,
      move_row x0 x5 7 (by decide) inb_S1x15x32x2048_S1x1x32x2048_0_8_0_0 inb_S1x15x32x2048_S1x1x32x2048_0_7_0_0, move_row x0 x5 6 (by decide) inb_S1x15x32x2048_S1x1x32x2048_0_7_0_0 inb_S1x15x32x2048_S1x1x32x2048_0_6_0_0,
      move_row x0 x5 5 (by decide) inb_S1x15x32x2048_S1x1x32x2048_0_6_0_0 inb_S1x15x32x2048_S1x1x32x2048_0_5_0_0, move_row x0 x5 4 (by decide) inb_S1x15x32x2048_S1x1x32x2048_0_5_0_0 inb_S1x15x32x2048_S1x1x32x2048_0_4_0_0,
      move_row x0 x5 3 (by decide) inb_S1x15x32x2048_S1x1x32x2048_0_4_0_0 inb_S1x15x32x2048_S1x1x32x2048_0_3_0_0, move_row x0 x5 2 (by decide) inb_S1x15x32x2048_S1x1x32x2048_0_3_0_0 inb_S1x15x32x2048_S1x1x32x2048_0_2_0_0,
      move_row x0 x5 1 (by decide) inb_S1x15x32x2048_S1x1x32x2048_0_2_0_0 inb_S1x15x32x2048_S1x1x32x2048_0_1_0_0, move_row x0 x5 0 (by decide) inb_S1x15x32x2048_S1x1x32x2048_0_1_0_0 inb_S1x15x32x2048_S1x1x32x2048_0_0_0_0, trivial⟩ y
    (View.cover_of_tiledBy _ ![1, 1, 32, 2048] (by sl_kernel_rfl) y)

end Blocks

/-- The reference's pooled values at (r, j). -/
theorem ref_pool (x0 : (⟨2, ![128, 2048]⟩ : Shape).Idx → EReal) (x2 : (⟨4, ![4, 128, 15, 2048]⟩ : Shape).Idx → EReal) (r : Fin 128) (j : Fin 2048) :
   val_main_v21 (F := Ideal) x0 x2 (ix2 r j) = pooled (j.val / 512) (x0 (ix2 r j)) (fun k => x2 (ix4 0 r k j)) := by
  pointwise [val_main_v21, val_main_v20, val_main_v19, val_main_v18, val_main_cst_6, val_main_v17, val_main_cst_5, val_main_v16, val_main_v15, val_main_v14, val_main_cst_4, val_main_v13, val_main_cst_3, val_main_v12, val_main_v11, val_main_v10, val_main_cst_2, val_main_v9, val_main_cst_1, val_main_v8, val_main_v7, val_main_v6, val_main_cst_0, val_main_v5, val_main_cst, val_main_v4, val_main_v3, val_main_v2, val_main_v1, val_main_v0]
  unfold pooled
  by_cases h0 : j.val < 512
  · have g : j.val / 512 = 0 := by omega
    simp only [dif_pos h0, g]
    rfl
  by_cases h1 : j.val < 1024
  · have e : 512 + (j.val - 512) = j.val := by omega
    have g : j.val / 512 = 1 := by omega
    have d : j.val - 512 < 512 := by omega
    simp only [dif_neg h0, dif_pos d, e, g]
    rfl
  by_cases h2 : j.val < 1536
  · have e : 1024 + (j.val - 512 - 512) = j.val := by omega
    have g : j.val / 512 = 2 := by omega
    have d : ¬j.val - 512 < 512 := by omega
    have d' : j.val - 512 - 512 < 512 := by omega
    simp only [dif_neg h0, dif_neg d, dif_pos d', e, g]
    rfl
  · have e : 1536 + (j.val - 512 - 512 - 512) = j.val := by omega
    have g : j.val / 512 = 3 := by omega
    have d : ¬j.val - 512 < 512 := by omega
    have d' : ¬j.val - 512 - 512 < 512 := by omega
    simp only [dif_neg h0, dif_neg d, dif_neg d', e, g]
    simp only [meanOver, Fin.sum_univ_castSucc (n := 15)]
    simp

/-- A value of the pooling branch before its gate: the pooled columns `p`, each group of 512 through its weights `wg` and scaled by `sc`,
through a column `wo` of the output weights. -/
def branch (p : Fin 2048 → EReal) (wg : Fin 4 → Fin 512 → Fin 512 → EReal) (sc wo : Fin 2048 → EReal) : EReal :=
  ∑ q : Fin 2048, (∑ k : Fin 512, p ⟨q.val / 512 * 512 + k.val, by omega⟩ * wg ⟨q.val / 512, by omega⟩ k ⟨q.val % 512, by omega⟩) * sc q * wo q

/-- The reference's first result at (r, j), -/
theorem goal_apply (x0 : (⟨2, ![128, 2048]⟩ : Shape).Idx → EReal) (x1 : (⟨2, ![128, 4096]⟩ : Shape).Idx → EReal) (x2 : (⟨4, ![4, 128, 15, 2048]⟩ : Shape).Idx → EReal)
    (x3 : (⟨4, ![4, 4, 512, 512]⟩ : Shape).Idx → EReal) (x4 : (⟨2, ![4, 2048]⟩ : Shape).Idx → EReal) (x5 : (⟨3, ![4, 2048, 2048]⟩ : Shape).Idx → EReal)
    (r : Fin 128) (j : Fin 2048) :
    val_main_v43 (F := Ideal) x0 x1 x2 x3 x4 x5 (ix2 r j)
      = branch (fun q => pooled (q.val / 512) (x0 (ix2 r q)) (fun k => x2 (ix4 0 r k q))) (fun g k q => x3 (ix4 0 g k q)) (fun q => x4 (ix2 0 q))
          (fun q => x5 (ix3 0 q j)) * x1 (ix2 r ⟨j.val, by omega⟩) := by
  have e : val_main_v43 (F := Ideal) x0 x1 x2 x3 x4 x5 (ix2 r j)
      = x1 (ix2 r ⟨j.val, by omega⟩) * ∑ q : Fin 2048, (∑ k : Fin 512, x3 (ix4 0 ⟨q.val / 512, by omega⟩ k ⟨q.val % 512, by omega⟩)
          * val_main_v21 (F := Ideal) x0 x2 (ix2 r ⟨q.val / 512 * 512 + k.val, by omega⟩)) * x4 (ix2 0 q) * x5 (ix3 0 q j) := by
    pointwise [val_main_v43, val_main_v42, val_main_v41, val_main_v35, val_main_v34, val_main_v33, val_main_v32, val_main_v31, val_main_v30, val_main_v29, val_main_v28, val_main_v27, val_main_v26, val_main_v25, val_main_v24, val_main_v23, val_main_v22]
  rw [e, mul_comm]
  refine congrArg (· * _) (Finset.sum_congr rfl fun q _ => congrArg (· * _ * _) (Finset.sum_congr rfl fun k _ => ?_))
  rw [ref_pool, mul_comm]

/-- and its second at (l, k, r, j). -/
theorem state_apply (x0 : (⟨2, ![128, 2048]⟩ : Shape).Idx → EReal) (x2 : (⟨4, ![4, 128, 15, 2048]⟩ : Shape).Idx → EReal)
    (l : Fin 4) (k : Fin 15) (r : Fin 128) (j : Fin 2048) :
    val_main_v40 (F := Ideal) x0 x2 (ix4 l k r j)
      = if l.val < 1 then (if h : 1 + k.val < 15 then x2 (ix4 0 r ⟨1 + k.val, h⟩ j) else x0 (ix2 r j)) else 0 := by
  pointwise [val_main_v40, val_main_v39, val_main_cst_7, val_main_v38, val_main_v37, val_main_v36, val_main_v3, val_main_v2, val_main_v1, val_main_v0]
  by_cases hl : l.val < 1
  · rw [dif_pos hl, if_pos hl]
  · rw [dif_neg hl, if_neg hl]

variable (m : (ℓ : Loc nD τ sig) → Buf (Elt Ideal) ℓ) (ρ : Dev nD → PrngReg)

/-- Device `c`'s arguments as launched: the rows, their gates, the stacked buffers of past rows, the stacked group weights, scales and output weights. -/
abbrev arg0 (c : Dev nD) : (⟨2, ![128, 2048]⟩ : Shape).Idx → EReal := m ((c : Thread nD τ).loc main_arg0)
abbrev arg1 (c : Dev nD) : (⟨2, ![128, 4096]⟩ : Shape).Idx → EReal := m ((c : Thread nD τ).loc main_arg1)
abbrev arg2 (c : Dev nD) : (⟨4, ![4, 128, 15, 2048]⟩ : Shape).Idx → EReal := m ((c : Thread nD τ).loc main_arg2)
abbrev arg3 (c : Dev nD) : (⟨4, ![4, 4, 512, 512]⟩ : Shape).Idx → EReal := m ((c : Thread nD τ).loc main_arg3)
abbrev arg4 (c : Dev nD) : (⟨2, ![4, 2048]⟩ : Shape).Idx → EReal := m ((c : Thread nD τ).loc main_arg4)
abbrev arg5 (c : Dev nD) : (⟨3, ![4, 2048, 2048]⟩ : Shape).Idx → EReal := m ((c : Thread nD τ).loc main_arg5)

/-- What the reference computes from device `c`'s arguments: the gated rows and the new stack of buffers. -/
abbrev goal6 (c : Dev nD) : (⟨2, ![128, 2048]⟩ : Shape).Idx → EReal :=
  val_main_v43 (F := Ideal) (arg0 m c) (arg1 m c) (arg2 m c) (arg3 m c) (arg4 m c) (arg5 m c)
abbrev goal7 (c : Dev nD) : (⟨4, ![4, 15, 128, 2048]⟩ : Shape).Idx → EReal := val_main_v40 (F := Ideal) (arg0 m c) (arg2 m c)

/-- The region finds the two weights in its operands, -/
theorem V_1 (c : Dev nD) : V m c main_v1 = arg3 m c := by
  unfold V hostOps0
  after_results
  rfl
theorem V_3 (c : Dev nD) : V m c main_v3 = arg5 m c := by
  unfold V hostOps0
  after_results
  rfl

/-- the scale as one row per layer, the buffers with their rows first, -/
theorem V_2 (c : Dev nD) (l : Fin 4) (j : Fin 2048) : V m c main_v2 (ix3 l 0 j) = arg4 m c (ix2 l j) := by
  have e : V m c main_v2 = shapeCast S4x1x2048 (arg4 m c) shapeCasts_S4x2048_S4x1x2048 := by
    unfold V hostOps0
    after_results
    rfl
  rw [e]
  pointwise
theorem V_0 (c : Dev nD) (l : Fin 4) (k : Fin 15) (r : Fin 128) (j : Fin 2048) : V m c main_v0 (ix4 l k r j) = arg2 m c (ix4 l r k j) := by
  have e : V m c main_v0 = transpose S4x15x128x2048 [0, 2, 1, 3] (arg2 m c) transposes_S4x128x15x2048_S4x15x128x2048_0_2_1_3 := by
    unfold V hostOps0
    after_results
  rw [e]
  pointwise

/-- and zeros where the new buffers go. -/
theorem V_new (c : Dev nD) (i : S4x15x128x2048.Idx) : V m c main_v5_1 i = (0 : EReal) := by
  have e : V m c main_v5_1 = broadcastInDim S4x15x128x2048 ![] bcast_S_S4x15x128x2048 (constant (F := Ideal) S_ .f32 0x00000000#32) := by
    unfold V hostOps0
    after_results
    rfl
  obtain ⟨l, k, r, j, rfl⟩ : ∃ (l : Fin 4) (k : Fin 15) (r : Fin 128) (j : Fin 2048), i = ix4 l k r j := ⟨i 0, i 1, i 2, i 3, eq_ix4 i⟩
  rw [e]
  pointwise

/-- Where point `t`'s blocks lie: each point takes the next 32 rows, -/
theorem atRows : ∀ t : Fin cfg0.N, (win0_0.index t 0 = t.val ∧ win0_0.index t 1 = 0) ∧ (win0_4.index t 0 = t.val ∧ win0_4.index t 1 = 0)
    ∧ (win0_6.index t 0 = t.val ∧ win0_6.index t 1 = 0) :=
  (by decide +kernel : ∀ t : Fin grid0.N, (win0_0.index t 0 = t.val ∧ win0_0.index t 1 = 0) ∧ (win0_4.index t 0 = t.val ∧ win0_4.index t 1 = 0)
    ∧ (win0_6.index t 0 = t.val ∧ win0_6.index t 1 = 0))
/-- of the first layer's buffer -/
theorem atStates : ∀ t : Fin cfg0.N, (win0_5.index t 0 = 0 ∧ win0_5.index t 1 = 0 ∧ win0_5.index t 2 = t.val ∧ win0_5.index t 3 = 0)
    ∧ (win0_7.index t 0 = 0 ∧ win0_7.index t 1 = 0 ∧ win0_7.index t 2 = t.val ∧ win0_7.index t 3 = 0) :=
  (by decide +kernel : ∀ t : Fin grid0.N, (win0_5.index t 0 = 0 ∧ win0_5.index t 1 = 0 ∧ win0_5.index t 2 = t.val ∧ win0_5.index t 3 = 0)
    ∧ (win0_7.index t 0 = 0 ∧ win0_7.index t 1 = 0 ∧ win0_7.index t 2 = t.val ∧ win0_7.index t 3 = 0))
/-- and the whole of the first layer's weights and scale. -/
theorem atWeights : ∀ t : Fin cfg0.N, (∀ a, win0_1.index t a = 0) ∧ (∀ a, win0_2.index t a = 0) ∧ ∀ a, win0_3.index t a = 0 :=
  (by decide +kernel : ∀ t : Fin grid0.N, (∀ a, win0_1.index t a = 0) ∧ (∀ a, win0_2.index t a = 0) ∧ ∀ a, win0_3.index t a = 0)
/-- Every point writes its two blocks back. -/
theorem flushes : ∀ t : Fin cfg0.N, (cfg0.win 6).flush t = true ∧ (cfg0.win 7).flush t = true :=
  (by decide +kernel : ∀ t : Fin grid0.N, (cfg0.win 6).flush t = true ∧ (cfg0.win 7).flush t = true)

theorem lt_N (t : Fin cfg0.N) : t.val < 4 := by have := t.isLt; have hN : cfg0.N = 4 := N_0; omega

/-- Row `r` of point `t`'s blocks is this row of the arrays. -/
abbrev rowOf (t : Fin cfg0.N) (r : Fin 32) : Fin 128 := ⟨t.val * 32 + r.val, by have := lt_N t; omega⟩

/-- Each operand's block at point `t`, read at an index. -/
theorem blk0 (c : Dev nD) (t : Fin cfg0.N) (r : Fin 32) (k : Fin 2048) : iblk m c 0 t (ix2 r k) = arg0 m c (ix2 (rowOf t r) k) := by
  show V m c main_arg0 ((win0_0.rect t).emb (ix2 r k)) = _
  rw [V_main_arg0]
  refine congrArg (arg0 m c) (funext fun a => Fin.ext ((win0_0.rect_emb_val t (ix2 r k) a).trans ?_))
  match a with
  | ⟨0, _⟩ => show win0_0.index t 0 * 32 + r.val = _; rw [(atRows t).1.1]; rfl
  | ⟨1, _⟩ => show win0_0.index t 1 * 2048 + k.val = k.val; rw [(atRows t).1.2]; omega
theorem blk1 (c : Dev nD) (t : Fin cfg0.N) (g : Fin 4) (k j : Fin 512) : iblk m c 1 t (ix4 0 g k j) = arg3 m c (ix4 0 g k j) := by
  rw [← V_1]
  show V m c main_v1 ((win0_1.rect t).emb (ix4 0 g k j)) = _
  refine congrArg (V m c main_v1) (funext fun a => Fin.ext ((win0_1.rect_emb_val_of_index_zero t a ((atWeights t).1 a) (ix4 0 g k j)).trans ?_))
  match a with
  | ⟨0, _⟩ => rfl
  | ⟨1, _⟩ => rfl
  | ⟨2, _⟩ => rfl
  | ⟨3, _⟩ => rfl
theorem blk2 (c : Dev nD) (t : Fin cfg0.N) (j : Fin 2048) : iblk m c 2 t (ix3 0 0 j) = arg4 m c (ix2 0 j) := by
  rw [← V_2]
  show V m c main_v2 ((win0_2.rect t).emb (ix3 0 0 j)) = _
  refine congrArg (V m c main_v2) (funext fun a => Fin.ext ((win0_2.rect_emb_val_of_index_zero t a ((atWeights t).2.1 a) (ix3 0 0 j)).trans ?_))
  match a with
  | ⟨0, _⟩ => rfl
  | ⟨1, _⟩ => rfl
  | ⟨2, _⟩ => rfl
theorem blk3 (c : Dev nD) (t : Fin cfg0.N) (k j : Fin 2048) : iblk m c 3 t (ix3 0 k j) = arg5 m c (ix3 0 k j) := by
  rw [← V_3]
  show V m c main_v3 ((win0_3.rect t).emb (ix3 0 k j)) = _
  refine congrArg (V m c main_v3) (funext fun a => Fin.ext ((win0_3.rect_emb_val_of_index_zero t a ((atWeights t).2.2 a) (ix3 0 k j)).trans ?_))
  match a with
  | ⟨0, _⟩ => rfl
  | ⟨1, _⟩ => rfl
  | ⟨2, _⟩ => rfl
theorem blk4 (c : Dev nD) (t : Fin cfg0.N) (r : Fin 32) (k : Fin 2048) : iblk m c 4 t (ix2 r k) = arg1 m c (ix2 (rowOf t r) ⟨k.val, by omega⟩) := by
  show V m c main_arg1 ((win0_4.rect t).emb (ix2 r k)) = _
  rw [V_main_arg1]
  refine congrArg (arg1 m c) (funext fun a => Fin.ext ((win0_4.rect_emb_val t (ix2 r k) a).trans ?_))
  match a with
  | ⟨0, _⟩ => show win0_4.index t 0 * 32 + r.val = _; rw [(atRows t).2.1.1]; rfl
  | ⟨1, _⟩ => show win0_4.index t 1 * 2048 + k.val = k.val; rw [(atRows t).2.1.2]; omega
theorem blk5 (c : Dev nD) (t : Fin cfg0.N) (k : Fin 15) (r : Fin 32) (j : Fin 2048) :
    iblk m c 5 t (ix4 0 k r j) = arg2 m c (ix4 0 (rowOf t r) k j) := by
  rw [← V_0]
  show V m c main_v0 ((win0_5.rect t).emb (ix4 0 k r j)) = _
  refine congrArg (V m c main_v0) (funext fun a => Fin.ext ((win0_5.rect_emb_val t (ix4 0 k r j) a).trans ?_))
  match a with
  | ⟨0, _⟩ => show win0_5.index t 0 * 1 + 0 = 0; rw [(atStates t).1.1]
  | ⟨1, _⟩ => show win0_5.index t 1 * 15 + k.val = k.val; rw [(atStates t).1.2.1]; omega
  | ⟨2, _⟩ => show win0_5.index t 2 * 32 + r.val = _; rw [(atStates t).1.2.2.1]; rfl
  | ⟨3, _⟩ => show win0_5.index t 3 * 2048 + j.val = j.val; rw [(atStates t).1.2.2.2]; omega

/-- What a point writes back to the first result is its block of the reference. -/
theorem flushed_eq6 (c : Dev nD) (t : Fin cfg0.N) (hf : (cfg0.win 6).flush t = true) :
    (dats m 0 c).flushed 6 t = (win0_6.blk t).view.read (Elt Ideal) (goal6 m c) := by
  rw [Value.flushed6_A m c t, out_6]
  funext y
  obtain ⟨r, j, rfl⟩ : ∃ (r : Fin 32) (j : Fin 2048), y = ix2 r j := ⟨y 0, y 1, eq_ix2 y⟩
  have e : (win0_6.rect t).emb (ix2 r j) = ix2 (rowOf t r) j := by
    refine funext fun a => Fin.ext ((win0_6.rect_emb_val t (ix2 r j) a).trans ?_)
    match a with
    | ⟨0, _⟩ => show win0_6.index t 0 * 32 + r.val = _; rw [(atRows t).2.2.1]; rfl
    | ⟨1, _⟩ => show win0_6.index t 1 * 2048 + j.val = j.val; rw [(atRows t).2.2.2]; omega
  refine Eq.trans ?_ ((goal_apply _ _ _ _ _ _ (rowOf t r) j).symm.trans (congrArg (goal6 m c) e.symm))
  show branch (fun q => pooled (q.val / 512) (iblk m c 0 t (ix2 r q)) (fun k => iblk m c 5 t (ix4 0 k r q))) (fun g k q => iblk m c 1 t (ix4 0 g k q))
    (fun q => iblk m c 2 t (ix3 0 0 q)) (fun q => iblk m c 3 t (ix3 0 q j)) * iblk m c 4 t (ix2 r j) = _
  simp only [blk0, blk1, blk2, blk3, blk4, blk5]

/-- The blocks written back tile that array. -/
theorem cover6 (i : S128x2048.Idx) : ∃ t : Fin cfg0.N, (cfg0.win 6).flush t = true ∧ i ∈ ((cfg0.win 6).blk t).view.set := by
  have h0 : (i 0 : Nat) < 128 := (i 0).isLt
  have h1 : (i 1 : Nat) < 2048 := (i 1).isLt
  have hN : cfg0.N = 4 := N_0
  obtain ⟨t, ht⟩ : ∃ t : Fin cfg0.N, t.val = (i 0 : Nat) / 32 := ⟨⟨(i 0 : Nat) / 32, by rw [hN]; omega⟩, rfl⟩
  refine ⟨t, (flushes t).1, ?_⟩
  show i ∈ ((View.whole main_v5_0).slice (win0_6.rect t)).set
  rw [View.set_slice_whole, Rect.mem_set_unit]
  intro a
  match a with
  | ⟨0, _⟩ => show win0_6.index t 0 * 32 ≤ (i 0 : Nat) ∧ (i 0 : Nat) < win0_6.index t 0 * 32 + 32; rw [(atRows t).2.2.1]; omega
  | ⟨1, _⟩ => show win0_6.index t 1 * 2048 ≤ (i 1 : Nat) ∧ (i 1 : Nat) < win0_6.index t 1 * 2048 + 2048; rw [(atRows t).2.2.2]; omega

/-- Where point `t`'s block of the new buffers lies: in the first layer, at the point's rows. -/
theorem emb7 (t : Fin cfg0.N) (l : Fin 1) (k : Fin 15) (r : Fin 32) (j : Fin 2048) :
    (win0_7.rect t).emb (ix4 l k r j) = ix4 0 k (rowOf t r) j := by
  refine funext fun a => Fin.ext ((win0_7.rect_emb_val t (ix4 l k r j) a).trans ?_)
  match a with
  | ⟨0, _⟩ => show win0_7.index t 0 * 1 + l.val = 0; rw [(atStates t).2.1]; omega
  | ⟨1, _⟩ => show win0_7.index t 1 * 15 + k.val = k.val; rw [(atStates t).2.2.1]; omega
  | ⟨2, _⟩ => show win0_7.index t 2 * 32 + r.val = _; rw [(atStates t).2.2.2.1]; rfl
  | ⟨3, _⟩ => show win0_7.index t 3 * 2048 + j.val = j.val; rw [(atStates t).2.2.2.2]; omega

/-- What a point writes back there is the reference's. -/
theorem flushed_eq7 (c : Dev nD) (t : Fin cfg0.N) (k : Fin 15) (r : Fin 32) (j : Fin 2048) :
    (dats m 0 c).flushed 7 t (ix4 0 k r j) = goal7 m c (ix4 0 k (rowOf t r) j) := by
  rw [Value.flushed7_A m c t, out_7]
  refine Eq.trans ?_ (state_apply _ _ 0 k (rowOf t r) j).symm
  show (if h : 1 + k.val < 15 then iblk m c 5 t (ix4 0 ⟨1 + k.val, h⟩ r j) else iblk m c 0 t (ix2 r j)) = _
  simp only [blk0, blk5]
  rfl

/-- The new buffers after the run: the points' blocks in the first layer, the zeros it started from in the others. -/
theorem state_eq (c : Dev nD) : (dats m 0 c).arrAt 7 cfg0.N = goal7 m c := by
  have hN : cfg0.N = 4 := N_0
  funext i
  obtain ⟨l, k, r, j, rfl⟩ : ∃ (l : Fin 4) (k : Fin 15) (r : Fin 128) (j : Fin 2048), i = ix4 l k r j := ⟨i 0, i 1, i 2, i 3, eq_ix4 i⟩
  by_cases hl : l.val < 1
  · obtain ⟨t, ht⟩ : ∃ t : Fin cfg0.N, t.val = r.val / 32 := ⟨⟨r.val / 32, by rw [hN]; omega⟩, rfl⟩
    obtain ⟨r', hr⟩ : ∃ r' : Fin 32, r'.val = r.val % 32 := ⟨⟨r.val % 32, by omega⟩, rfl⟩
    obtain rfl : l = 0 := Fin.ext (by show l.val = 0; omega)
    obtain rfl : r = rowOf t r' := Fin.ext (by show r.val = t.val * 32 + r'.val; omega)
    refine Eq.trans ?_ (flushed_eq7 m c t k r' j)
    rw [← Value.blocks7 m c t (flushes t).2]
    exact congrArg ((dats m 0 c).arrAt 7 cfg0.N) (emb7 t 0 k r' j).symm
  · refine (Value.entry7 m c _ fun t _ hmem => ?_).trans ((V_new m c _).trans ?_)
    · have h : ix4 l k r j ∈ ((View.whole main_v5_1).slice (win0_7.rect t)).set := hmem
      rw [View.set_slice_whole, Rect.mem_set_unit] at h
      have h0 : l.val < win0_7.index t 0 * 1 + 1 := (h 0).2
      rw [(atStates t).2.1] at h0
      omega
    · rw [show goal7 m c (ix4 l k r j) = _ from state_apply _ _ l k r j, if_neg hl]

/-- The run, read: the result arrays hold the reference's of the arguments, which are as launched. -/
theorem run : θ_run defs (onTc (τ := τ) (main (F := Ideal))) ⟨m, fun _ => 0, ρ⟩ fun r => ∀ c : Dev nD,
      r.2.mem ((c : Thread nD τ).loc main_v5_0) = goal6 m c
      ∧ r.2.mem ((c : Thread nD τ).loc main_v5_1) = goal7 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans ((dats m 0 c).arrAt_eq_of_cover 6 (goal6 m c) (flushed_eq6 m c) cover6),
      (h c).2.1.trans (state_eq m c), (h c).2.2⟩)
    (Value.run_blocks m ρ)

/-- The reference leaves its arguments as launched and every semaphore counter at zero. -/
theorem ref_frame : Cert.quiescent_PoolSampleRefIdeal := fun m ρ _ =>
  (θ_run Cert.PoolSampleRefIdeal.defs _ _).mono
    (fun r h => ⟨fun c => (h c).2.2, Idealize.ShloMosaic.sem_eq_zero_of_no_sems (by decide) r.2⟩)
    (Cert.PoolSampleRefIdeal.Value.run m ρ)

/-- From equal arguments the kernel and the reference end with equal results. -/
theorem agrees : Cert.algebraic_PoolSampleIdeal_PoolSampleRefIdeal := by
  intro m ρ m' ρ' _ hagree
  refine ⟨fun c => goal6 m c, fun c => goal7 m c, run m ρ,
    (θ_run Cert.PoolSampleRefIdeal.defs _ _).mono (fun _ h c => ⟨(h c).1.trans ?_, (h c).2.1.trans ?_, (h c).2.2⟩)
      (Cert.PoolSampleRefIdeal.Value.run (F := Ideal) m' ρ')⟩
  · obtain ⟨h0, h1, h2, h3, h4, h5⟩ := hagree c
    refine (val_main_v43_eq m' c).trans ?_
    rw [h0, h1, h2, h3, h4, h5]
  · obtain ⟨h0, h1, h2, h3, h4, h5⟩ := hagree c
    rw [h0, h2]
    exact val_main_v40_eq _ _

end PoolSampleValue
-- ==== Proof.ConvSampleValue.lean ====
module

public import proofs.«01_k».proof.Defs
public import proofs.«01_k».proof.Proof.Gen.ConvSampleIdeal.Value
public import proofs.«01_k».proof.Proof.Gen.ConvSampleRefIdeal.Run
public import proofs.«01_k».proof.Proof.Gen.ConvSampleRefIdeal.Read
public import Idealize.ShloMosaic.Lib.Pointwise
public import Idealize.ShloMosaic.Lib.Pipeline.Value
public import Idealize.ShloMosaic.Lib.Pipeline.ValueKit.Acc
public import Idealize.ShloMosaic.Lib.Pipeline.ReadBack
public import Idealize.ShloMosaic.Lib.Quiescent

@[expose] public section

set_option maxRecDepth 16384

noncomputable section

namespace ConvSampleValue

open Cert.ConvSampleIdeal Cert.ConvSampleIdeal.Gen
open Idealize.ShloMosaic Idealize.ShloMosaic.TcCoe Idealize.SL.Sem
open Idealize.ShloMosaic.Pipeline (Dat)
open Cert.ConvSampleRefIdeal.Read

/-- The convolution of four values - three past ones, oldest first, then the newest, `u` - with the weights `w` and the bias `d`. -/
def conv (u : EReal) (b : Fin 3 → EReal) (w : Fin 4 → EReal) (d : EReal) : EReal := d + b 0 * w 0 + b 1 * w 1 + b 2 * w 2 + u * w 3

/-- The same with silu applied. -/
def mix (u : EReal) (b : Fin 3 → EReal) (w : Fin 4 → EReal) (d : EReal) : EReal := conv u b w d * Ideal.logistic (conv u b w d)

/-- The step size: softplus of the raw value. -/
def step (x : EReal) : EReal := max x 0 + Ideal.log (1 + Ideal.exp (-FloatOps.absf (F := Ideal) (φ := .f32) x))

/-- How much of the state one step of that size keeps, at the rate `-exp a`. -/
def kept (x a : EReal) : EReal := Ideal.exp (step x * -Ideal.exp a)

section Blocks

variable (x0 : Vec Ideal S32x6144 .f32) (x1 : Vec Ideal S1x4x6144 .f32) (x2 : Vec Ideal S1x1x6144 .f32) (x3 : Vec Ideal S32x128 .f32)
  (x4 : Vec Ideal S1x1x128 .f32) (x5 : Vec Ideal S1x1x128 .f32) (x6 : Vec Ideal S256x4096 .bf16) (x7 : Vec Ideal S1x3x32x6144 .f32)

/-- The block's convolved values, -/
def mixed : Vec Ideal S32x6144 .f32 := fun y => mix (x0 y) (fun k => x7 (ix4 0 k (y 0) (y 1))) (fun k => x1 (ix3 0 k (y 1))) (x2 (ix3 0 0 (y 1)))

/-- its three results cut from them by columns, -/
def xCols : Vec Ideal S32x4096 .f32 := fun y => mixed x0 x1 x2 x7 (ix2 (y 0) ⟨(y 1).val, by have := (y 1).isLt; have h : S32x4096.size 1 = 4096 := rfl; omega⟩)
def bCols : Vec Ideal S32x1024 .f32 := fun y => mixed x0 x1 x2 x7 (ix2 (y 0) ⟨4096 + (y 1).val, by have := (y 1).isLt; have h : S32x1024.size 1 = 1024 := rfl; omega⟩)
def cCols : Vec Ideal S32x1024 .f32 := fun y => mixed x0 x1 x2 x7 (ix2 (y 0) ⟨5120 + (y 1).val, by have := (y 1).isLt; have h : S32x1024.size 1 = 1024 := rfl; omega⟩)

/-- its decays -/
def decays : Vec Ideal S32x128 .f32 := fun y => kept (x3 y + x4 (ix3 0 0 (y 1))) (x5 (ix3 0 0 (y 1)))

/-- and its new buffer: each row moved up by one, the newest row last. -/
def shifted : Vec Ideal S1x3x32x6144 .f32 := fun y =>
  if h : 1 + (y 1).val < 3 then x7 (ix4 0 ⟨1 + (y 1).val, h⟩ (y 2) (y 3)) else x0 (ix2 (y 2) (y 3))

/-- Row `k` of the buffer's block, and of the weights. -/
def row (k : Fin 3) : Vec Ideal S1x1x32x6144 .f32 :=
  View.ld x7 (Rect.unit (s := S1x3x32x6144) ![0, k.val, 0, 0] ![1, 1, 32, 6144]
    (fun a => match a with | 0 => (by decide : 0 + 1 ≤ 1) | 1 => (Nat.succ_le_of_lt k.isLt : k.val + 1 ≤ 3)
                           | 2 => (by decide : 0 + 32 ≤ 32) | 3 => (by decide : 0 + 6144 ≤ 6144)))
def weight (k : Fin 4) : Vec Ideal S1x1x6144 .f32 :=
  View.ld x1 (Rect.unit (s := S1x4x6144) ![0, k.val, 0] ![1, 1, 6144]
    (fun a => match a with | 0 => (by decide : 0 + 1 ≤ 1) | 1 => (Nat.succ_le_of_lt k.isLt : k.val + 1 ≤ 4) | 2 => (by decide : 0 + 6144 ≤ 6144)))

theorem row_apply (k : Fin 3) (r : Fin 32) (j : Fin 6144) : row x7 k (ix4 0 0 r j) = x7 (ix4 0 k r j) := by
  refine congrArg x7 (funext fun a => Fin.ext ?_)
  match a with
  | ⟨0, _⟩ => rfl
  | ⟨1, _⟩ => rfl
  | ⟨2, _⟩ => show 0 + 1 * r.val = r.val; omega
  | ⟨3, _⟩ => show 0 + 1 * j.val = j.val; omega
theorem weight_apply (k : Fin 4) (j : Fin 6144) : weight x1 k (ix3 0 0 j) = x1 (ix3 0 k j) := by
  refine congrArg x1 (funext fun a => Fin.ext ?_)
  match a with
  | ⟨0, _⟩ => rfl
  | ⟨1, _⟩ => rfl
  | ⟨2, _⟩ => show 0 + 1 * j.val = j.val; omega

/-- The body's convolution, from the rows it loads, -/
theorem conv_apply (b : Fin 3 → Vec Ideal S1x1x32x6144 .f32) (w : Fin 4 → Vec Ideal S1x1x6144 .f32) (r : Fin 32) (j : Fin 6144) :
    k0_pay6 (F := Ideal) x0 x2 (b 0) (w 0) (b 1) (w 1) (b 2) (w 2) (w 3) (ix2 r j)
      = conv (x0 (ix2 r j)) (fun k => b k (ix4 0 0 r j)) (fun k => w k (ix3 0 0 j)) (x2 (ix3 0 0 j)) := by
  unfold conv
  pointwise [k0_pay6]
/-- as a function of the buffer and the weights. -/
theorem mixed_eq : k0_pay7 (F := Ideal) (k0_pay6 x0 x2 (row x7 0) (weight x1 0) (row x7 1) (weight x1 1) (row x7 2) (weight x1 2) (weight x1 3))
    = mixed x0 x1 x2 x7 := by
  funext y
  obtain ⟨r, j, rfl⟩ : ∃ (r : Fin 32) (j : Fin 6144), y = ix2 r j := ⟨y 0, y 1, eq_ix2 y⟩
  have e := conv_apply x0 x2 (row x7) (weight x1) r j
  simp only [row_apply, weight_apply] at e
  show k0_pay6 (F := Ideal) _ _ _ _ _ _ _ _ _ (ix2 r j) * Ideal.logistic (k0_pay6 (F := Ideal) _ _ _ _ _ _ _ _ _ (ix2 r j)) = _
  rw [e]
  rfl
/-- The cuts. -/
theorem cut_x (v : Vec Ideal S32x6144 .f32) (r : Fin 32) (j : Fin 4096) : k0_pay11 (F := Ideal) v (ix2 r j) = k0_pay7 (F := Ideal) v (ix2 r ⟨j.val, by omega⟩) := by
  unfold k0_pay11
  generalize k0_pay7 (F := Ideal) v = z
  pointwise
theorem cut_b (v : Vec Ideal S32x6144 .f32) (r : Fin 32) (j : Fin 1024) : k0_pay4 (F := Ideal) v (ix2 r j) = v (ix2 r ⟨4096 + j.val, by omega⟩) := by
  pointwise [k0_pay4]
theorem cut_c (v : Vec Ideal S32x6144 .f32) (r : Fin 32) (j : Fin 1024) : k0_pay5 (F := Ideal) v (ix2 r j) = v (ix2 r ⟨5120 + j.val, by omega⟩) := by
  pointwise [k0_pay5]

/-- The body's decays. -/
theorem decays_eq : k0_pay2 (F := Ideal) (k0_pay13 x3 x4) (k0_pay14 x3 x4) x5 = decays x3 x4 x5 := by
  funext y
  obtain ⟨r, j, rfl⟩ : ∃ (r : Fin 32) (j : Fin 128), y = ix2 r j := ⟨y 0, y 1, eq_ix2 y⟩
  unfold decays kept step
  pointwise [k0_pay2, k0_pay1, k0_pay13, k0_pay14, k0_pay12]
  simp only [sub_eq_add_neg, zero_add]

/-- A decay, read at an index. -/
theorem decays_apply (r : Fin 32) (j : Fin 128) : decays x3 x4 x5 (ix2 r j) = kept (x3 (ix2 r j) + x4 (ix3 0 0 j)) (x5 (ix3 0 0 j)) := rfl

/-- The place of a row in the buffer's block. -/
theorem emb_row (k : Fin 3) (inb : ∀ a, (![0, k.val, 0, 0] : Fin 4 → Nat) a + (![1, 1, 32, 6144] : Fin 4 → Nat) a ≤ S1x3x32x6144.size a)
    (r : Fin 32) (j : Fin 6144) : (Rect.unit (s := S1x3x32x6144) ![0, k.val, 0, 0] ![1, 1, 32, 6144] inb).emb (ix4 0 0 r j) = ix4 0 k r j := by
  refine funext fun a => Fin.ext ?_
  match a with
  | ⟨0, _⟩ => rfl
  | ⟨1, _⟩ => rfl
  | ⟨2, _⟩ => show 0 + 1 * r.val = r.val; omega
  | ⟨3, _⟩ => show 0 + 1 * j.val = j.val; omega
/-- A row of the new buffer that moves up, and the newest row. -/
theorem move_row (k : Fin 3) (k' : Fin 3) (hk : k'.val = 1 + k.val)
    (inb : ∀ a, (![0, k.val, 0, 0] : Fin 4 → Nat) a + (![1, 1, 32, 6144] : Fin 4 → Nat) a ≤ S1x3x32x6144.size a) (x : S1x1x32x6144.Idx) :
    k0_pay8 (F := Ideal) (row x7 k') x = shifted x0 x7 ((Rect.unit (s := S1x3x32x6144) ![0, k.val, 0, 0] ![1, 1, 32, 6144] inb).emb x) := by
  obtain ⟨a, b, r, j, rfl⟩ : ∃ (a b : Fin 1) (r : Fin 32) (j : Fin 6144), x = ix4 a b r j := ⟨x 0, x 1, x 2, x 3, eq_ix4 x⟩
  obtain rfl : a = 0 := Subsingleton.elim _ _
  obtain rfl : b = 0 := Subsingleton.elim _ _
  rw [emb_row k inb]
  have e := row_apply x7 k' r j
  generalize row x7 k' = w at e
  have e2 : shifted x0 x7 (ix4 0 k r j) = x7 (ix4 0 k' r j) := by
    show (if h : 1 + k.val < 3 then x7 (ix4 0 ⟨1 + k.val, h⟩ r j) else x0 (ix2 r j)) = _
    rw [dif_pos (by omega)]
    exact congrArg (fun q => x7 (ix4 0 q r j)) (Fin.ext hk.symm)
  refine Eq.trans ?_ (e.trans e2.symm)
  pointwise [k0_pay8]
theorem new_row (inb : ∀ a, (![0, 2, 0, 0] : Fin 4 → Nat) a + (![1, 1, 32, 6144] : Fin 4 → Nat) a ≤ S1x3x32x6144.size a) (x : S1x1x32x6144.Idx) :
    k0_pay10 (F := Ideal) x0 x = shifted x0 x7 ((Rect.unit (s := S1x3x32x6144) ![0, 2, 0, 0] ![1, 1, 32, 6144] inb).emb x) := by
  obtain ⟨a, b, r, j, rfl⟩ : ∃ (a b : Fin 1) (r : Fin 32) (j : Fin 6144), x = ix4 a b r j := ⟨x 0, x 1, x 2, x 3, eq_ix4 x⟩
  obtain rfl : a = 0 := Subsingleton.elim _ _
  obtain rfl : b = 0 := Subsingleton.elim _ _
  rw [show (Rect.unit (s := S1x3x32x6144) ![0, 2, 0, 0] ![1, 1, 32, 6144] inb).emb (ix4 0 0 r j) = ix4 0 2 r j from emb_row 2 inb r j]
  refine Eq.trans ?_ (dif_neg (c := 1 + 2 < 3) (by decide)).symm
  pointwise [k0_pay10]

variable (c : Dev nD) (i : grid0.Coords)
    (a1 : Memref sig .tc .vmem S32x6144 .f32) (h1 : a1.IsWhole) (a2 : Memref sig .tc .vmem S1x4x6144 .f32) (h2 : a2.IsWhole)
    (a3 : Memref sig .tc .vmem S1x1x6144 .f32) (h3 : a3.IsWhole) (a4 : Memref sig .tc .vmem S32x128 .f32) (h4 : a4.IsWhole)
    (a5 : Memref sig .tc .vmem S1x1x128 .f32) (h5 : a5.IsWhole) (a6 : Memref sig .tc .vmem S1x1x128 .f32) (h6 : a6.IsWhole)
    (a7 : Memref sig .tc .vmem S256x4096 .bf16) (h7 : a7.IsWhole) (a8 : Memref sig .tc .vmem S1x3x32x6144 .f32) (h8 : a8.IsWhole)
    (a10 : Memref sig .tc .vmem S32x4096 .f32) (h10 : a10.IsWhole) (a11 : Memref sig .tc .vmem S32x4096 .f32) (h11 : a11.IsWhole)
    (a12 : Memref sig .tc .vmem S32x128 .f32) (h12 : a12.IsWhole) (a13 : Memref sig .tc .vmem S32x1024 .f32) (h13 : a13.IsWhole)
    (a14 : Memref sig .tc .vmem S32x1024 .f32) (h14 : a14.IsWhole) (a15 : Memref sig .tc .vmem S1x3x32x6144 .f32) (h15 : a15.IsWhole)

/-- What a point leaves in its blocks: the first group of columns, -/
theorem out_8 : out0_A_8 (F := Ideal) c i a1 h1 a2 h2 a3 h3 a4 h4 a5 h5 a6 h6 a7 h7 a8 h8 a10 h10 a11 h11 a12 h12 a13 h13 a14 h14 a15 h15 x0 x1 x2 x3 x4 x5 x6 x7 = xCols x0 x1 x2 x7 := by
  unfold out0_A_8
  rw [View.read_writes_junk_eq_canon]
  unfold kernelRun0_A
  dsimp only
  sl_unfold_words
  simp only [View.readAt_eq_ld, h1.read_unread, h2.read_unread, h3.read_unread, h4.read_unread, h5.read_unread, h6.read_unread, h7.read_unread, h8.read_unread]
  simp (disch := decide) only [View.ld_unit_lit']
  refine (View.canon_cons_unit_lit (Val := Elt Ideal) (S := S32x4096) (e := .f32) _ _ _ (by decide)).trans ?_
  funext y
  obtain ⟨r, j, rfl⟩ : ∃ (r : Fin 32) (j : Fin 4096), y = ix2 r j := ⟨y 0, y 1, eq_ix2 y⟩
  exact (cut_x _ r j).trans (congrFun (mixed_eq x0 x1 x2 x7) _)
/-- the decays, -/
theorem out_10 : out0_A_10 (F := Ideal) c i a1 h1 a2 h2 a3 h3 a4 h4 a5 h5 a6 h6 a7 h7 a8 h8 a10 h10 a11 h11 a12 h12 a13 h13 a14 h14 a15 h15 x0 x1 x2 x3 x4 x5 x6 x7 = decays x3 x4 x5 := by
  unfold out0_A_10
  rw [View.read_writes_junk_eq_canon]
  unfold kernelRun0_A
  dsimp only
  sl_unfold_words
  simp only [View.readAt_eq_ld, h1.read_unread, h2.read_unread, h3.read_unread, h4.read_unread, h5.read_unread, h6.read_unread, h7.read_unread, h8.read_unread]
  simp (disch := decide) only [View.ld_unit_lit']
  refine (View.canon_cons_unit_lit (Val := Elt Ideal) (S := S32x128) (e := .f32) _ _ _ (by decide)).trans ?_
  exact decays_eq x3 x4 x5
/-- the second group of columns, -/
theorem out_11 : out0_A_11 (F := Ideal) c i a1 h1 a2 h2 a3 h3 a4 h4 a5 h5 a6 h6 a7 h7 a8 h8 a10 h10 a11 h11 a12 h12 a13 h13 a14 h14 a15 h15 x0 x1 x2 x3 x4 x5 x6 x7 = bCols x0 x1 x2 x7 := by
  unfold out0_A_11
  rw [View.read_writes_junk_eq_canon]
  unfold kernelRun0_A
  dsimp only
  sl_unfold_words
  simp only [View.readAt_eq_ld, h1.read_unread, h2.read_unread, h3.read_unread, h4.read_unread, h5.read_unread, h6.read_unread, h7.read_unread, h8.read_unread]
  simp (disch := decide) only [View.ld_unit_lit']
  refine (View.canon_cons_unit_lit (Val := Elt Ideal) (S := S32x1024) (e := .f32) _ _ _ (by decide)).trans ?_
  funext y
  obtain ⟨r, j, rfl⟩ : ∃ (r : Fin 32) (j : Fin 1024), y = ix2 r j := ⟨y 0, y 1, eq_ix2 y⟩
  exact (cut_b _ r j).trans (congrFun (mixed_eq x0 x1 x2 x7) _)
/-- the third -/
theorem out_12 : out0_A_12 (F := Ideal) c i a1 h1 a2 h2 a3 h3 a4 h4 a5 h5 a6 h6 a7 h7 a8 h8 a10 h10 a11 h11 a12 h12 a13 h13 a14 h14 a15 h15 x0 x1 x2 x3 x4 x5 x6 x7 = cCols x0 x1 x2 x7 := by
  unfold out0_A_12
  rw [View.read_writes_junk_eq_canon]
  unfold kernelRun0_A
  dsimp only
  sl_unfold_words
  simp only [View.readAt_eq_ld, h1.read_unread, h2.read_unread, h3.read_unread, h4.read_unread, h5.read_unread, h6.read_unread, h7.read_unread, h8.read_unread]
  simp (disch := decide) only [View.ld_unit_lit']
  refine (View.canon_cons_unit_lit (Val := Elt Ideal) (S := S32x1024) (e := .f32) _ _ _ (by decide)).trans ?_
  funext y
  obtain ⟨r, j, rfl⟩ : ∃ (r : Fin 32) (j : Fin 1024), y = ix2 r j := ⟨y 0, y 1, eq_ix2 y⟩
  exact (cut_c _ r j).trans (congrFun (mixed_eq x0 x1 x2 x7) _)
/-- and the new buffer. -/
theorem out_13 : out0_A_13 (F := Ideal) c i a1 h1 a2 h2 a3 h3 a4 h4 a5 h5 a6 h6 a7 h7 a8 h8 a10 h10 a11 h11 a12 h12 a13 h13 a14 h14 a15 h15 x0 x1 x2 x3 x4 x5 x6 x7 = shifted x0 x7 := by
  unfold out0_A_13
  rw [View.read_writes_junk_eq_canon]
  unfold kernelRun0_A
  dsimp only
  sl_unfold_words
  simp only [View.readAt_eq_ld, h1.read_unread, h2.read_unread, h3.read_unread, h4.read_unread, h5.read_unread, h6.read_unread, h7.read_unread, h8.read_unread]
  simp (disch := decide) only [View.ld_unit_lit']
  funext y
  exact View.canon_append_of_piecesOf (Val := Elt Ideal) (e := .f32) (shifted x0 x7) [] [_, _, _]
    ⟨new_row x0 x7 inb_S1x3x32x6144_S1x1x32x6144_0_2_0_0, move_row x0 x7 1 2 rfl inb_S1x3x32x6144_S1x1x32x6144_0_1_0_0,
      move_row x0 x7 0 1 rfl inb_S1x3x32x6144_S1x1x32x6144_0_0_0_0, trivial⟩ y
    (View.cover_of_tiledBy _ ![1, 1, 32, 6144] (by sl_kernel_rfl) y)

end Blocks

/-- One row of 64 values extended by zeros to 128 lanes. -/
def lane (v : Fin 64 → EReal) (j : Fin 128) : EReal := if h : j.val < 64 then v ⟨j.val, h⟩ else 0

/-- The reference's convolved values at (r, j). -/
theorem ref_mixed (x0 : (⟨2, ![128, 6144]⟩ : Shape).Idx → EReal) (x2 : (⟨4, ![4, 128, 3, 6144]⟩ : Shape).Idx → EReal)
    (x3 : (⟨3, ![4, 4, 6144]⟩ : Shape).Idx → EReal) (x4 : (⟨2, ![4, 6144]⟩ : Shape).Idx → EReal) (r : Fin 128) (j : Fin 6144) :
    val_main_v40 (F := Ideal) x0 x2 x3 x4 (ix2 r j)
      = mix (x0 (ix2 r j)) (fun k => x2 (ix4 0 r k j)) (fun k => x3 (ix3 0 k j)) (x4 (ix2 0 j)) := by
  have e : val_main_v39 (F := Ideal) x0 x2 x3 x4 (ix2 r j) = conv (x0 (ix2 r j)) (fun k => x2 (ix4 0 r k j)) (fun k => x3 (ix3 0 k j)) (x4 (ix2 0 j)) := by
    unfold conv
    pointwise [val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0]
  unfold mix
  rw [← e]
  unfold val_main_v40 val_main_call0_v5 val_main_call0_v3 val_main_call0_v1 val_main_call0_v0
  generalize val_main_v39 (F := Ideal) x0 x2 x3 x4 = z
  pointwise [val_main_call0_v4, val_main_call0_cst_0, val_main_call0_v2, val_main_call0_cst, Ideal.logistic]

/-- The value padded with is zero. -/
theorem pad_zero : FloatOps.sitofp (F := Ideal) .f32 (0#32) = (0 : EReal) := by
  show ((((0#32 : BitVec 32).toInt : ℤ) : ℝ) : EReal) = 0
  simp

/-- The reference's step size biases and its rates, extended to 128 lanes. -/
theorem lanes_apply (x : (⟨2, ![4, 64]⟩ : Shape).Idx → EReal) (j : Fin 128) :
    val_main_v43 (F := Ideal) x (ix1 j) = lane (fun q => x (ix2 0 q)) j := by
  unfold lane
  pointwise [val_main_v43, val_main_v42, val_main_v41, val_main_call1_v0, val_main_c]
  rw [pad_zero]
theorem lanes_apply' (x : (⟨2, ![4, 64]⟩ : Shape).Idx → EReal) (j : Fin 128) :
    val_main_v50 (F := Ideal) x (ix1 j) = lane (fun q => x (ix2 0 q)) j := by
  unfold lane
  pointwise [val_main_v50, val_main_v49, val_main_v48, val_main_call3_v0, val_main_c_0]
  rw [pad_zero]

/-- The reference's decay at (r, j), -/
theorem ref_decay (x1 : (⟨2, ![128, 128]⟩ : Shape).Idx → EReal) (x5 x6 : (⟨2, ![4, 64]⟩ : Shape).Idx → EReal) (r j : Fin 128) :
    val_main_v56 (F := Ideal) x1 x5 x6 (ix2 r j) = kept (x1 (ix2 r j) + lane (fun q => x5 (ix2 0 q)) j) (lane (fun q => x6 (ix2 0 q)) j) := by
  rw [← lanes_apply, ← lanes_apply']
  unfold kept step
  pointwise [val_main_v56, val_main_v55, val_main_v54, val_main_v53, val_main_v52, val_main_v51, val_main_v47, val_main_call2_v11, val_main_call2_v10, val_main_call2_v9, val_main_call2_v8, val_main_call2_v7, val_main_call2_v6, val_main_call2_v5, val_main_call2_v4, val_main_call2_v3, val_main_call2_v2, val_main_call2_v1, val_main_call2_v0, val_main_call2_cst, val_main_v46, val_main_v45, val_main_v44]
  rw [if_neg (not_not_intro rfl)]
  rfl

/-- and its new stack of buffers at (l, k, r, j). -/
theorem state_apply (x0 : (⟨2, ![128, 6144]⟩ : Shape).Idx → EReal) (x2 : (⟨4, ![4, 128, 3, 6144]⟩ : Shape).Idx → EReal)
    (l : Fin 4) (k : Fin 3) (r : Fin 128) (j : Fin 6144) :
    val_main_v61 (F := Ideal) x0 x2 (ix4 l k r j)
      = if l.val < 1 then (if h : 1 + k.val < 3 then x2 (ix4 0 r ⟨1 + k.val, h⟩ j) else x0 (ix2 r j)) else 0 := by
  pointwise [val_main_v61, val_main_v60, val_main_cst, val_main_v59, val_main_v58, val_main_v57, val_main_v3, val_main_v2, val_main_v1, val_main_v0]
  by_cases hl : l.val < 1
  · rw [dif_pos hl, if_pos hl]
  · rw [dif_neg hl, if_neg hl]

variable (m : (ℓ : Loc nD τ sig) → Buf (Elt Ideal) ℓ) (ρ : Dev nD → PrngReg)

/-- Device `c`'s arguments as launched: the rows, their raw step sizes, the stacked buffers of past rows, the stacked weights, biases, step size
biases and rates. -/
abbrev arg0 (c : Dev nD) : (⟨2, ![128, 6144]⟩ : Shape).Idx → EReal := m ((c : Thread nD τ).loc main_arg0)
abbrev arg1 (c : Dev nD) : (⟨2, ![128, 128]⟩ : Shape).Idx → EReal := m ((c : Thread nD τ).loc main_arg1)
abbrev arg2 (c : Dev nD) : (⟨4, ![4, 128, 3, 6144]⟩ : Shape).Idx → EReal := m ((c : Thread nD τ).loc main_arg2)
abbrev arg3 (c : Dev nD) : (⟨3, ![4, 4, 6144]⟩ : Shape).Idx → EReal := m ((c : Thread nD τ).loc main_arg3)
abbrev arg4 (c : Dev nD) : (⟨2, ![4, 6144]⟩ : Shape).Idx → EReal := m ((c : Thread nD τ).loc main_arg4)
abbrev arg5 (c : Dev nD) : (⟨2, ![4, 64]⟩ : Shape).Idx → EReal := m ((c : Thread nD τ).loc main_arg5)
abbrev arg6 (c : Dev nD) : (⟨2, ![4, 64]⟩ : Shape).Idx → EReal := m ((c : Thread nD τ).loc main_arg6)

/-- What the reference computes from device `c`'s arguments: the three groups of columns, the decays and the new stack of buffers. -/
abbrev goal8 (c : Dev nD) : (⟨2, ![128, 4096]⟩ : Shape).Idx → EReal := val_main_v62 (F := Ideal) (arg0 m c) (arg2 m c) (arg3 m c) (arg4 m c)
abbrev goal10 (c : Dev nD) : (⟨2, ![128, 128]⟩ : Shape).Idx → EReal := val_main_v56 (F := Ideal) (arg1 m c) (arg5 m c) (arg6 m c)
abbrev goal11 (c : Dev nD) : (⟨2, ![128, 1024]⟩ : Shape).Idx → EReal := val_main_v63 (F := Ideal) (arg0 m c) (arg2 m c) (arg3 m c) (arg4 m c)
abbrev goal12 (c : Dev nD) : (⟨2, ![128, 1024]⟩ : Shape).Idx → EReal := val_main_v64 (F := Ideal) (arg0 m c) (arg2 m c) (arg3 m c) (arg4 m c)
abbrev goal13 (c : Dev nD) : (⟨4, ![4, 3, 128, 6144]⟩ : Shape).Idx → EReal := val_main_v61 (F := Ideal) (arg0 m c) (arg2 m c)

/-- The region finds the bias as one row per layer, the buffers with their rows first, -/
theorem V_bias (c : Dev nD) (l : Fin 4) (j : Fin 6144) : V m c main_v15 (ix3 l 0 j) = arg4 m c (ix2 l j) := by
  have e : V m c main_v15 = shapeCast S4x1x6144 (arg4 m c) shapeCasts_S4x6144_S4x1x6144 := by
    unfold V hostOps0 hostOps0_1 hostOps0_2 hostOps0_3 hostOps0_4 hostOps0_5 hostOps0_6
    after_results
    rfl
  rw [e]
  pointwise
theorem V_buf (c : Dev nD) (l : Fin 4) (k : Fin 3) (r : Fin 128) (j : Fin 6144) : V m c main_v0 (ix4 l k r j) = arg2 m c (ix4 l r k j) := by
  have e : V m c main_v0 = transpose S4x3x128x6144 [0, 2, 1, 3] (arg2 m c) transposes_S4x128x3x6144_S4x3x128x6144_0_2_1_3 := by
    unfold V hostOps0 hostOps0_1 hostOps0_2 hostOps0_3 hostOps0_4 hostOps0_5 hostOps0_6
    after_results
    rfl
  rw [e]
  pointwise

/-- the step size biases and the rates on 128 lanes -/
theorem V_dt (c : Dev nD) (l : Fin 4) (j : Fin 128) : V m c main_v17 (ix3 l 0 j) = lane (fun q => arg5 m c (ix2 l q)) j := by
  have e : V m c main_v17 = shapeCast S4x1x128 (pad S4x128 ![0, 0] ![0, 64] ![0, 0] (arg5 m c)
      (sitofp (F := Ideal) .f32 (constantI S_ 32 0#32) : FVec Ideal S_ .f32) pads_S4x64_S4x128_000_0640 h_S_) shapeCasts_S4x128_S4x1x128 := by
    unfold V hostOps0 hostOps0_1 hostOps0_2 hostOps0_3 hostOps0_4 hostOps0_5 hostOps0_6
    after_results
    rfl
  rw [e]
  unfold lane
  pointwise
  rw [pad_zero]
theorem V_rate (c : Dev nD) (l : Fin 4) (j : Fin 128) : V m c main_v19 (ix3 l 0 j) = lane (fun q => arg6 m c (ix2 l q)) j := by
  have e : V m c main_v19 = shapeCast S4x1x128 (pad S4x128 ![0, 0] ![0, 64] ![0, 0] (arg6 m c)
      (sitofp (F := Ideal) .f32 (constantI S_ 32 0#32) : FVec Ideal S_ .f32) pads_S4x64_S4x128_000_0640 h_S_) shapeCasts_S4x128_S4x1x128 := by
    unfold V hostOps0 hostOps0_1 hostOps0_2 hostOps0_3 hostOps0_4 hostOps0_5 hostOps0_6
    after_results
    rfl
  rw [e]
  unfold lane
  pointwise
  rw [pad_zero]

/-- and zeros where the new buffers go. -/
theorem V_new (c : Dev nD) (i : S4x3x128x6144.Idx) : V m c main_v21_5 i = (0 : EReal) := by
  have e : V m c main_v21_5 = broadcastInDim S4x3x128x6144 ![] bcast_S_S4x3x128x6144 (constant (F := Ideal) S_ .f32 0x00000000#32) := by
    unfold V hostOps0 hostOps0_1 hostOps0_2 hostOps0_3 hostOps0_4 hostOps0_5 hostOps0_6
    after_results
    rfl
  obtain ⟨l, k, r, j, rfl⟩ : ∃ (l : Fin 4) (k : Fin 3) (r : Fin 128) (j : Fin 6144), i = ix4 l k r j := ⟨i 0, i 1, i 2, i 3, eq_ix4 i⟩
  rw [e]
  pointwise

/-- Where point `t`'s blocks lie: each point takes the next 32 rows, -/
theorem atRows : ∀ t : Fin cfg0.N, (win0_0.index t 0 = t.val ∧ win0_0.index t 1 = 0) ∧ (win0_3.index t 0 = t.val ∧ win0_3.index t 1 = 0) ∧ (win0_8.index t 0 = t.val ∧ win0_8.index t 1 = 0) ∧ (win0_10.index t 0 = t.val ∧ win0_10.index t 1 = 0) ∧ (win0_11.index t 0 = t.val ∧ win0_11.index t 1 = 0) ∧ (win0_12.index t 0 = t.val ∧ win0_12.index t 1 = 0) :=
  (by decide +kernel : ∀ t : Fin grid0.N, (win0_0.index t 0 = t.val ∧ win0_0.index t 1 = 0) ∧ (win0_3.index t 0 = t.val ∧ win0_3.index t 1 = 0) ∧ (win0_8.index t 0 = t.val ∧ win0_8.index t 1 = 0) ∧ (win0_10.index t 0 = t.val ∧ win0_10.index t 1 = 0) ∧ (win0_11.index t 0 = t.val ∧ win0_11.index t 1 = 0) ∧ (win0_12.index t 0 = t.val ∧ win0_12.index t 1 = 0))
/-- of the first layer's buffer -/
theorem atStates : ∀ t : Fin cfg0.N, (win0_7.index t 0 = 0 ∧ win0_7.index t 1 = 0 ∧ win0_7.index t 2 = t.val ∧ win0_7.index t 3 = 0) ∧ (win0_13.index t 0 = 0 ∧ win0_13.index t 1 = 0 ∧ win0_13.index t 2 = t.val ∧ win0_13.index t 3 = 0) :=
  (by decide +kernel : ∀ t : Fin grid0.N, (win0_7.index t 0 = 0 ∧ win0_7.index t 1 = 0 ∧ win0_7.index t 2 = t.val ∧ win0_7.index t 3 = 0) ∧ (win0_13.index t 0 = 0 ∧ win0_13.index t 1 = 0 ∧ win0_13.index t 2 = t.val ∧ win0_13.index t 3 = 0))
/-- and the whole of the first layer's weights. -/
theorem atWeights : ∀ t : Fin cfg0.N, (∀ a, win0_1.index t a = 0) ∧ (∀ a, win0_2.index t a = 0) ∧ (∀ a, win0_4.index t a = 0) ∧ (∀ a, win0_5.index t a = 0) :=
  (by decide +kernel : ∀ t : Fin grid0.N, (∀ a, win0_1.index t a = 0) ∧ (∀ a, win0_2.index t a = 0) ∧ (∀ a, win0_4.index t a = 0) ∧ (∀ a, win0_5.index t a = 0))
/-- Every point writes its blocks back. -/
theorem flushes : ∀ t : Fin cfg0.N, (cfg0.win 8).flush t = true ∧ (cfg0.win 10).flush t = true ∧ (cfg0.win 11).flush t = true ∧ (cfg0.win 12).flush t = true ∧ (cfg0.win 13).flush t = true :=
  (by decide +kernel : ∀ t : Fin grid0.N, (cfg0.win 8).flush t = true ∧ (cfg0.win 10).flush t = true ∧ (cfg0.win 11).flush t = true ∧ (cfg0.win 12).flush t = true ∧ (cfg0.win 13).flush t = true)

theorem lt_N (t : Fin cfg0.N) : t.val < 4 := by have := t.isLt; have hN : cfg0.N = 4 := N_0; omega

/-- Row `r` of point `t`'s blocks is this row of the arrays. -/
abbrev rowOf (t : Fin cfg0.N) (r : Fin 32) : Fin 128 := ⟨t.val * 32 + r.val, by have := lt_N t; omega⟩

/-- Each operand's block at point `t`, read at an index. -/
theorem blk0 (c : Dev nD) (t : Fin cfg0.N) (r : Fin 32) (k : Fin 6144) : iblk m c 0 t (ix2 r k) = arg0 m c (ix2 (rowOf t r) k) := by
  show V m c main_arg0 ((win0_0.rect t).emb (ix2 r k)) = _
  rw [V_main_arg0]
  refine congrArg (arg0 m c) (funext fun a => Fin.ext ((win0_0.rect_emb_val t (ix2 r k) a).trans ?_))
  match a with
  | ⟨0, _⟩ => show win0_0.index t 0 * 32 + r.val = _; rw [(atRows t).1.1]; rfl
  | ⟨1, _⟩ => show win0_0.index t 1 * 6144 + k.val = k.val; rw [(atRows t).1.2]; omega
theorem blk3 (c : Dev nD) (t : Fin cfg0.N) (r : Fin 32) (k : Fin 128) : iblk m c 3 t (ix2 r k) = arg1 m c (ix2 (rowOf t r) k) := by
  show V m c main_arg1 ((win0_3.rect t).emb (ix2 r k)) = _
  rw [V_main_arg1]
  refine congrArg (arg1 m c) (funext fun a => Fin.ext ((win0_3.rect_emb_val t (ix2 r k) a).trans ?_))
  match a with
  | ⟨0, _⟩ => show win0_3.index t 0 * 32 + r.val = _; rw [(atRows t).2.1.1]; rfl
  | ⟨1, _⟩ => show win0_3.index t 1 * 128 + k.val = k.val; rw [(atRows t).2.1.2]; omega
theorem blk1 (c : Dev nD) (t : Fin cfg0.N) (k : Fin 4) (j : Fin 6144) : iblk m c 1 t (ix3 0 k j) = arg3 m c (ix3 0 k j) := by
  show V m c main_arg3 ((win0_1.rect t).emb (ix3 0 k j)) = _
  rw [V_main_arg3]
  refine congrArg (arg3 m c) (funext fun a => Fin.ext ((win0_1.rect_emb_val_of_index_zero t a ((atWeights t).1 a) (ix3 0 k j)).trans ?_))
  match a with
  | ⟨0, _⟩ => rfl
  | ⟨1, _⟩ => rfl
  | ⟨2, _⟩ => rfl
theorem blk2 (c : Dev nD) (t : Fin cfg0.N) (j : Fin 6144) : iblk m c 2 t (ix3 0 0 j) = arg4 m c (ix2 0 j) := by
  refine Eq.trans ?_ (V_bias m c 0 j)
  show V m c main_v15 ((win0_2.rect t).emb (ix3 0 0 j)) = _
  refine congrArg (V m c main_v15) (funext fun a => Fin.ext ((win0_2.rect_emb_val_of_index_zero t a ((atWeights t).2.1 a) (ix3 0 0 j)).trans ?_))
  match a with
  | ⟨0, _⟩ => rfl
  | ⟨1, _⟩ => rfl
  | ⟨2, _⟩ => rfl
theorem blk4 (c : Dev nD) (t : Fin cfg0.N) (j : Fin 128) : iblk m c 4 t (ix3 0 0 j) = lane (fun q => arg5 m c (ix2 0 q)) j := by
  refine Eq.trans ?_ (V_dt m c 0 j)
  show V m c main_v17 ((win0_4.rect t).emb (ix3 0 0 j)) = _
  refine congrArg (V m c main_v17) (funext fun a => Fin.ext ((win0_4.rect_emb_val_of_index_zero t a ((atWeights t).2.2.1 a) (ix3 0 0 j)).trans ?_))
  match a with
  | ⟨0, _⟩ => rfl
  | ⟨1, _⟩ => rfl
  | ⟨2, _⟩ => rfl
theorem blk5 (c : Dev nD) (t : Fin cfg0.N) (j : Fin 128) : iblk m c 5 t (ix3 0 0 j) = lane (fun q => arg6 m c (ix2 0 q)) j := by
  refine Eq.trans ?_ (V_rate m c 0 j)
  show V m c main_v19 ((win0_5.rect t).emb (ix3 0 0 j)) = _
  refine congrArg (V m c main_v19) (funext fun a => Fin.ext ((win0_5.rect_emb_val_of_index_zero t a ((atWeights t).2.2.2 a) (ix3 0 0 j)).trans ?_))
  match a with
  | ⟨0, _⟩ => rfl
  | ⟨1, _⟩ => rfl
  | ⟨2, _⟩ => rfl
theorem blk7 (c : Dev nD) (t : Fin cfg0.N) (k : Fin 3) (r : Fin 32) (j : Fin 6144) :
    iblk m c 7 t (ix4 0 k r j) = arg2 m c (ix4 0 (rowOf t r) k j) := by
  rw [← V_buf]
  show V m c main_v0 ((win0_7.rect t).emb (ix4 0 k r j)) = _
  refine congrArg (V m c main_v0) (funext fun a => Fin.ext ((win0_7.rect_emb_val t (ix4 0 k r j) a).trans ?_))
  match a with
  | ⟨0, _⟩ => show win0_7.index t 0 * 1 + 0 = 0; rw [(atStates t).1.1]
  | ⟨1, _⟩ => show win0_7.index t 1 * 3 + k.val = k.val; rw [(atStates t).1.2.1]; omega
  | ⟨2, _⟩ => show win0_7.index t 2 * 32 + r.val = _; rw [(atStates t).1.2.2.1]; rfl
  | ⟨3, _⟩ => show win0_7.index t 3 * 6144 + j.val = j.val; rw [(atStates t).1.2.2.2]; omega

/-- A point's convolved values are the reference's at the point's rows. -/
theorem mixed_blk (c : Dev nD) (t : Fin cfg0.N) (r : Fin 32) (j : Fin 6144) :
    mixed (iblk m c 0 t) (iblk m c 1 t) (iblk m c 2 t) (iblk m c 7 t) (ix2 r j)
      = val_main_v40 (F := Ideal) (arg0 m c) (arg2 m c) (arg3 m c) (arg4 m c) (ix2 (rowOf t r) j) := by
  refine Eq.trans ?_ (ref_mixed _ _ _ _ (rowOf t r) j).symm
  show mix (iblk m c 0 t (ix2 r j)) (fun k => iblk m c 7 t (ix4 0 k r j)) (fun k => iblk m c 1 t (ix3 0 k j)) (iblk m c 2 t (ix3 0 0 j)) = _
  simp only [blk0, blk1, blk2, blk7]

/-- What a point writes back to the first group of columns is its block of the reference. -/
theorem flushed_eq8 (c : Dev nD) (t : Fin cfg0.N) (hf : (cfg0.win 8).flush t = true) :
    (dats m 0 c).flushed 8 t = (win0_8.blk t).view.read (Elt Ideal) (goal8 m c) := by
  rw [Value.flushed8_A m c t, out_8]
  funext y
  obtain ⟨r, j, rfl⟩ : ∃ (r : Fin 32) (j : Fin 4096), y = ix2 r j := ⟨y 0, y 1, eq_ix2 y⟩
  have e : (win0_8.rect t).emb (ix2 r j) = ix2 (rowOf t r) j := by
    refine funext fun a => Fin.ext ((win0_8.rect_emb_val t (ix2 r j) a).trans ?_)
    match a with
    | ⟨0, _⟩ => show win0_8.index t 0 * 32 + r.val = _; rw [(atRows t).2.2.1.1]; rfl
    | ⟨1, _⟩ => show win0_8.index t 1 * 4096 + j.val = j.val; rw [(atRows t).2.2.1.2]; omega
  refine Eq.trans ?_ (congrArg (goal8 m c) e.symm)
  refine (mixed_blk m c t r ⟨j.val, by omega⟩).trans ?_
  unfold goal8 val_main_v62
  generalize val_main_v40 (F := Ideal) (arg0 m c) (arg2 m c) (arg3 m c) (arg4 m c) = z
  pointwise
/-- These blocks tile the array. -/
theorem cover8 (i : S128x4096.Idx) : ∃ t : Fin cfg0.N, (cfg0.win 8).flush t = true ∧ i ∈ ((cfg0.win 8).blk t).view.set := by
  have h0 : (i 0 : Nat) < 128 := (i 0).isLt
  have h1 : (i 1 : Nat) < 4096 := (i 1).isLt
  have hN : cfg0.N = 4 := N_0
  obtain ⟨t, ht⟩ : ∃ t : Fin cfg0.N, t.val = (i 0 : Nat) / 32 := ⟨⟨(i 0 : Nat) / 32, by rw [hN]; omega⟩, rfl⟩
  refine ⟨t, (flushes t).1, ?_⟩
  show i ∈ ((View.whole main_v21_0).slice (win0_8.rect t)).set
  rw [View.set_slice_whole, Rect.mem_set_unit]
  intro a
  match a with
  | ⟨0, _⟩ => show win0_8.index t 0 * 32 ≤ (i 0 : Nat) ∧ (i 0 : Nat) < win0_8.index t 0 * 32 + 32; rw [(atRows t).2.2.1.1]; omega
  | ⟨1, _⟩ => show win0_8.index t 1 * 4096 ≤ (i 1 : Nat) ∧ (i 1 : Nat) < win0_8.index t 1 * 4096 + 4096; rw [(atRows t).2.2.1.2]; omega

/-- What a point writes back to the decays is its block of the reference. -/
theorem flushed_eq10 (c : Dev nD) (t : Fin cfg0.N) (hf : (cfg0.win 10).flush t = true) :
    (dats m 0 c).flushed 10 t = (win0_10.blk t).view.read (Elt Ideal) (goal10 m c) := by
  rw [Value.flushed10_A m c t, out_10]
  funext y
  obtain ⟨r, j, rfl⟩ : ∃ (r : Fin 32) (j : Fin 128), y = ix2 r j := ⟨y 0, y 1, eq_ix2 y⟩
  have e : (win0_10.rect t).emb (ix2 r j) = ix2 (rowOf t r) j := by
    refine funext fun a => Fin.ext ((win0_10.rect_emb_val t (ix2 r j) a).trans ?_)
    match a with
    | ⟨0, _⟩ => show win0_10.index t 0 * 32 + r.val = _; rw [(atRows t).2.2.2.1.1]; rfl
    | ⟨1, _⟩ => show win0_10.index t 1 * 128 + j.val = j.val; rw [(atRows t).2.2.2.1.2]; omega
  refine Eq.trans ?_ (congrArg (goal10 m c) e.symm)
  refine Eq.trans ?_ (ref_decay _ _ _ (rowOf t r) j).symm
  exact (decays_apply _ _ _ r j).trans (congrArg₂ kept (congrArg₂ (fun a b : EReal => a + b) (blk3 m c t r j) (blk4 m c t j)) (blk5 m c t j))
/-- These blocks tile the array. -/
theorem cover10 (i : S128x128.Idx) : ∃ t : Fin cfg0.N, (cfg0.win 10).flush t = true ∧ i ∈ ((cfg0.win 10).blk t).view.set := by
  have h0 : (i 0 : Nat) < 128 := (i 0).isLt
  have h1 : (i 1 : Nat) < 128 := (i 1).isLt
  have hN : cfg0.N = 4 := N_0
  obtain ⟨t, ht⟩ : ∃ t : Fin cfg0.N, t.val = (i 0 : Nat) / 32 := ⟨⟨(i 0 : Nat) / 32, by rw [hN]; omega⟩, rfl⟩
  refine ⟨t, (flushes t).2.1, ?_⟩
  show i ∈ ((View.whole main_v21_2).slice (win0_10.rect t)).set
  rw [View.set_slice_whole, Rect.mem_set_unit]
  intro a
  match a with
  | ⟨0, _⟩ => show win0_10.index t 0 * 32 ≤ (i 0 : Nat) ∧ (i 0 : Nat) < win0_10.index t 0 * 32 + 32; rw [(atRows t).2.2.2.1.1]; omega
  | ⟨1, _⟩ => show win0_10.index t 1 * 128 ≤ (i 1 : Nat) ∧ (i 1 : Nat) < win0_10.index t 1 * 128 + 128; rw [(atRows t).2.2.2.1.2]; omega

/-- What a point writes back to the second group of columns is its block of the reference. -/
theorem flushed_eq11 (c : Dev nD) (t : Fin cfg0.N) (hf : (cfg0.win 11).flush t = true) :
    (dats m 0 c).flushed 11 t = (win0_11.blk t).view.read (Elt Ideal) (goal11 m c) := by
  rw [Value.flushed11_A m c t, out_11]
  funext y
  obtain ⟨r, j, rfl⟩ : ∃ (r : Fin 32) (j : Fin 1024), y = ix2 r j := ⟨y 0, y 1, eq_ix2 y⟩
  have e : (win0_11.rect t).emb (ix2 r j) = ix2 (rowOf t r) j := by
    refine funext fun a => Fin.ext ((win0_11.rect_emb_val t (ix2 r j) a).trans ?_)
    match a with
    | ⟨0, _⟩ => show win0_11.index t 0 * 32 + r.val = _; rw [(atRows t).2.2.2.2.1.1]; rfl
    | ⟨1, _⟩ => show win0_11.index t 1 * 1024 + j.val = j.val; rw [(atRows t).2.2.2.2.1.2]; omega
  refine Eq.trans ?_ (congrArg (goal11 m c) e.symm)
  refine (mixed_blk m c t r ⟨4096 + j.val, by omega⟩).trans ?_
  unfold goal11 val_main_v63
  generalize val_main_v40 (F := Ideal) (arg0 m c) (arg2 m c) (arg3 m c) (arg4 m c) = z
  pointwise
/-- These blocks tile the array. -/
theorem cover11 (i : S128x1024.Idx) : ∃ t : Fin cfg0.N, (cfg0.win 11).flush t = true ∧ i ∈ ((cfg0.win 11).blk t).view.set := by
  have h0 : (i 0 : Nat) < 128 := (i 0).isLt
  have h1 : (i 1 : Nat) < 1024 := (i 1).isLt
  have hN : cfg0.N = 4 := N_0
  obtain ⟨t, ht⟩ : ∃ t : Fin cfg0.N, t.val = (i 0 : Nat) / 32 := ⟨⟨(i 0 : Nat) / 32, by rw [hN]; omega⟩, rfl⟩
  refine ⟨t, (flushes t).2.2.1, ?_⟩
  show i ∈ ((View.whole main_v21_3).slice (win0_11.rect t)).set
  rw [View.set_slice_whole, Rect.mem_set_unit]
  intro a
  match a with
  | ⟨0, _⟩ => show win0_11.index t 0 * 32 ≤ (i 0 : Nat) ∧ (i 0 : Nat) < win0_11.index t 0 * 32 + 32; rw [(atRows t).2.2.2.2.1.1]; omega
  | ⟨1, _⟩ => show win0_11.index t 1 * 1024 ≤ (i 1 : Nat) ∧ (i 1 : Nat) < win0_11.index t 1 * 1024 + 1024; rw [(atRows t).2.2.2.2.1.2]; omega

/-- What a point writes back to the third group of columns is its block of the reference. -/
theorem flushed_eq12 (c : Dev nD) (t : Fin cfg0.N) (hf : (cfg0.win 12).flush t = true) :
    (dats m 0 c).flushed 12 t = (win0_12.blk t).view.read (Elt Ideal) (goal12 m c) := by
  rw [Value.flushed12_A m c t, out_12]
  funext y
  obtain ⟨r, j, rfl⟩ : ∃ (r : Fin 32) (j : Fin 1024), y = ix2 r j := ⟨y 0, y 1, eq_ix2 y⟩
  have e : (win0_12.rect t).emb (ix2 r j) = ix2 (rowOf t r) j := by
    refine funext fun a => Fin.ext ((win0_12.rect_emb_val t (ix2 r j) a).trans ?_)
    match a with
    | ⟨0, _⟩ => show win0_12.index t 0 * 32 + r.val = _; rw [(atRows t).2.2.2.2.2.1]; rfl
    | ⟨1, _⟩ => show win0_12.index t 1 * 1024 + j.val = j.val; rw [(atRows t).2.2.2.2.2.2]; omega
  refine Eq.trans ?_ (congrArg (goal12 m c) e.symm)
  refine (mixed_blk m c t r ⟨5120 + j.val, by omega⟩).trans ?_
  unfold goal12 val_main_v64
  generalize val_main_v40 (F := Ideal) (arg0 m c) (arg2 m c) (arg3 m c) (arg4 m c) = z
  pointwise
/-- These blocks tile the array. -/
theorem cover12 (i : S128x1024.Idx) : ∃ t : Fin cfg0.N, (cfg0.win 12).flush t = true ∧ i ∈ ((cfg0.win 12).blk t).view.set := by
  have h0 : (i 0 : Nat) < 128 := (i 0).isLt
  have h1 : (i 1 : Nat) < 1024 := (i 1).isLt
  have hN : cfg0.N = 4 := N_0
  obtain ⟨t, ht⟩ : ∃ t : Fin cfg0.N, t.val = (i 0 : Nat) / 32 := ⟨⟨(i 0 : Nat) / 32, by rw [hN]; omega⟩, rfl⟩
  refine ⟨t, (flushes t).2.2.2.1, ?_⟩
  show i ∈ ((View.whole main_v21_4).slice (win0_12.rect t)).set
  rw [View.set_slice_whole, Rect.mem_set_unit]
  intro a
  match a with
  | ⟨0, _⟩ => show win0_12.index t 0 * 32 ≤ (i 0 : Nat) ∧ (i 0 : Nat) < win0_12.index t 0 * 32 + 32; rw [(atRows t).2.2.2.2.2.1]; omega
  | ⟨1, _⟩ => show win0_12.index t 1 * 1024 ≤ (i 1 : Nat) ∧ (i 1 : Nat) < win0_12.index t 1 * 1024 + 1024; rw [(atRows t).2.2.2.2.2.2]; omega

/-- Where point `t`'s block of the new buffers lies: in the first layer, at the point's rows. -/
theorem emb13 (t : Fin cfg0.N) (l : Fin 1) (k : Fin 3) (r : Fin 32) (j : Fin 6144) :
    (win0_13.rect t).emb (ix4 l k r j) = ix4 0 k (rowOf t r) j := by
  refine funext fun a => Fin.ext ((win0_13.rect_emb_val t (ix4 l k r j) a).trans ?_)
  match a with
  | ⟨0, _⟩ => show win0_13.index t 0 * 1 + l.val = 0; rw [(atStates t).2.1]; omega
  | ⟨1, _⟩ => show win0_13.index t 1 * 3 + k.val = k.val; rw [(atStates t).2.2.1]; omega
  | ⟨2, _⟩ => show win0_13.index t 2 * 32 + r.val = _; rw [(atStates t).2.2.2.1]; rfl
  | ⟨3, _⟩ => show win0_13.index t 3 * 6144 + j.val = j.val; rw [(atStates t).2.2.2.2]; omega

/-- What a point writes back there is the reference's. -/
theorem flushed_eq13 (c : Dev nD) (t : Fin cfg0.N) (k : Fin 3) (r : Fin 32) (j : Fin 6144) :
    (dats m 0 c).flushed 13 t (ix4 0 k r j) = goal13 m c (ix4 0 k (rowOf t r) j) := by
  rw [Value.flushed13_A m c t, out_13]
  refine Eq.trans ?_ (state_apply _ _ 0 k (rowOf t r) j).symm
  show (if h : 1 + k.val < 3 then iblk m c 7 t (ix4 0 ⟨1 + k.val, h⟩ r j) else iblk m c 0 t (ix2 r j)) = _
  simp only [blk0, blk7]
  rfl

/-- The new buffers after the run: the points' blocks in the first layer, the zeros it started from in the others. -/
theorem state_eq (c : Dev nD) : (dats m 0 c).arrAt 13 cfg0.N = goal13 m c := by
  have hN : cfg0.N = 4 := N_0
  funext i
  obtain ⟨l, k, r, j, rfl⟩ : ∃ (l : Fin 4) (k : Fin 3) (r : Fin 128) (j : Fin 6144), i = ix4 l k r j := ⟨i 0, i 1, i 2, i 3, eq_ix4 i⟩
  by_cases hl : l.val < 1
  · obtain ⟨t, ht⟩ : ∃ t : Fin cfg0.N, t.val = r.val / 32 := ⟨⟨r.val / 32, by rw [hN]; omega⟩, rfl⟩
    obtain ⟨r', hr⟩ : ∃ r' : Fin 32, r'.val = r.val % 32 := ⟨⟨r.val % 32, by omega⟩, rfl⟩
    obtain rfl : l = 0 := Fin.ext (by show l.val = 0; omega)
    obtain rfl : r = rowOf t r' := Fin.ext (by show r.val = t.val * 32 + r'.val; omega)
    refine Eq.trans ?_ (flushed_eq13 m c t k r' j)
    rw [← Value.blocks13 m c t (flushes t).2.2.2.2]
    exact congrArg ((dats m 0 c).arrAt 13 cfg0.N) (emb13 t 0 k r' j).symm
  · refine (Value.entry13 m c _ fun t _ hmem => ?_).trans ((V_new m c _).trans ?_)
    · have h : ix4 l k r j ∈ ((View.whole main_v21_5).slice (win0_13.rect t)).set := hmem
      rw [View.set_slice_whole, Rect.mem_set_unit] at h
      have h0 : l.val < win0_13.index t 0 * 1 + 1 := (h 0).2
      rw [(atStates t).2.1] at h0
      omega
    · rw [show goal13 m c (ix4 l k r j) = _ from state_apply _ _ l k r j, if_neg hl]

/-- The run, read: the result arrays hold the reference's of the arguments, which are as launched. -/
theorem run : θ_run defs (onTc (τ := τ) (main (F := Ideal))) ⟨m, fun _ => 0, ρ⟩ fun r => ∀ c : Dev nD,
      r.2.mem ((c : Thread nD τ).loc main_v21_0) = goal8 m c
      ∧ r.2.mem ((c : Thread nD τ).loc main_v21_2) = goal10 m c
      ∧ r.2.mem ((c : Thread nD τ).loc main_v21_3) = goal11 m c
      ∧ r.2.mem ((c : Thread nD τ).loc main_v21_4) = goal12 m c
      ∧ r.2.mem ((c : Thread nD τ).loc main_v21_5) = goal13 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans ((dats m 0 c).arrAt_eq_of_cover 8 (goal8 m c) (flushed_eq8 m c) cover8),
      (h c).2.2.1.trans ((dats m 0 c).arrAt_eq_of_cover 10 (goal10 m c) (flushed_eq10 m c) cover10),
      (h c).2.2.2.1.trans ((dats m 0 c).arrAt_eq_of_cover 11 (goal11 m c) (flushed_eq11 m c) cover11),
      (h c).2.2.2.2.1.trans ((dats m 0 c).arrAt_eq_of_cover 12 (goal12 m c) (flushed_eq12 m c) cover12),
      (h c).2.2.2.2.2.1.trans (state_eq m c), (h c).2.2.2.2.2.2⟩)
    (Value.run_blocks m ρ)

/-- The reference leaves its arguments as launched and every semaphore counter at zero. -/
theorem ref_frame : Cert.quiescent_ConvSampleRefIdeal := fun m ρ _ =>
  (θ_run Cert.ConvSampleRefIdeal.defs _ _).mono
    (fun r h => ⟨fun c => (h c).2.2.2.2.2, Idealize.ShloMosaic.sem_eq_zero_of_no_sems (by decide) r.2⟩)
    (Cert.ConvSampleRefIdeal.Value.run m ρ)

/-- From equal arguments the kernel and the reference end with equal results. -/
theorem agrees : Cert.algebraic_ConvSampleIdeal_ConvSampleRefIdeal := by
  intro m ρ m' ρ' _ hagree
  refine ⟨fun c => goal8 m c, fun c => goal10 m c, fun c => goal11 m c, fun c => goal12 m c, fun c => goal13 m c, run m ρ,
    (θ_run Cert.ConvSampleRefIdeal.defs _ _).mono (fun _ h c => ⟨(h c).1.trans ?_, (h c).2.1.trans ?_, (h c).2.2.1.trans ?_, (h c).2.2.2.1.trans ?_,
      (h c).2.2.2.2.1.trans ?_, (h c).2.2.2.2.2⟩)
      (Cert.ConvSampleRefIdeal.Value.run (F := Ideal) m' ρ')⟩
  · obtain ⟨h0, h1, h2, h3, h4, h5, h6⟩ := hagree c
    refine (val_main_v62_eq m' c).trans ?_
    rw [h0, h2, h3, h4]
  · obtain ⟨h0, h1, h2, h3, h4, h5, h6⟩ := hagree c
    rw [h1, h5, h6]
    exact val_main_v56_eq _ _ _
  · obtain ⟨h0, h1, h2, h3, h4, h5, h6⟩ := hagree c
    refine (val_main_v63_eq m' c).trans ?_
    rw [h0, h2, h3, h4]
  · obtain ⟨h0, h1, h2, h3, h4, h5, h6⟩ := hagree c
    refine (val_main_v64_eq m' c).trans ?_
    rw [h0, h2, h3, h4]
  · obtain ⟨h0, h1, h2, h3, h4, h5, h6⟩ := hagree c
    rw [h0, h2]
    exact val_main_v61_eq _ _

end ConvSampleValue
-- ==== Proof.AttnRef.lean ====
/-
  The attention over the memory, as its reference states it, read at an index: the queries, the scores, their softmax, the
  heads' results and the normalized row, each as a function of the rows it is computed from.
-/
module

public import proofs.«01_k».proof.Defs
public import proofs.«01_k».proof.Proof.Gen.AttnRefIdeal.Run
public import proofs.«01_k».proof.Proof.Gen.AttnRefIdeal.Read
public import proofs.«01_k».proof.Proof.RowNorm
public import Idealize.ShloMosaic.Lib.Pipeline.Value
public import Idealize.ShloMosaic.Lib.Quiescent

@[expose] public section

set_option maxRecDepth 16384

noncomputable section

namespace AttnRef

open Idealize.ShloMosaic Idealize.ShloMosaic.TcCoe Idealize.SL.Sem
open RowNorm
open Cert.AttnRefIdeal.Read

/-- One over the root of a head's width, as the real number. -/
def invRoot : EReal := (((Real.sqrt 128)⁻¹ : ℝ) : EReal)

/-- The reference's 128 is the number 128, -/
theorem width_eq : Ideal.ofBits .f32 0x43000000#32 = ((128 : ℝ) : EReal) := by
  simp [Ideal.ofBits, Ideal.ieee, -EReal.coe_mul]; norm_num

/-- and division by its root is multiplication by the number above. -/
theorem div_root (x : EReal) : Ideal.div x (Ideal.sqrt (Ideal.ofBits .f32 0x43000000#32)) = x * invRoot := by
  rw [width_eq, Ideal.sqrt_coe, if_neg (by norm_num), Ideal.div_coe (Real.sqrt_pos.mpr (by norm_num)).ne', one_div]
  rfl

/-- The least of the extended reals changes no maximum. -/
theorem max_least (x : EReal) : max (Ideal.ofBits .f32 0xFF800000#32) x = x := by
  simp [Ideal.ofBits, Ideal.ieee]

/-- How well a query matches a key. -/
def score (q k : Fin 128 → EReal) : EReal := (∑ d, q d * k d) * invRoot

/-- The greatest of a row of scores. -/
def peak (s : Fin 256 → EReal) : EReal := Finset.univ.fold max (Ideal.ofBits .f32 0xFF800000#32) s

/-- The softmax of a row of scores, at `m`. -/
def weight (s : Fin 256 → EReal) (m : Fin 256) : EReal :=
  Ideal.div (Ideal.exp (s m - peak s)) (∑ k, Ideal.exp (s k - peak s))

/-- A head's result in one column: its query `q` against the keys, and the values `v` of that column. -/
def head (q : Fin 128 → EReal) (keys : Fin 256 → Fin 128 → EReal) (v : Fin 256 → EReal) : EReal :=
  ∑ m, weight (fun m => score q (keys m)) m * v m

/-- The query row of `x` at column `c`. -/
def query (x : Fin 2048 → EReal) (wq : Fin 2048 → Fin 512 → EReal) (c : Fin 512) : EReal := ∑ l, x l * wq l c

/-- For the row `x`, the result of the head whose columns are `e`, in its column `d`. -/
def attended (x : Fin 2048 → EReal) (wq : Fin 2048 → Fin 512 → EReal) (mk mv : Fin 256 → Fin 512 → EReal) (e : Fin 128 → Fin 512) (d : Fin 128) : EReal :=
  head (fun d => query x wq (e d)) (fun m d => mk m (e d)) (fun m => mv m (e d))

/-- The columns of a head that begin at `o`. -/
abbrev from_ (o : ℕ) (ho : o + 128 ≤ 512) (d : Fin 128) : Fin 512 := ⟨o + d.val, by omega⟩

/-- The maximum along the last of four axes, as a fold over that axis. -/
theorem max_last {n0 n1 n2 n3 : ℕ} {t u : Shape} (x : (⟨4, ![n0, n1, n2, n3]⟩ : Shape).Idx → EReal) (init : u.Idx → EReal)
    (h : (⟨4, ![n0, n1, n2, n3]⟩ : Shape).ReducesTo [3] t) (hu : 0 < u.numel) (j : t.Idx) (w : EReal) (hw : ∀ i, init i = w)
    (y : Fin n3 → EReal) (hy : ∀ k, x (ix4 ⟨(j ⟨0, h.lt_r4_a3_0⟩).val, Shape.coordLt (j ⟨0, h.lt_r4_a3_0⟩) h.size_r4_a3_0⟩ ⟨(j ⟨1, h.lt_r4_a3_1⟩).val, Shape.coordLt (j ⟨1, h.lt_r4_a3_1⟩) h.size_r4_a3_1⟩ ⟨(j ⟨2, h.lt_r4_a3_2⟩).val, Shape.coordLt (j ⟨2, h.lt_r4_a3_2⟩) h.size_r4_a3_2⟩ k) = y k) :
    Host.reduce (FloatOps.maximumf (F := Ideal) (φ := .f32)) x init h hu j = Finset.univ.fold max w y := by
  refine (Host.reduce_eq_fold _ x init h hu j).trans ((h.fold_fiber_r4_a3 j _ _ x).trans ?_)
  rw [hw, funext hy]
  rfl

section Reference

variable (x0 : (⟨3, ![4, 2048, 2048]⟩ : Shape).Idx → EReal) (x1 x2 : (⟨3, ![4, 256, 512]⟩ : Shape).Idx → EReal) (x3 : (⟨3, ![4, 2048, 512]⟩ : Shape).Idx → EReal)
  (x4 : (⟨3, ![4, 512, 2048]⟩ : Shape).Idx → EReal) (x5 x6 : (⟨2, ![4, 2048]⟩ : Shape).Idx → EReal)

/-- The columns of head `h`. -/
abbrev colOf (h : Fin 4) (d : Fin 128) : Fin 512 := ⟨h.val * 128 + d.val, by omega⟩

/-- The reference's queries, -/
theorem ref_query (b : Fin 4) (r : Fin 2048) (c : Fin 512) :
    val_main_v2 (F := Ideal) x0 x3 (ix3 b r c) = query (fun l => x0 (ix3 b r l)) (fun l c => x3 (ix3 0 l c)) c := by
  pointwise [val_main_v2, val_main_v1, val_main_v0, query]

/-- its scores, -/
theorem ref_score (b h : Fin 4) (r : Fin 2048) (m : Fin 256) :
    val_main_v8 (F := Ideal) x0 x1 x3 (ix4 b h r m)
      = score (fun d => query (fun l => x0 (ix3 b r l)) (fun l c => x3 (ix3 0 l c)) (colOf h d)) (fun d => x1 (ix3 b m (colOf h d))) := by
  pointwise [val_main_v8, val_main_v7, val_main_v6, val_main_cst, val_main_v5, val_main_v4, val_main_v3, score]
  simp only [div_root, ref_query]

/-- the greatest of a row of them, -/
theorem ref_peak (b h : Fin 4) (r : Fin 2048) :
    val_main_v9 (F := Ideal) x0 x1 x3 (ix3 b h r) = peak (fun m => val_main_v8 (F := Ideal) x0 x1 x3 (ix4 b h r m)) := by
  unfold val_main_v9
  generalize val_main_v8 (F := Ideal) x0 x1 x3 = s
  exact max_last s _ _ _ _ _ (fun _ => rfl) _ fun _ => rfl

/-- their softmax, -/
theorem ref_exp (b h : Fin 4) (r : Fin 2048) (m : Fin 256) :
    val_main_v15 (F := Ideal) x0 x1 x3 (ix4 b h r m)
      = Ideal.exp (val_main_v8 (F := Ideal) x0 x1 x3 (ix4 b h r m) - peak (fun m => val_main_v8 (F := Ideal) x0 x1 x3 (ix4 b h r m))) := by
  have e : idx_main_v12 (idx_main_v13 (ix4 b h r m)) = ix3 b h r := funext fun a => match a with
    | ⟨0, _⟩ => rfl
    | ⟨1, _⟩ => rfl
    | ⟨2, _⟩ => rfl
  rw [val_main_v15_apply, val_main_v14_apply, val_main_v13_apply, val_main_v12_apply, val_main_v11_apply, val_main_v10_apply, e, ref_peak]
  exact congrArg (fun z => Ideal.exp (val_main_v8 (F := Ideal) x0 x1 x3 (ix4 b h r m) - z)) (max_least _)
theorem ref_weight (b h : Fin 4) (r : Fin 2048) (m : Fin 256) :
    val_main_v19 (F := Ideal) x0 x1 x3 (ix4 b h r m)
      = weight (fun m => val_main_v8 (F := Ideal) x0 x1 x3 (ix4 b h r m)) m := by
  have e (k : Fin 256) := ref_exp x0 x1 x3 b h r k
  unfold val_main_v19 val_main_v18 val_main_v17 val_main_v16 weight
  generalize val_main_v15 (F := Ideal) x0 x1 x3 = y at e ⊢
  generalize val_main_v8 (F := Ideal) x0 x1 x3 = s at e ⊢
  pointwise [val_main_cst_2]
  simp only [e]

/-- and the heads' results. -/
theorem ref_attended (b h : Fin 4) (r : Fin 2048) (d : Fin 128) :
    val_main_v23 (F := Ideal) x0 x1 x2 x3 (ix3 b r (colOf h d))
      = attended (fun l => x0 (ix3 b r l)) (fun l c => x3 (ix3 0 l c)) (fun m c => x1 (ix3 b m c)) (fun m c => x2 (ix3 b m c)) (colOf h) d := by
  have e1 : (h.val * 128 + d.val) / 128 = h.val := by omega
  have e2 : (h.val * 128 + d.val) % 128 = d.val := by omega
  pointwise [val_main_v23, val_main_v22, val_main_v21, val_main_v20]
  simp only [e1, e2, Fin.eta, ref_weight, ref_score, attended, head]
  exact Finset.sum_congr rfl fun m _ => mul_comm _ _

/-- The reference's row before its normalization, at `q`. -/
def row (x : Fin 2048 → EReal) (o : Fin 512 → EReal) (wo : Fin 512 → Fin 2048 → EReal) (q : Fin 2048) : EReal :=
  scaled (x q) + ∑ c, o c * wo c q

/-- The reference at (b, r, j). -/
theorem goal_apply (b : Fin 4) (r j : Fin 2048) :
    val_main_v57 (F := Ideal) x0 x1 x2 x3 x4 x5 x6 (ix3 b r j)
      = normed (row (fun l => x0 (ix3 b r l)) (fun c => val_main_v23 (F := Ideal) x0 x1 x2 x3 (ix3 b r c)) (fun c q => x4 (ix3 0 c q)))
          (x5 (ix2 0 j)) (x6 (ix2 0 j)) j := by
  pointwise [val_main_v57, val_main_v56, val_main_v55, val_main_v54, val_main_v53, val_main_v52, val_main_v51, val_main_v50, val_main_v49, val_main_v48, val_main_v47, val_main_cst_8, val_main_v46, val_main_v45, val_main_v44, val_main_v43, val_main_cst_7, val_main_v42, val_main_v41, val_main_cst_6, val_main_v40, val_main_v39, val_main_v38, val_main_v37, val_main_v36, val_main_cst_5, val_main_v35, val_main_v34, val_main_cst_4, val_main_v33, val_main_v32, val_main_v31, val_main_v30, val_main_v29, val_main_v28, val_main_v27, val_main_cst_3, val_main_v26, val_main_v25, val_main_v24, normed, mean, row, scaled]

end Reference

end AttnRef
-- ==== Proof.AttnValue.lean ====
/-
  The attention over the memory: the run of the fused call leaves, in its two result arrays, the reference's normalized
  rows of the same arguments, in f32 and in bf16. Each grid point takes 512 rows of one sequence, and the four heads are
  written out one after another.
-/
module

public import proofs.«01_k».proof.Defs
public import proofs.«01_k».proof.Proof.Gen.AttnIdeal.Value
public import proofs.«01_k».proof.Proof.Gen.AttnRefIdeal.Run
public import proofs.«01_k».proof.Proof.Gen.AttnRefIdeal.Read
public import proofs.«01_k».proof.Proof.RowNorm
public import proofs.«01_k».proof.Proof.AttnRef
public import Idealize.ShloMosaic.Lib.Pipeline.Value
public import Idealize.ShloMosaic.Lib.Quiescent

@[expose] public section

set_option maxRecDepth 16384

noncomputable section

namespace AttnValue

open Cert.AttnIdeal Cert.AttnIdeal.Gen
open Idealize.ShloMosaic Idealize.ShloMosaic.TcCoe Idealize.SL.Sem
open Idealize.ShloMosaic.Pipeline (Dat)
open RowNorm AttnRef
open Cert.AttnRefIdeal.Read

/-- The kernel's named constant is one over the root of a head's width. -/
theorem named_eq : Named.named (F := Ideal) κ "inv_sqrt_d" (φ := .f32) 0x3DB504F3#32 = invRoot :=
  IdealRules.named_const.ideal_named_scalar _ _ _ _ rfl

/-- The columns of a head that begin at `o`. -/
abbrev from_ (o : ℕ) (ho : o + 128 ≤ 512) (d : Fin 128) : Fin 512 := ⟨o + d.val, by omega⟩

section Blocks

variable (x0 : Vec Ideal S1x512x2048 .bf16) (x1 : Vec Ideal S1x512x2048 .f32) (x2 x3 : Vec Ideal S1x256x512 .f32)
  (x4 : Vec Ideal S1x2048x512 .bf16) (x5 : Vec Ideal S1x512x2048 .bf16) (x6 x7 : Vec Ideal S1x1x2048 .f32)

/-- The queries of the block at (r, c). -/
theorem pay_query (r c : Fin 512) :
    k0_pay2 (F := Ideal) x0 x4 (ix2 r c) = query (fun l => x0 (ix3 0 r l)) (fun l c => x4 (ix3 0 l c)) c := by
  pointwise [k0_pay2, query]

/-- The block's result of a head whose columns are `e`, at (r, d). -/
abbrev headAt (r : Fin 512) (e : Fin 128 → Fin 512) (d : Fin 128) : EReal :=
  attended (fun l => x0 (ix3 0 r l)) (fun l c => x4 (ix3 0 l c)) (fun m c => x2 (ix3 0 m c)) (fun m c => x3 (ix3 0 m c)) e d

/-- The first head's result. -/
theorem pay_first (r : Fin 512) (d : Fin 128) :
    k0_pay5 (F := Ideal) x0 x4 x2 x3 (ix2 r d) = headAt x0 x2 x3 x4 r (fun d => ⟨d.val, by omega⟩) d := by
  pointwise [k0_pay5, k0_pay3, k0_pay4, headAt, attended, head, weight, peak, score]
  simp only [named_eq, pay_query]

/-- The four heads' results, side by side, -/
abbrev sides (x0 : Vec Ideal S1x512x2048 .bf16) (x2 x3 : Vec Ideal S1x256x512 .f32) (x4 : Vec Ideal S1x2048x512 .bf16) : FVec Ideal S512x512 .bf16 :=
  k0_pay8 (F := Ideal) (k0_pay2 x0 x4) (k0_pay3 x2) (k0_pay4 x3) (k0_pay5 x0 x4 x2 x3) (k0_pay6 x0 x4 x2) (k0_pay7 x0 x4 x2)

/-- in the columns of each. -/
theorem sides_0 (r : Fin 512) (d : Fin 128) : sides x0 x2 x3 x4 (ix2 r ⟨d.val, by omega⟩) = k0_pay5 (F := Ideal) x0 x4 x2 x3 (ix2 r d) := by
  pointwise [sides, k0_pay8]
theorem sides_1 (r : Fin 512) (d : Fin 128) : sides x0 x2 x3 x4 (ix2 r ⟨128 + d.val, by omega⟩) = headAt x0 x2 x3 x4 r (from_ 128 (by omega)) d := by
  pointwise [sides, k0_pay8, k0_pay6, k0_pay7, k0_pay3, k0_pay4, headAt, from_, attended, head, weight, peak, score]
  simp only [named_eq, pay_query]
theorem sides_2 (r : Fin 512) (d : Fin 128) : sides x0 x2 x3 x4 (ix2 r ⟨256 + d.val, by omega⟩) = headAt x0 x2 x3 x4 r (from_ 256 (by omega)) d := by
  have e : 256 + d.val - 128 - 128 = d.val := by omega
  pointwise [sides, k0_pay8, k0_pay3, k0_pay4, headAt, from_, attended, head, weight, peak, score]
  simp only [named_eq, pay_query, e]
  rw [dif_neg (by omega), dif_neg (by omega), dif_pos (by omega)]
theorem sides_3 (r : Fin 512) (d : Fin 128) : sides x0 x2 x3 x4 (ix2 r ⟨384 + d.val, by omega⟩) = headAt x0 x2 x3 x4 r (from_ 384 (by omega)) d := by
  have e : 384 + d.val - 128 - 128 - 128 = d.val := by omega
  pointwise [sides, k0_pay8, k0_pay3, k0_pay4, headAt, from_, attended, head, weight, peak, score]
  simp only [named_eq, pay_query, e]
  rw [dif_neg (by omega), dif_neg (by omega), dif_neg (by omega)]

/-- Each head's columns hold its result. -/
theorem sides_apply (r : Fin 512) (h : Fin 4) (d : Fin 128) : sides x0 x2 x3 x4 (ix2 r (colOf h d)) = headAt x0 x2 x3 x4 r (colOf h) d := by
  have at_ (c : Fin 512) (e : Fin 128 → Fin 512) (hc : sides x0 x2 x3 x4 (ix2 r c) = headAt x0 x2 x3 x4 r e d) (h1 : colOf h d = c) (h2 : colOf h = e) :
      sides x0 x2 x3 x4 (ix2 r (colOf h d)) = headAt x0 x2 x3 x4 r (colOf h) d := by
    rw [h1, h2, hc]
  match h with
  | 0 => exact at_ _ _ ((sides_0 x0 x2 x3 x4 r d).trans (pay_first x0 x2 x3 x4 r d)) (Fin.ext (by show 0 * 128 + d.val = d.val; omega))
          (funext fun d => Fin.ext (by show 0 * 128 + d.val = d.val; omega))
  | 1 => exact at_ _ _ (sides_1 x0 x2 x3 x4 r d) (Fin.ext (by show 1 * 128 + d.val = 128 + d.val; omega))
          (funext fun d => Fin.ext (by show 1 * 128 + d.val = 128 + d.val; omega))
  | 2 => exact at_ _ _ (sides_2 x0 x2 x3 x4 r d) (Fin.ext (by show 2 * 128 + d.val = 256 + d.val; omega))
          (funext fun d => Fin.ext (by show 2 * 128 + d.val = 256 + d.val; omega))
  | 3 => exact at_ _ _ (sides_3 x0 x2 x3 x4 r d) (Fin.ext (by show 3 * 128 + d.val = 384 + d.val; omega))
          (funext fun d => Fin.ext (by show 3 * 128 + d.val = 384 + d.val; omega))

/-- The normalized rows, from the heads' results `o`. -/
theorem pay_rows (o : FVec Ideal S512x512 .bf16) (r : Fin 512) (j : Fin 2048) :
    k0_pay10 (F := Ideal) o x5 x1 x6 x7 (ix3 0 r j)
      = normed (row (fun l => x1 (ix3 0 r l)) (fun c => o (ix2 r c)) (fun c q => x5 (ix3 0 c q))) (x6 (ix3 0 0 j)) (x7 (ix3 0 0 j)) j := by
  pointwise [k0_pay10, k0_pay9, normed, mean, row, scaled]

/-- The f32 block the body leaves, at an index. -/
theorem out8_apply (r : Fin 512) (j : Fin 2048) :
    out0_8 (F := Ideal) x0 x1 x2 x3 x4 x5 x6 x7 (ix3 0 r j)
      = normed (row (fun l => x1 (ix3 0 r l)) (fun c => sides x0 x2 x3 x4 (ix2 r c)) (fun c q => x5 (ix3 0 c q))) (x6 (ix3 0 0 j)) (x7 (ix3 0 0 j)) j := by
  have hz : (![0, 0, 0] : Fin 3 → Nat) = fun _ => 0 := funext fun a => by fin_cases a <;> rfl
  unfold out0_8 k0_pay12
  rw [View.canon_unit_zero hz, View.ld_unit_zero hz, View.ld_unit_zero hz, View.ld_unit_zero hz, View.ld_unit_zero hz, View.ld_unit_zero hz,
    View.ld_unit_zero hz, View.ld_unit_zero hz, View.ld_unit_zero hz]
  exact pay_rows x1 x5 x6 x7 _ r j

/-- The bf16 block is the f32 one: over the extended reals the conversion changes nothing. -/
theorem out9_eq (y : S1x512x2048.Idx) : out0_9 (F := Ideal) x0 x1 x2 x3 x4 x5 x6 x7 y = out0_8 (F := Ideal) x0 x1 x2 x3 x4 x5 x6 x7 y := rfl

end Blocks

variable (m : (ℓ : Loc nD τ sig) → Buf (Elt Ideal) ℓ) (ρ : Dev nD → PrngReg)

/-- Device `c`'s arguments as launched: the rows, the memory's keys and values, the two stacked weights, the stacked
    scale and shift. -/
abbrev arg0 (c : Dev nD) : (⟨3, ![4, 2048, 2048]⟩ : Shape).Idx → EReal := m ((c : Thread nD τ).loc main_arg0)
abbrev arg1 (c : Dev nD) : (⟨3, ![4, 256, 512]⟩ : Shape).Idx → EReal := m ((c : Thread nD τ).loc main_arg1)
abbrev arg2 (c : Dev nD) : (⟨3, ![4, 256, 512]⟩ : Shape).Idx → EReal := m ((c : Thread nD τ).loc main_arg2)
abbrev arg3 (c : Dev nD) : (⟨3, ![4, 2048, 512]⟩ : Shape).Idx → EReal := m ((c : Thread nD τ).loc main_arg3)
abbrev arg4 (c : Dev nD) : (⟨3, ![4, 512, 2048]⟩ : Shape).Idx → EReal := m ((c : Thread nD τ).loc main_arg4)
abbrev arg5 (c : Dev nD) : (⟨2, ![4, 2048]⟩ : Shape).Idx → EReal := m ((c : Thread nD τ).loc main_arg5)
abbrev arg6 (c : Dev nD) : (⟨2, ![4, 2048]⟩ : Shape).Idx → EReal := m ((c : Thread nD τ).loc main_arg6)

/-- What the reference computes from device `c`'s arguments. -/
abbrev goal (c : Dev nD) : (⟨3, ![4, 2048, 2048]⟩ : Shape).Idx → EReal :=
  val_main_v57 (F := Ideal) (arg0 m c) (arg1 m c) (arg2 m c) (arg3 m c) (arg4 m c) (arg5 m c) (arg6 m c)

/-- The region finds the rows and the two weights in its operands, -/
theorem V_0 (c : Dev nD) : V m c main_v0 = arg0 m c := by
  unfold V hostOps0
  after_results
  rfl
theorem V_1 (c : Dev nD) : V m c main_v1 = arg3 m c := by
  unfold V hostOps0
  after_results
  rfl
theorem V_2 (c : Dev nD) : V m c main_v2 = arg4 m c := by
  unfold V hostOps0
  after_results
  rfl

/-- and the scale and the shift, each as one row per layer. -/
theorem V_3 (c : Dev nD) (l : Fin 4) (j : Fin 2048) : V m c main_v3 (ix3 l 0 j) = arg5 m c (ix2 l j) := by
  have e : V m c main_v3 = shapeCast S4x1x2048 (arg5 m c) shapeCasts_S4x2048_S4x1x2048 := by
    unfold V hostOps0
    after_results
    rfl
  rw [e]
  pointwise
theorem V_4 (c : Dev nD) (l : Fin 4) (j : Fin 2048) : V m c main_v4 (ix3 l 0 j) = arg6 m c (ix2 l j) := by
  have e : V m c main_v4 = shapeCast S4x1x2048 (arg6 m c) shapeCasts_S4x2048_S4x1x2048 := by
    unfold V hostOps0
    after_results
    rfl
  rw [e]
  pointwise

/-- Where point `t`'s blocks of rows lie: four consecutive points share a sequence, and each takes the next 512 of its rows. -/
theorem atRows : ∀ t : Fin cfg0.N, (win0_0.index t 0 = t.val / 4 ∧ win0_0.index t 1 = t.val % 4 ∧ win0_0.index t 2 = 0)
    ∧ (win0_1.index t 0 = t.val / 4 ∧ win0_1.index t 1 = t.val % 4 ∧ win0_1.index t 2 = 0)
    ∧ (win0_8.index t 0 = t.val / 4 ∧ win0_8.index t 1 = t.val % 4 ∧ win0_8.index t 2 = 0)
    ∧ (win0_9.index t 0 = t.val / 4 ∧ win0_9.index t 1 = t.val % 4 ∧ win0_9.index t 2 = 0) :=
  (by decide +kernel : ∀ t : Fin grid0.N, (win0_0.index t 0 = t.val / 4 ∧ win0_0.index t 1 = t.val % 4 ∧ win0_0.index t 2 = 0)
    ∧ (win0_1.index t 0 = t.val / 4 ∧ win0_1.index t 1 = t.val % 4 ∧ win0_1.index t 2 = 0)
    ∧ (win0_8.index t 0 = t.val / 4 ∧ win0_8.index t 1 = t.val % 4 ∧ win0_8.index t 2 = 0)
    ∧ (win0_9.index t 0 = t.val / 4 ∧ win0_9.index t 1 = t.val % 4 ∧ win0_9.index t 2 = 0))
/-- The memory's blocks are the sequence's. -/
theorem atMem : ∀ t : Fin cfg0.N, (win0_2.index t 0 = t.val / 4 ∧ win0_2.index t 1 = 0 ∧ win0_2.index t 2 = 0)
    ∧ (win0_3.index t 0 = t.val / 4 ∧ win0_3.index t 1 = 0 ∧ win0_3.index t 2 = 0) :=
  (by decide +kernel : ∀ t : Fin grid0.N, (win0_2.index t 0 = t.val / 4 ∧ win0_2.index t 1 = 0 ∧ win0_2.index t 2 = 0)
    ∧ (win0_3.index t 0 = t.val / 4 ∧ win0_3.index t 1 = 0 ∧ win0_3.index t 2 = 0))
/-- The weights', scale's and shift's blocks are the first layer's, at every point. -/
theorem atWeights : ∀ t : Fin cfg0.N, (∀ a, win0_4.index t a = 0) ∧ (∀ a, win0_5.index t a = 0) ∧ (∀ a, win0_6.index t a = 0) ∧ ∀ a, win0_7.index t a = 0 :=
  (by decide +kernel : ∀ t : Fin grid0.N, (∀ a, win0_4.index t a = 0) ∧ (∀ a, win0_5.index t a = 0) ∧ (∀ a, win0_6.index t a = 0) ∧ ∀ a, win0_7.index t a = 0)

theorem lt_N (t : Fin cfg0.N) : t.val < 16 := by have := t.isLt; have hN : cfg0.N = 16 := N_0; omega

/-- The sequence that point `t` works on, -/
abbrev seqOf (t : Fin cfg0.N) : Fin 4 := ⟨t.val / 4, by have := lt_N t; omega⟩
/-- and the row of it that row `r` of the point's blocks is. -/
abbrev rowOf (t : Fin cfg0.N) (r : Fin 512) : Fin 2048 := ⟨t.val % 4 * 512 + r.val, by omega⟩

/-- Each operand's block at point `t`, read at an index. -/
theorem blk0 (c : Dev nD) (t : Fin cfg0.N) (r : Fin 512) (k : Fin 2048) : iblk m c 0 t (ix3 0 r k) = arg0 m c (ix3 (seqOf t) (rowOf t r) k) := by
  show V m c main_v0 ((win0_0.rect t).emb (ix3 0 r k)) = _
  rw [V_0]
  refine congrArg (arg0 m c) (funext fun a => Fin.ext ((win0_0.rect_emb_val t (ix3 0 r k) a).trans ?_))
  match a with
  | ⟨0, _⟩ => show win0_0.index t 0 * 1 + 0 = t.val / 4; rw [(atRows t).1.1]; omega
  | ⟨1, _⟩ => show win0_0.index t 1 * 512 + r.val = _; rw [(atRows t).1.2.1]; rfl
  | ⟨2, _⟩ => show win0_0.index t 2 * 2048 + k.val = k.val; rw [(atRows t).1.2.2]; omega
theorem blk1 (c : Dev nD) (t : Fin cfg0.N) (r : Fin 512) (k : Fin 2048) : iblk m c 1 t (ix3 0 r k) = arg0 m c (ix3 (seqOf t) (rowOf t r) k) := by
  show V m c main_arg0 ((win0_1.rect t).emb (ix3 0 r k)) = _
  rw [V_main_arg0]
  refine congrArg (arg0 m c) (funext fun a => Fin.ext ((win0_1.rect_emb_val t (ix3 0 r k) a).trans ?_))
  match a with
  | ⟨0, _⟩ => show win0_1.index t 0 * 1 + 0 = t.val / 4; rw [(atRows t).2.1.1]; omega
  | ⟨1, _⟩ => show win0_1.index t 1 * 512 + r.val = _; rw [(atRows t).2.1.2.1]; rfl
  | ⟨2, _⟩ => show win0_1.index t 2 * 2048 + k.val = k.val; rw [(atRows t).2.1.2.2]; omega
theorem blk2 (c : Dev nD) (t : Fin cfg0.N) (k : Fin 256) (q : Fin 512) : iblk m c 2 t (ix3 0 k q) = arg1 m c (ix3 (seqOf t) k q) := by
  show V m c main_arg1 ((win0_2.rect t).emb (ix3 0 k q)) = _
  rw [V_main_arg1]
  refine congrArg (arg1 m c) (funext fun a => Fin.ext ((win0_2.rect_emb_val t (ix3 0 k q) a).trans ?_))
  match a with
  | ⟨0, _⟩ => show win0_2.index t 0 * 1 + 0 = t.val / 4; rw [(atMem t).1.1]; omega
  | ⟨1, _⟩ => show win0_2.index t 1 * 256 + k.val = k.val; rw [(atMem t).1.2.1]; omega
  | ⟨2, _⟩ => show win0_2.index t 2 * 512 + q.val = q.val; rw [(atMem t).1.2.2]; omega
theorem blk3 (c : Dev nD) (t : Fin cfg0.N) (k : Fin 256) (q : Fin 512) : iblk m c 3 t (ix3 0 k q) = arg2 m c (ix3 (seqOf t) k q) := by
  show V m c main_arg2 ((win0_3.rect t).emb (ix3 0 k q)) = _
  rw [V_main_arg2]
  refine congrArg (arg2 m c) (funext fun a => Fin.ext ((win0_3.rect_emb_val t (ix3 0 k q) a).trans ?_))
  match a with
  | ⟨0, _⟩ => show win0_3.index t 0 * 1 + 0 = t.val / 4; rw [(atMem t).2.1]; omega
  | ⟨1, _⟩ => show win0_3.index t 1 * 256 + k.val = k.val; rw [(atMem t).2.2.1]; omega
  | ⟨2, _⟩ => show win0_3.index t 2 * 512 + q.val = q.val; rw [(atMem t).2.2.2]; omega
theorem blk4 (c : Dev nD) (t : Fin cfg0.N) (k : Fin 2048) (q : Fin 512) : iblk m c 4 t (ix3 0 k q) = arg3 m c (ix3 0 k q) := by
  show V m c main_v1 ((win0_4.rect t).emb (ix3 0 k q)) = _
  rw [V_1]
  refine congrArg (arg3 m c) (funext fun a => Fin.ext ((win0_4.rect_emb_val_of_index_zero t a ((atWeights t).1 a) (ix3 0 k q)).trans ?_))
  match a with
  | ⟨0, _⟩ => rfl
  | ⟨1, _⟩ => rfl
  | ⟨2, _⟩ => rfl
theorem blk5 (c : Dev nD) (t : Fin cfg0.N) (k : Fin 512) (q : Fin 2048) : iblk m c 5 t (ix3 0 k q) = arg4 m c (ix3 0 k q) := by
  show V m c main_v2 ((win0_5.rect t).emb (ix3 0 k q)) = _
  rw [V_2]
  refine congrArg (arg4 m c) (funext fun a => Fin.ext ((win0_5.rect_emb_val_of_index_zero t a ((atWeights t).2.1 a) (ix3 0 k q)).trans ?_))
  match a with
  | ⟨0, _⟩ => rfl
  | ⟨1, _⟩ => rfl
  | ⟨2, _⟩ => rfl
theorem blk6 (c : Dev nD) (t : Fin cfg0.N) (j : Fin 2048) : iblk m c 6 t (ix3 0 0 j) = arg5 m c (ix2 0 j) := by
  rw [← V_3]
  show V m c main_v3 ((win0_6.rect t).emb (ix3 0 0 j)) = _
  refine congrArg (V m c main_v3) (funext fun a => Fin.ext ((win0_6.rect_emb_val_of_index_zero t a ((atWeights t).2.2.1 a) (ix3 0 0 j)).trans ?_))
  match a with
  | ⟨0, _⟩ => rfl
  | ⟨1, _⟩ => rfl
  | ⟨2, _⟩ => rfl
theorem blk7 (c : Dev nD) (t : Fin cfg0.N) (j : Fin 2048) : iblk m c 7 t (ix3 0 0 j) = arg6 m c (ix2 0 j) := by
  rw [← V_4]
  show V m c main_v4 ((win0_7.rect t).emb (ix3 0 0 j)) = _
  refine congrArg (V m c main_v4) (funext fun a => Fin.ext ((win0_7.rect_emb_val_of_index_zero t a ((atWeights t).2.2.2 a) (ix3 0 0 j)).trans ?_))
  match a with
  | ⟨0, _⟩ => rfl
  | ⟨1, _⟩ => rfl
  | ⟨2, _⟩ => rfl

/-- The heads' results at point `t`, side by side, are the reference's. -/
theorem sides_goal (c : Dev nD) (t : Fin cfg0.N) (r q : Fin 512) :
    sides (iblk m c 0 t) (iblk m c 2 t) (iblk m c 3 t) (iblk m c 4 t) (ix2 r q)
      = val_main_v23 (F := Ideal) (arg0 m c) (arg1 m c) (arg2 m c) (arg3 m c) (ix3 (seqOf t) (rowOf t r) q) := by
  obtain ⟨h, d, rfl⟩ : ∃ (h : Fin 4) (d : Fin 128), q = colOf h d :=
    ⟨⟨q.val / 128, by omega⟩, ⟨q.val % 128, by omega⟩, Fin.ext (by show q.val = q.val / 128 * 128 + q.val % 128; omega)⟩
  rw [sides_apply, ref_attended]
  have e0 : (fun l => iblk m c 0 t (ix3 0 r l)) = fun l => arg0 m c (ix3 (seqOf t) (rowOf t r) l) := funext fun l => blk0 m c t r l
  have e2 : (fun k q => iblk m c 2 t (ix3 0 k q)) = fun k q => arg1 m c (ix3 (seqOf t) k q) := funext fun k => funext fun q => blk2 m c t k q
  have e3 : (fun k q => iblk m c 3 t (ix3 0 k q)) = fun k q => arg2 m c (ix3 (seqOf t) k q) := funext fun k => funext fun q => blk3 m c t k q
  have e4 : (fun l q => iblk m c 4 t (ix3 0 l q)) = fun l q => arg3 m c (ix3 0 l q) := funext fun l => funext fun q => blk4 m c t l q
  unfold headAt
  rw [e0, e2, e3, e4]

/-- What point `t`'s block holds at (0, r, j) is the reference there. -/
theorem block_goal (c : Dev nD) (t : Fin cfg0.N) (r : Fin 512) (j : Fin 2048) :
    out0_8 (F := Ideal) (iblk m c 0 t) (iblk m c 1 t) (iblk m c 2 t) (iblk m c 3 t) (iblk m c 4 t) (iblk m c 5 t) (iblk m c 6 t) (iblk m c 7 t) (ix3 0 r j)
      = goal m c (ix3 (seqOf t) (rowOf t r) j) := by
  refine (out8_apply _ _ _ _ _ _ _ _ r j).trans (Eq.trans ?_ (goal_apply _ _ _ _ _ _ _ _ _ _).symm)
  have e1 : (fun l => iblk m c 1 t (ix3 0 r l)) = fun l => arg0 m c (ix3 (seqOf t) (rowOf t r) l) := funext fun l => blk1 m c t r l
  have e5 : (fun k q => iblk m c 5 t (ix3 0 k q)) = fun k q => arg4 m c (ix3 0 k q) := funext fun k => funext fun q => blk5 m c t k q
  have es : (fun q => sides (iblk m c 0 t) (iblk m c 2 t) (iblk m c 3 t) (iblk m c 4 t) (ix2 r q))
      = fun q => val_main_v23 (F := Ideal) (arg0 m c) (arg1 m c) (arg2 m c) (arg3 m c) (ix3 (seqOf t) (rowOf t r) q) := funext fun q => sides_goal m c t r q
  rw [e1, e5, es, blk6, blk7]

/-- What point `t` writes back to the f32 array is its block of the reference. -/
theorem flushed_eq8 (c : Dev nD) (t : Fin cfg0.N) :
    (dats m 0 c).flushed 8 t = (win0_8.blk t).view.read (Elt Ideal) (goal m c) := by
  rw [Value.flushed8]
  funext y
  obtain ⟨r, j, rfl⟩ : ∃ (r : Fin 512) (j : Fin 2048), y = ix3 0 r j :=
    ⟨y 1, y 2, (eq_ix3 y).trans (congrArg (ix3 · (y 1) (y 2)) (Subsingleton.elim (α := Fin 1) _ _))⟩
  refine (block_goal m c t r j).trans ?_
  show goal m c _ = goal m c ((win0_8.rect t).emb (ix3 0 r j))
  refine congrArg (goal m c) (funext fun a => Fin.ext (Eq.trans ?_ (win0_8.rect_emb_val t (ix3 0 r j) a).symm))
  match a with
  | ⟨0, _⟩ => show t.val / 4 = win0_8.index t 0 * 1 + 0; rw [(atRows t).2.2.1.1]; omega
  | ⟨1, _⟩ => show t.val % 4 * 512 + r.val = win0_8.index t 1 * 512 + r.val; rw [(atRows t).2.2.1.2.1]
  | ⟨2, _⟩ => show j.val = win0_8.index t 2 * 2048 + j.val; rw [(atRows t).2.2.1.2.2]; omega

/-- The blocks written back tile that array. -/
theorem cover8 (i : S4x2048x2048.Idx) : ∃ t : Fin cfg0.N, (cfg0.win 8).flush t = true ∧ i ∈ ((cfg0.win 8).blk t).view.set := by
  have h0 : (i 0 : Nat) < 4 := (i 0).isLt
  have h1 : (i 1 : Nat) < 2048 := (i 1).isLt
  have h2 : (i 2 : Nat) < 2048 := (i 2).isLt
  have hN : cfg0.N = 16 := N_0
  obtain ⟨t, ht⟩ : ∃ t : Fin cfg0.N, t.val = (i 0 : Nat) * 4 + (i 1 : Nat) / 512 := ⟨⟨(i 0 : Nat) * 4 + (i 1 : Nat) / 512, by rw [hN]; omega⟩, rfl⟩
  refine ⟨t, flush0_8 t, ?_⟩
  show i ∈ ((View.whole main_v5_0).slice (win0_8.rect t)).set
  rw [View.set_slice_whole, Rect.mem_set_unit]
  intro a
  match a with
  | ⟨0, _⟩ => show win0_8.index t 0 * 1 ≤ (i 0 : Nat) ∧ (i 0 : Nat) < win0_8.index t 0 * 1 + 1; rw [(atRows t).2.2.1.1]; omega
  | ⟨1, _⟩ => show win0_8.index t 1 * 512 ≤ (i 1 : Nat) ∧ (i 1 : Nat) < win0_8.index t 1 * 512 + 512; rw [(atRows t).2.2.1.2.1]; omega
  | ⟨2, _⟩ => show win0_8.index t 2 * 2048 ≤ (i 2 : Nat) ∧ (i 2 : Nat) < win0_8.index t 2 * 2048 + 2048; rw [(atRows t).2.2.1.2.2]; omega

/-- What point `t` writes back to the bf16 array is its block of the reference. -/
theorem flushed_eq9 (c : Dev nD) (t : Fin cfg0.N) :
    (dats m 0 c).flushed 9 t = (win0_9.blk t).view.read (Elt Ideal) (goal m c) := by
  rw [Value.flushed9]
  funext y
  obtain ⟨r, j, rfl⟩ : ∃ (r : Fin 512) (j : Fin 2048), y = ix3 0 r j :=
    ⟨y 1, y 2, (eq_ix3 y).trans (congrArg (ix3 · (y 1) (y 2)) (Subsingleton.elim (α := Fin 1) _ _))⟩
  refine (block_goal m c t r j).trans ?_
  show goal m c _ = goal m c ((win0_9.rect t).emb (ix3 0 r j))
  refine congrArg (goal m c) (funext fun a => Fin.ext (Eq.trans ?_ (win0_9.rect_emb_val t (ix3 0 r j) a).symm))
  match a with
  | ⟨0, _⟩ => show t.val / 4 = win0_9.index t 0 * 1 + 0; rw [(atRows t).2.2.2.1]; omega
  | ⟨1, _⟩ => show t.val % 4 * 512 + r.val = win0_9.index t 1 * 512 + r.val; rw [(atRows t).2.2.2.2.1]
  | ⟨2, _⟩ => show j.val = win0_9.index t 2 * 2048 + j.val; rw [(atRows t).2.2.2.2.2]; omega

/-- The blocks written back tile that array. -/
theorem cover9 (i : S4x2048x2048.Idx) : ∃ t : Fin cfg0.N, (cfg0.win 9).flush t = true ∧ i ∈ ((cfg0.win 9).blk t).view.set := by
  have h0 : (i 0 : Nat) < 4 := (i 0).isLt
  have h1 : (i 1 : Nat) < 2048 := (i 1).isLt
  have h2 : (i 2 : Nat) < 2048 := (i 2).isLt
  have hN : cfg0.N = 16 := N_0
  obtain ⟨t, ht⟩ : ∃ t : Fin cfg0.N, t.val = (i 0 : Nat) * 4 + (i 1 : Nat) / 512 := ⟨⟨(i 0 : Nat) * 4 + (i 1 : Nat) / 512, by rw [hN]; omega⟩, rfl⟩
  refine ⟨t, flush0_9 t, ?_⟩
  show i ∈ ((View.whole main_v5_1).slice (win0_9.rect t)).set
  rw [View.set_slice_whole, Rect.mem_set_unit]
  intro a
  match a with
  | ⟨0, _⟩ => show win0_9.index t 0 * 1 ≤ (i 0 : Nat) ∧ (i 0 : Nat) < win0_9.index t 0 * 1 + 1; rw [(atRows t).2.2.2.1]; omega
  | ⟨1, _⟩ => show win0_9.index t 1 * 512 ≤ (i 1 : Nat) ∧ (i 1 : Nat) < win0_9.index t 1 * 512 + 512; rw [(atRows t).2.2.2.2.1]; omega
  | ⟨2, _⟩ => show win0_9.index t 2 * 2048 ≤ (i 2 : Nat) ∧ (i 2 : Nat) < win0_9.index t 2 * 2048 + 2048; rw [(atRows t).2.2.2.2.2]; omega

/-- The run, read: both result arrays hold the reference's rows of the arguments, which are as launched. -/
theorem run : θ_run defs (onTc (τ := τ) (main (F := Ideal))) ⟨m, fun _ => 0, ρ⟩ fun r => ∀ c : Dev nD,
      r.2.mem ((c : Thread nD τ).loc main_v5_0) = goal m c
      ∧ r.2.mem ((c : Thread nD τ).loc main_v5_1) = goal m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans ((dats m 0 c).arrAt_eq_of_cover 8 (goal m c) (fun t _ => flushed_eq8 m c t) cover8),
      (h c).2.1.trans ((dats m 0 c).arrAt_eq_of_cover 9 (goal m c) (fun t _ => flushed_eq9 m c t) cover9), (h c).2.2⟩)
    (Value.run_blocks m ρ)

/-- The reference leaves its arguments as launched and every semaphore counter at zero. -/
theorem ref_frame : Cert.quiescent_AttnRefIdeal := fun m ρ _ =>
  (θ_run Cert.AttnRefIdeal.defs _ _).mono
    (fun r h => ⟨fun c => (h c).2.2, Idealize.ShloMosaic.sem_eq_zero_of_no_sems (by decide) r.2⟩)
    (Cert.AttnRefIdeal.Value.run m ρ)

/-- The pattern that the constant stands for is a number within half a unit of its last place, 2⁻²⁷, of one over the root
    of 128: it is that number rounded to f32. -/
theorem invRoot_rounded : Ideal.ofBits .f32 0x3DB504F3#32 = ((11863283 / 2 ^ 27 : ℝ) : EReal)
    ∧ |(11863283 / 2 ^ 27 : ℝ) - (Real.sqrt 128)⁻¹| < 1 / 2 ^ 28 := by
  refine ⟨by simp [Ideal.ofBits, Ideal.ieee, -EReal.coe_mul]; norm_num, ?_⟩
  have pos : 0 < (Real.sqrt 128)⁻¹ := inv_pos.mpr (Real.sqrt_pos.mpr (by norm_num))
  have sq : (Real.sqrt 128)⁻¹ ^ 2 = 1 / 128 := by rw [inv_pow, Real.sq_sqrt (by norm_num), one_div]
  refine abs_lt.mpr ⟨?_, ?_⟩ <;> norm_num <;> nlinarith

/-- The constant's name has that value, in the kernel's four places. -/
theorem preserved : Cert.preserves_Attn_AttnIdeal :=
  IdealRules.named_const.statement Cert.AttnIdeal.κ "inv_sqrt_d" .f32 0x3DB504F3#32 (((Real.sqrt 128)⁻¹ : ℝ) : EReal) rfl

/-- From equal arguments the kernel and the reference end with equal results. -/
theorem agrees : Cert.algebraic_AttnIdeal_AttnRefIdeal := by
  intro m ρ m' ρ' _ hagree
  have e (c : Dev nD) : val_main_v57 (F := Ideal) (m' ((c : Thread Cert.AttnRefIdeal.nD Cert.AttnRefIdeal.τ).loc Cert.AttnRefIdeal.main_arg0)) (m' ((c : Thread Cert.AttnRefIdeal.nD Cert.AttnRefIdeal.τ).loc Cert.AttnRefIdeal.main_arg1)) (m' ((c : Thread Cert.AttnRefIdeal.nD Cert.AttnRefIdeal.τ).loc Cert.AttnRefIdeal.main_arg2)) (m' ((c : Thread Cert.AttnRefIdeal.nD Cert.AttnRefIdeal.τ).loc Cert.AttnRefIdeal.main_arg3)) (m' ((c : Thread Cert.AttnRefIdeal.nD Cert.AttnRefIdeal.τ).loc Cert.AttnRefIdeal.main_arg4)) (m' ((c : Thread Cert.AttnRefIdeal.nD Cert.AttnRefIdeal.τ).loc Cert.AttnRefIdeal.main_arg5)) (m' ((c : Thread Cert.AttnRefIdeal.nD Cert.AttnRefIdeal.τ).loc Cert.AttnRefIdeal.main_arg6)) = goal m c := by
    obtain ⟨h0, h1, h2, h3, h4, h5, h6⟩ := hagree c
    rw [h0, h1, h2, h3, h4, h5, h6]
  exact ⟨fun c => goal m c, fun c => goal m c, run m ρ, (θ_run Cert.AttnRefIdeal.defs _ _).mono (fun _ h c =>
      ⟨(h c).1.trans ((val_main_v57_eq m' c).trans (e c)), (h c).2.1.trans ((val_main_v58_eq m' c).trans (e c)), (h c).2.2⟩)
    (Cert.AttnRefIdeal.Value.run (F := Ideal) m' ρ')⟩

end AttnValue
-- ==== Proof.lean ====
module

public import proofs.«01_k».proof.Defs
public import proofs.«01_k».proof.Proof.Gen.InMain
public import proofs.«01_k».proof.Proof.Gen.InMain.Skeleton
public import proofs.«01_k».proof.Proof.Gen.InMain.Launch
public import proofs.«01_k».proof.Proof.Gen.InMain.Points
public import proofs.«01_k».proof.Proof.Gen.InMain.Frame
public import proofs.«01_k».proof.Proof.Gen.InMainIdeal
public import proofs.«01_k».proof.Proof.Gen.InMainIdeal.Skeleton
public import proofs.«01_k».proof.Proof.Gen.InMainIdeal.Launch
public import proofs.«01_k».proof.Proof.Gen.InMainIdeal.Points
public import proofs.«01_k».proof.Proof.Gen.InMainIdeal.Frame
public import proofs.«01_k».proof.Proof.Gen.InMainRefIdeal
public import proofs.«01_k».proof.Proof.Gen.InGates
public import proofs.«01_k».proof.Proof.Gen.InGates.Skeleton
public import proofs.«01_k».proof.Proof.Gen.InGates.Launch
public import proofs.«01_k».proof.Proof.Gen.InGates.Points
public import proofs.«01_k».proof.Proof.Gen.InGates.Frame
public import proofs.«01_k».proof.Proof.Gen.InGatesIdeal
public import proofs.«01_k».proof.Proof.Gen.InGatesIdeal.Skeleton
public import proofs.«01_k».proof.Proof.Gen.InGatesIdeal.Launch
public import proofs.«01_k».proof.Proof.Gen.InGatesIdeal.Points
public import proofs.«01_k».proof.Proof.Gen.InGatesIdeal.Frame
public import proofs.«01_k».proof.Proof.Gen.InGatesRefIdeal
public import proofs.«01_k».proof.Proof.Gen.InDt
public import proofs.«01_k».proof.Proof.Gen.InDt.Skeleton
public import proofs.«01_k».proof.Proof.Gen.InDt.Launch
public import proofs.«01_k».proof.Proof.Gen.InDt.Points
public import proofs.«01_k».proof.Proof.Gen.InDt.Frame
public import proofs.«01_k».proof.Proof.Gen.InDtIdeal
public import proofs.«01_k».proof.Proof.Gen.InDtIdeal.Skeleton
public import proofs.«01_k».proof.Proof.Gen.InDtIdeal.Launch
public import proofs.«01_k».proof.Proof.Gen.InDtIdeal.Points
public import proofs.«01_k».proof.Proof.Gen.InDtIdeal.Frame
public import proofs.«01_k».proof.Proof.Gen.InDtRefIdeal
public import proofs.«01_k».proof.Proof.Gen.MemKv
public import proofs.«01_k».proof.Proof.Gen.MemKv.Skeleton
public import proofs.«01_k».proof.Proof.Gen.MemKv.Launch
public import proofs.«01_k».proof.Proof.Gen.MemKv.Points
public import proofs.«01_k».proof.Proof.Gen.MemKv.Frame
public import proofs.«01_k».proof.Proof.Gen.MemKvIdeal
public import proofs.«01_k».proof.Proof.Gen.MemKvIdeal.Skeleton
public import proofs.«01_k».proof.Proof.Gen.MemKvIdeal.Launch
public import proofs.«01_k».proof.Proof.Gen.MemKvIdeal.Points
public import proofs.«01_k».proof.Proof.Gen.MemKvIdeal.Frame
public import proofs.«01_k».proof.Proof.Gen.MemKvRefIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.InMainRefIdeal.Run
public import proofs.«01_k».proof.Proof.Gen.InMainRefIdeal.Read
public import proofs.«01_k».proof.Proof.Gen.InGatesRefIdeal.Run
public import proofs.«01_k».proof.Proof.Gen.InGatesRefIdeal.Read
public import proofs.«01_k».proof.Proof.Gen.InGatesIdeal.Value
public import proofs.«01_k».proof.Proof.Gen.InDtRefIdeal.Run
public import proofs.«01_k».proof.Proof.Gen.InDtRefIdeal.Read
public import proofs.«01_k».proof.Proof.Gen.InDtIdeal.Value
public import proofs.«01_k».proof.Proof.Gen.MemKvRefIdeal.Run
public import proofs.«01_k».proof.Proof.Gen.MemKvRefIdeal.Read
public import proofs.«01_k».proof.Proof.Gen.MemKvIdeal.Value
public import proofs.«01_k».proof.Proof.Gen.MergeRefIdeal.Run
public import proofs.«01_k».proof.Proof.Gen.MergeRefIdeal.Read
public import proofs.«01_k».proof.Proof.Gen.MergeIdeal.Value
public import proofs.«01_k».proof.Proof.Gen.FfnRefIdeal.Run
public import proofs.«01_k».proof.Proof.Gen.FfnRefIdeal.Read
public import proofs.«01_k».proof.Proof.Gen.FfnIdeal.Value
public import proofs.«01_k».proof.Proof.InMainValue
public import proofs.«01_k».proof.Proof.InGatesValue
public import proofs.«01_k».proof.Proof.InDtValue
public import proofs.«01_k».proof.Proof.MemKvValue
public import proofs.«01_k».proof.Proof.MergeValue
public import proofs.«01_k».proof.Proof.FfnValue
public import proofs.«01_k».proof.Proof.Gen.PoolSample
public import proofs.«01_k».proof.Proof.Gen.PoolSample.Skeleton
public import proofs.«01_k».proof.Proof.Gen.PoolSample.Launch
public import proofs.«01_k».proof.Proof.Gen.PoolSample.Points
public import proofs.«01_k».proof.Proof.Gen.PoolSample.Frame
public import proofs.«01_k».proof.Proof.Gen.PoolSampleIdeal
public import proofs.«01_k».proof.Proof.Gen.PoolSampleIdeal.Skeleton
public import proofs.«01_k».proof.Proof.Gen.PoolSampleIdeal.Launch
public import proofs.«01_k».proof.Proof.Gen.PoolSampleIdeal.Points
public import proofs.«01_k».proof.Proof.Gen.PoolSampleIdeal.Frame
public import proofs.«01_k».proof.Proof.Gen.PoolSampleIdeal.Value
public import proofs.«01_k».proof.Proof.Gen.PoolSampleRefIdeal
public import proofs.«01_k».proof.Proof.Gen.PoolSampleRefIdeal.Run
public import proofs.«01_k».proof.Proof.Gen.PoolSampleRefIdeal.Read
public import proofs.«01_k».proof.Proof.PoolSampleValue
public import proofs.«01_k».proof.Proof.Gen.ConvSample
public import proofs.«01_k».proof.Proof.Gen.ConvSample.Frame
public import proofs.«01_k».proof.Proof.Gen.ConvSampleIdeal
public import proofs.«01_k».proof.Proof.Gen.ConvSampleIdeal.Frame
public import proofs.«01_k».proof.Proof.Gen.ConvSampleIdeal.Value
public import proofs.«01_k».proof.Proof.Gen.ConvSampleRefIdeal
public import proofs.«01_k».proof.Proof.Gen.ConvSampleRefIdeal.Read
public import proofs.«01_k».proof.Proof.Gen.ConvSampleRefIdeal.Run
public import proofs.«01_k».proof.Proof.ConvSampleValue
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnIdeal.Value
public import proofs.«01_k».proof.Proof.Gen.AttnRefIdeal
public import proofs.«01_k».proof.Proof.Gen.AttnRefIdeal.Run
public import proofs.«01_k».proof.Proof.Gen.AttnRefIdeal.Read
public import proofs.«01_k».proof.Proof.AttnValue
public import Idealize.ShloMosaic.Adequacy
public import Idealize.ShloMosaic.Init

@[expose] public section

noncomputable section

namespace Cert.Proof

open Idealize.ShloMosaic Idealize.SL.Sem Cert.InMain

theorem claim : Cert.Claim := ⟨
  Cert.InMain.Gen.facts,
  Cert.InMainIdeal.Gen.facts,
  Cert.InMainRefIdeal.Gen.facts,
  Cert.InGates.Gen.facts,
  Cert.InGatesIdeal.Gen.facts,
  Cert.InGatesRefIdeal.Gen.facts,
  Cert.InDt.Gen.facts,
  Cert.InDtIdeal.Gen.facts,
  Cert.InDtRefIdeal.Gen.facts,
  Cert.MemKv.Gen.facts,
  Cert.MemKvIdeal.Gen.facts,
  Cert.MemKvRefIdeal.Gen.facts,
  Cert.Merge.Gen.facts,
  Cert.MergeIdeal.Gen.facts,
  Cert.MergeRefIdeal.Gen.facts,
  Cert.Ffn.Gen.facts,
  Cert.FfnIdeal.Gen.facts,
  Cert.FfnRefIdeal.Gen.facts,
  Cert.PoolSample.Gen.facts,
  Cert.PoolSampleIdeal.Gen.facts,
  Cert.PoolSampleRefIdeal.Gen.facts,
  Cert.ConvSample.Gen.facts,
  Cert.ConvSampleIdeal.Gen.facts,
  Cert.ConvSampleRefIdeal.Gen.facts,
  Cert.Attn.Gen.facts,
  Cert.AttnIdeal.Gen.facts,
  Cert.AttnRefIdeal.Gen.facts,
  InMainValue.printed_frame,
  fun m ρ _ => InMainFrame.frame m ρ,
  InMainValue.ref_frame,
  fun m ρ _ => Cert.InGates.Gen.frame m ρ,
  fun m ρ _ => Cert.InGatesIdeal.Gen.frame m ρ,
  InGatesValue.ref_frame,
  fun m ρ _ => Cert.InDt.Gen.frame m ρ,
  fun m ρ _ => Cert.InDtIdeal.Gen.frame m ρ,
  InDtValue.ref_frame,
  fun m ρ _ => Cert.MemKv.Gen.frame m ρ,
  fun m ρ _ => Cert.MemKvIdeal.Gen.frame m ρ,
  MemKvValue.ref_frame,
  fun m ρ _ => Cert.Merge.Gen.frame m ρ,
  fun m ρ _ => Cert.MergeIdeal.Gen.frame m ρ,
  MergeValue.ref_frame,
  fun m ρ _ => Cert.Ffn.Gen.frame m ρ,
  fun m ρ _ => Cert.FfnIdeal.Gen.frame m ρ,
  FfnValue.ref_frame,
  fun m ρ _ => Cert.PoolSample.Gen.frame m ρ,
  fun m ρ _ => Cert.PoolSampleIdeal.Gen.frame m ρ,
  PoolSampleValue.ref_frame,
  fun m ρ _ => Cert.ConvSample.Gen.frame m ρ,
  fun m ρ _ => Cert.ConvSampleIdeal.Gen.frame m ρ,
  ConvSampleValue.ref_frame,
  fun m ρ _ => Cert.Attn.Gen.frame m ρ,
  fun m ρ _ => Cert.AttnIdeal.Gen.frame m ρ,
  AttnValue.ref_frame,
  trivial,
  InMainValue.agrees,
  trivial,
  InGatesValue.agrees,
  trivial,
  InDtValue.agrees,
  trivial,
  MemKvValue.agrees,
  trivial,
  MergeValue.agrees,
  trivial,
  FfnValue.agrees,
  trivial,
  PoolSampleValue.agrees,
  trivial,
  ConvSampleValue.agrees,
  AttnValue.preserved,
  AttnValue.agrees⟩

end Cert.Proof

end
